-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v47_0)) (v1 : (c : Dev Cert.Kernel4Ideal.nD) → Buf (Elt Ideal) ((c.tc : Thread Cert.Kernel4Ideal.nD Cert.Kernel4Ideal.τ).loc Cert.Kernel4Ideal.main_v47_1)) (v2 : (c : Dev Cert.Kernel4Ideal.nD) → Buf (Elt Ideal) ((c.tc : Thread Cert.Kernel4Ideal.nD Cert.Kernel4Ideal.τ).loc Cert.Kernel4Ideal.main_v47_4)) (v3 : (c : Dev Cert.Kernel4Ideal.nD) → Buf (Elt Ideal) ((c.tc : Thread Cert.Kernel4Ideal.nD Cert.Kernel4Ideal.τ).loc Cert.Kernel4Ideal.main_v47_5)) (v4 : (c : Dev Cert.Kernel4Ideal.nD) → Buf (Elt Ideal) ((c.tc : Thread Cert.Kernel4Ideal.nD Cert.Kernel4Ideal.τ).loc Cert.Kernel4Ideal.main_v47_6)) (v5 : (c : Dev Cert.Kernel4Ideal.nD) → Buf (Elt Ideal) ((c.tc : Thread Cert.Kernel4Ideal.nD Cert.Kernel4Ideal.τ).loc Cert.Kernel4Ideal.main_v47_7)) (v6 : (c : Dev Cert.Kernel4Ideal.nD) → Buf (Elt Ideal) ((c.tc : Thread Cert.Kernel4Ideal.nD Cert.Kernel4Ideal.τ).loc Cert.Kernel4Ideal.main_v47_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_0) = v0 c
          ∧ r.2.mem ((c.tc : Thread Cert.Kernel4Ideal.nD Cert.Kernel4Ideal.τ).loc Cert.Kernel4Ideal.main_v47_1) = v1 c
          ∧ r.2.mem ((c.tc : Thread Cert.Kernel4Ideal.nD Cert.Kernel4Ideal.τ).loc Cert.Kernel4Ideal.main_v47_4) = v2 c
          ∧ r.2.mem ((c.tc : Thread Cert.Kernel4Ideal.nD Cert.Kernel4Ideal.τ).loc Cert.Kernel4Ideal.main_v47_5) = v3 c
          ∧ r.2.mem ((c.tc : Thread Cert.Kernel4Ideal.nD Cert.Kernel4Ideal.τ).loc Cert.Kernel4Ideal.main_v47_6) = v4 c
          ∧ r.2.mem ((c.tc : Thread Cert.Kernel4Ideal.nD Cert.Kernel4Ideal.τ).loc Cert.Kernel4Ideal.main_v47_7) = v5 c
          ∧ r.2.mem ((c.tc : Thread Cert.Kernel4Ideal.nD Cert.Kernel4Ideal.τ).loc Cert.Kernel4Ideal.main_v47_8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v104) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v107) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_v100) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x16384x1024 : Shape := ⟨3, ![2, 16384, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S_ : Shape := ⟨0, ![]⟩
abbrev S1x1024 : Shape := ⟨2, ![1, 1024]⟩
abbrev S2x256x1024 : Shape := ⟨3, ![2, 256, 1024]⟩
abbrev S2x280x1024 : Shape := ⟨3, ![2, 280, 1024]⟩
abbrev S2x3x8x1024 : Shape := ⟨4, ![2, 3, 8, 1024]⟩
abbrev S2x1x1024 : Shape := ⟨3, ![2, 1, 1024]⟩
abbrev S256x256 : Shape := ⟨2, ![256, 256]⟩
abbrev S8x1 : Shape := ⟨2, ![8, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S1x1x8x1024 : Shape := ⟨4, ![1, 1, 8, 1024]⟩
abbrev S1x8x1024 : Shape := ⟨3, ![1, 8, 1024]⟩
abbrev S1x256x256 : Shape := ⟨3, ![1, 256, 256]⟩
abbrev S1x1x1024 : Shape := ⟨3, ![1, 1, 1024]⟩

abbrev nBuf : Space → Nat
  | .hbm => 39
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S4x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S4x256x256, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .i1⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S1024x2048, .bf16⟩
  | .hbm, ⟨31, _⟩ => ⟨S1x1024, .f32⟩
  | .hbm, ⟨32, _⟩ => ⟨S4x256x256, .bf16⟩
  | .hbm, ⟨33, _⟩ => ⟨S1x1024, .f32⟩
  | .hbm, ⟨34, _⟩ => ⟨S4x256x256, .bf16⟩
  | .hbm, ⟨35, _⟩ => ⟨S1x1024, .f32⟩
  | .hbm, ⟨36, _⟩ => ⟨S1x1024, .f32⟩
  | .hbm, ⟨37, _⟩ => ⟨S1024x1024, .bf16⟩
  | .hbm, ⟨38, _⟩ => ⟨S2x16384x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x2048, .bf16⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S2x256x1024, .f32⟩
  | .local _ .vmem, ⟨13, _⟩ => ⟨S2x256x1024, .f32⟩
  | .local _ .vmem, ⟨14, _⟩ => ⟨S2x280x1024, .f32⟩
  | .local _ .vmem, ⟨15, _⟩ => ⟨S2x3x8x1024, .f32⟩
  | .local _ .vmem, ⟨16, _⟩ => ⟨S2x1x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x16384x1024 : Shape := ⟨3, ![2, 16384, 1024]⟩
abbrev S1024 : Shape := ⟨1, ![1024]⟩
abbrev S1024x2048 : Shape := ⟨2, ![1024, 2048]⟩
abbrev S4x1024 : Shape := ⟨2, ![4, 1024]⟩
abbrev S4x256x256 : Shape := ⟨3, ![4, 256, 256]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S2x16387x1024 : Shape := ⟨3, ![2, 16387, 1024]⟩
abbrev S1x1024 : Shape := ⟨2, ![1, 1024]⟩
abbrev S2x16384x4x256 : Shape := ⟨4, ![2, 16384, 4, 256]⟩
abbrev S4x256x2x16384 : Shape := ⟨4, ![4, 256, 2, 16384]⟩
abbrev S16384x2x1024 : Shape := ⟨3, ![16384, 2, 1024]⟩
abbrev S2x1024 : Shape := ⟨2, ![2, 1024]⟩
abbrev S1x2x1024 : Shape := ⟨3, ![1, 2, 1024]⟩

abbrev nBuf : Space → Nat
  | .hbm => 179
  | .vmem => 0
  | .smem => 0
  | _ => 0

abbrev hbmTy0_0 (i : Nat) : BufTy := match i % 128 with
  | 0 => ⟨S2x16384x1024, .f32⟩
  | 1 => ⟨S1024, .f32⟩
  | 2 => ⟨S1024x2048, .f32⟩
  | 3 => ⟨S4x1024, .f32⟩
  | 4 => ⟨S1024, .f32⟩
  | 5 => ⟨S4x256x256, .f32⟩
  | 6 => ⟨S1024, .f32⟩
  | 7 => ⟨S4x256x256, .f32⟩
  | 8 => ⟨S1024, .f32⟩
  | 9 => ⟨S1024, .f32⟩
  | 10 => ⟨S1024x1024, .f32⟩
  | 11 => ⟨S2x16384x1024, .f32⟩
  | 12 => ⟨S_, .f32⟩
  | 13 => ⟨S2x16384, .f32⟩
  | 14 => ⟨S2x16384x1, .f32⟩
  | 15 => ⟨S_, .f32⟩
  | 16 => ⟨S2x16384x1, .f32⟩
  | 17 => ⟨S2x16384x1, .f32⟩
  | 18 => ⟨S_, .f32⟩
  | 19 => ⟨S2x16384x1, .f32⟩
  | 20 => ⟨S2x16384x1, .f32⟩
  | 21 => ⟨S2x16384x1, .f32⟩
  | 22 => ⟨S2x16384x1024, .f32⟩
  | 23 => ⟨S2x16384x1024, .f32⟩
  | 24 => ⟨S1x1x1024, .f32⟩
  | 25 => ⟨S2x16384x1024, .f32⟩
  | 26 => ⟨S2x16384x1024, .f32⟩
  | 27 => ⟨S2x16384x2048, .f32⟩
  | 28 => ⟨S2x16384x1024, .f32⟩
  | 29 => ⟨S2x16384x1024, .f32⟩
  | 30 => ⟨S_, .i32⟩
  | 31 => ⟨S_, .f32⟩
  | 32 => ⟨S2x16387x1024, .f32⟩
  | 33 => ⟨S2x16384x1024, .f32⟩
  | 34 => ⟨S1x1024, .f32⟩
  | 35 => ⟨S1024, .f32⟩
  | 36 => ⟨S1x1x1024, .f32⟩
  | 37 => ⟨S2x16384x1024, .f32⟩
  | 38 => ⟨S2x16384x1024, .f32⟩
  | 39 => ⟨S1x1x1024, .f32⟩
  | 40 => ⟨S2x16384x1024, .f32⟩
  | 41 => ⟨S2x16384x1024, .f32⟩
  | 42 => ⟨S2x16384x1024, .f32⟩
  | 43 => ⟨S1x1024, .f32⟩
  | 44 => ⟨S1024, .f32⟩
  | 45 => ⟨S1x1x1024, .f32⟩
  | 46 => ⟨S2x16384x1024, .f32⟩
  | 47 => ⟨S2x16384x1024, .f32⟩
  | 48 => ⟨S2x16384x1024, .f32⟩
  | 49 => ⟨S2x16384x1024, .f32⟩
  | 50 => ⟨S1x1024, .f32⟩
  | 51 => ⟨S1024, .f32⟩
  | 52 => ⟨S1x1x1024, .f32⟩
  | 53 => ⟨S2x16384x1024, .f32⟩
  | 54 => ⟨S2x16384x1024, .f32⟩
  | 55 => ⟨S2x16384x1024, .f32⟩
  | 56 => ⟨S2x16384x1024, .f32⟩
  | 57 => ⟨S1x1024, .f32⟩
  | 58 => ⟨S1024, .f32⟩
  | 59 => ⟨S1x1x1024, .f32⟩
  | 60 => ⟨S2x16384x1024, .f32⟩
  | 61 => ⟨S2x16384x1024, .f32⟩
  | 62 => ⟨S2x16384x1024, .f32⟩
  | 63 => ⟨S2x16384x4x256, .f32⟩
  | 64 => ⟨S4x256x2x16384, .f32⟩
  | 65 => ⟨S2x16384x4x256, .f32⟩
  | 66 => ⟨S2x16384x1024, .f32⟩
  | 67 => ⟨S1x1x1024, .f32⟩
  | 68 => ⟨S2x16384x1024, .f32⟩
  | 69 => ⟨S2x16384x1024, .f32⟩
  | 70 => ⟨S2x16384x1024, .f32⟩
  | 71 => ⟨S2x16384x1024, .f32⟩
  | 72 => ⟨S_, .f32⟩
  | 73 => ⟨S2x16384x1024, .f32⟩
  | 74 => ⟨S2x16384x1024, .f32⟩
  | 75 => ⟨S_, .f32⟩
  | 76 => ⟨S2x16384x1024, .f32⟩
  | 77 => ⟨S2x16384x1024, .f32⟩
  | 78 => ⟨S4x256x2x16384, .f32⟩
  | 79 => ⟨S2x16384x4x256, .f32⟩
  | 80 => ⟨S2x16384x1024, .f32⟩
  | 81 => ⟨S1x1x1024, .f32⟩
  | 82 => ⟨S2x16384x1024, .f32⟩
  | 83 => ⟨S2x16384x1024, .f32⟩
  | 84 => ⟨S2x16384x1024, .f32⟩
  | 85 => ⟨S2x16384x1024, .f32⟩
  | 86 => ⟨S_, .f32⟩
  | 87 => ⟨S2x16384x1024, .f32⟩
  | 88 => ⟨S2x16384x1024, .f32⟩
  | 89 => ⟨S_, .f32⟩
  | 90 => ⟨S2x16384x1024, .f32⟩
  | 91 => ⟨S2x16384x1024, .f32⟩
  | 92 => ⟨S_, .f32⟩
  | 93 => ⟨S2x16384x1024, .f32⟩
  | 94 => ⟨S2x16384x1024, .f32⟩
  | 95 => ⟨S1024, .f32⟩
  | 96 => ⟨S_, .f32⟩
  | 97 => ⟨S1024, .f32⟩
  | 98 => ⟨S1024, .f32⟩
  | 99 => ⟨S1024, .f32⟩
  | 100 => ⟨S1024, .f32⟩
  | 101 => ⟨S1024, .i1⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1x1x1024, .f32⟩
  | 111 => ⟨S2x16384x1024, .f32⟩
  | 112 => ⟨S2x16384x1024, .f32⟩
  | 113 => ⟨S2x16384x1024, .f32⟩
  | 114 => ⟨S_, .f32⟩
  | 115 => ⟨S2x16384x1024, .f32⟩
  | 116 => ⟨S2x16384x1024, .f32⟩
  | 117 => ⟨S2x16384x1024, .f32⟩
  | 118 => ⟨S2x16384x1024, .f32⟩
  | 119 => ⟨S2x16384x1024, .f32⟩
  | 120 => ⟨S2x16384x1024, .f32⟩
  | 121 => ⟨S2x16384x1024, .f32⟩
  | 122 => ⟨S2x16384x1024, .f32⟩
  | 123 => ⟨S2x16384x1024, .f32⟩
  | 124 => ⟨S_, .f32⟩
  | 125 => ⟨S2x16384x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S_, .f32⟩
  | 1 => ⟨S2x16384x1024, .f32⟩
  | 2 => ⟨S2x16384x1024, .f32⟩
  | 3 => ⟨S2x16384x1024, .f32⟩
  | 4 => ⟨S_, .f32⟩
  | 5 => ⟨S2x16384x1024, .f32⟩
  | 6 => ⟨S2x16384x1024, .f32⟩
  | 7 => ⟨S_, .f32⟩
  | 8 => ⟨S2x16384x1024, .f32⟩
  | 9 => ⟨S2x16384x1024, .f32⟩
  | 10 => ⟨S2x16384x1024, .f32⟩
  | 11 => ⟨S16384x2x1024, .f32⟩
  | 12 => ⟨S16384x2x1024, .f32⟩
  | 13 => ⟨S16384x2x1024, .f32⟩
  | 14 => ⟨S_, .f32⟩
  | 15 => ⟨S2x1024, .f32⟩
  | 16 => ⟨S_, .f32⟩
  | 17 => ⟨S16384x2x1024, .f32⟩
  | 18 => ⟨S_, .i32⟩
  | 19 => ⟨S16384x2x1024, .f32⟩
  | 20 => ⟨S16384x2x1024, .f32⟩
  | 21 => ⟨S16384x2x1024, .f32⟩
  | 22 => ⟨S_, .i32⟩
  | 23 => ⟨S2x1024, .f32⟩
  | 24 => ⟨S16384x2x1024, .f32⟩
  | 25 => ⟨S_, .i32⟩
  | 26 => ⟨S_, .i1⟩
  | 27 => ⟨S_, .i32⟩
  | 28 => ⟨S_, .i32⟩
  | 29 => ⟨S1x2x1024, .f32⟩
  | 30 => ⟨S2x1024, .f32⟩
  | 31 => ⟨S_, .i32⟩
  | 32 => ⟨S_, .i32⟩
  | 33 => ⟨S1x2x1024, .f32⟩
  | 34 => ⟨S2x1024, .f32⟩
  | 35 => ⟨S_, .i32⟩
  | 36 => ⟨S_, .i32⟩
  | 37 => ⟨S1x2x1024, .f32⟩
  | 38 => ⟨S2x1024, .f32⟩
  | 39 => ⟨S2x1024, .f32⟩
  | 40 => ⟨S2x1024, .f32⟩
  | 41 => ⟨S2x1024, .f32⟩
  | 42 => ⟨S1x2x1024, .f32⟩
  | 43 => ⟨S_, .i32⟩
  | 44 => ⟨S_, .i32⟩
  | 45 => ⟨S16384x2x1024, .f32⟩
  | 46 => ⟨S_, .i32⟩
  | 47 => ⟨S_, .i32⟩
  | 48 => ⟨S2x16384x1024, .f32⟩
  | 49 => ⟨S2x16384x1024, .f32⟩
  | 50 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_2 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_7 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_8 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_9 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_10 : Ref sig .tc := ⟨.hbm, 132, rfl⟩
abbrev main_v95 : Ref sig .tc := ⟨.hbm, 133, rfl⟩
abbrev main_v96 : Ref sig .tc := ⟨.hbm, 134, rfl⟩
abbrev main_cst_11 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_12 : Ref sig .tc := ⟨.hbm, 142, rfl⟩
abbrev main_v103 : Ref sig .tc := ⟨.hbm, 143, rfl⟩
abbrev main_cst_13 : Ref sig .tc := ⟨.hbm, 144, rfl⟩
abbrev main_v104 : Ref sig .tc := ⟨.hbm, 145, rfl⟩
abbrev main_c_14 : Ref sig .tc := ⟨.hbm, 146, rfl⟩
abbrev main_v105_0 : Ref sig .tc := ⟨.hbm, 147, rfl⟩
abbrev main_v105_1 : Ref sig .tc := ⟨.hbm, 148, rfl⟩
abbrev main_v105_2 : Ref sig .tc := ⟨.hbm, 149, rfl⟩
abbrev main_v105_3 : Ref sig .tc := ⟨.hbm, 150, rfl⟩
abbrev main_v105_4 : Ref sig .tc := ⟨.hbm, 151, rfl⟩
abbrev main_v105_5 : Ref sig .tc := ⟨.hbm, 152, rfl⟩
abbrev main_while0c_c_20 : Ref sig .tc := ⟨.hbm, 153, rfl⟩
abbrev main_while0c_v109 : Ref sig .tc := ⟨.hbm, 154, rfl⟩
abbrev main_while0b_call2_c : Ref sig .tc := ⟨.hbm, 155, rfl⟩
abbrev main_while0b_call2_c_0 : Ref sig .tc := ⟨.hbm, 156, rfl⟩
abbrev main_while0b_call2_v0 : Ref sig .tc := ⟨.hbm, 157, rfl⟩
abbrev main_while0b_v109 : Ref sig .tc := ⟨.hbm, 158, rfl⟩
abbrev main_while0b_call3_c : Ref sig .tc := ⟨.hbm, 159, rfl⟩
abbrev main_while0b_call3_c_0 : Ref sig .tc := ⟨.hbm, 160, rfl⟩
abbrev main_while0b_call3_v0 : Ref sig .tc := ⟨.hbm, 161, rfl⟩
abbrev main_while0b_v110 : Ref sig .tc := ⟨.hbm, 162, rfl⟩
abbrev main_while0b_call4_c : Ref sig .tc := ⟨.hbm, 163, rfl⟩
abbrev main_while0b_call4_c_0 : Ref sig .tc := ⟨.hbm, 164, rfl⟩
abbrev main_while0b_call4_v0 : Ref sig .tc := ⟨.hbm, 165, rfl⟩
abbrev main_while0b_v111 : Ref sig .tc := ⟨.hbm, 166, rfl⟩
abbrev main_while0b_v112 : Ref sig .tc := ⟨.hbm, 167, rfl⟩
abbrev main_while0b_v113 : Ref sig .tc := ⟨.hbm, 168, rfl⟩
abbrev main_while0b_v114 : Ref sig .tc := ⟨.hbm, 169, rfl⟩
abbrev main_while0b_call5_v0 : Ref sig .tc := ⟨.hbm, 170, rfl⟩
abbrev main_while0b_call5_c : Ref sig .tc := ⟨.hbm, 171, rfl⟩
abbrev main_while0b_call5_c_0 : Ref sig .tc := ⟨.hbm, 172, rfl⟩
abbrev main_while0b_v115 : Ref sig .tc := ⟨.hbm, 173, rfl⟩
abbrev main_while0b_c_20 : Ref sig .tc := ⟨.hbm, 174, rfl⟩
abbrev main_while0b_v116 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S1x1024 : Shape := ⟨2, ![1, 1024]⟩
abbrev S1x6144 : Shape := ⟨2, ![1, 6144]⟩
abbrev S1x512x1024 : Shape := ⟨3, ![1, 512, 1024]⟩
abbrev S8x6144 : Shape := ⟨2, ![8, 6144]⟩
abbrev S2x2x520x1536 : Shape := ⟨4, ![2, 2, 520, 1536]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S8x1536 : Shape := ⟨2, ![8, 1536]⟩
abbrev S1x1x8x1536 : Shape := ⟨4, ![1, 1, 8, 1536]⟩
abbrev S1x1x512x1536 : Shape := ⟨4, ![1, 1, 512, 1536]⟩
abbrev S1x1536 : Shape := ⟨2, ![1, 1536]⟩
abbrev S1536x1024 : Shape := ⟨2, ![1536, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S3x6144, .f32⟩
  | .hbm, ⟨5, _⟩ => ⟨S6144, .f32⟩
  | .hbm, ⟨6, _⟩ => ⟨S3072x1024, .f32⟩
  | .hbm, ⟨7, _⟩ => ⟨S1x1024, .f32⟩
  | .hbm, ⟨8, _⟩ => ⟨S1024x6144, .bf16⟩
  | .hbm, ⟨9, _⟩ => ⟨S1x6144, .f32⟩
  | .hbm, ⟨10, _⟩ => ⟨S3072x1024, .bf16⟩
  | .hbm, ⟨11, _⟩ => ⟨S1x1024, .f32⟩
  | .hbm, ⟨12, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6144, .bf16⟩
  | .local _ .vmem, ⟨4, _⟩ => ⟨S3x6144, .f32⟩
  | .local _ .vmem, ⟨5, _⟩ => ⟨S1x6144, .f32⟩
  | .local _ .vmem, ⟨6, _⟩ => ⟨S3072x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x6144, .f32⟩
  | .local _ .vmem, ⟨11, _⟩ => ⟨S2x2x520x1536, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x16384x1024 : Shape := ⟨3, ![2, 16384, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S2x16386x6144 : Shape := ⟨3, ![2, 16386, 6144]⟩
abbrev S1x6144 : Shape := ⟨2, ![1, 6144]⟩
abbrev S1x1x6144 : Shape := ⟨3, ![1, 1, 6144]⟩
abbrev S2x16384x3072 : Shape := ⟨3, ![2, 16384, 3072]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S3x6144, .f32⟩
  | .hbm, ⟨5, _⟩ => ⟨S6144, .f32⟩
  | .hbm, ⟨6, _⟩ => ⟨S3072x1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S2x16384x6144, .f32⟩
  | .hbm, ⟨24, _⟩ => ⟨S_, .i32⟩
  | .hbm, ⟨25, _⟩ => ⟨S_, .f32⟩
  | .hbm, ⟨26, _⟩ => ⟨S2x16386x6144, .f32⟩
  | .hbm, ⟨27, _⟩ => ⟨S2x16384x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S2x16384x6144, .f32⟩
  | .hbm, ⟨32, _⟩ => ⟨S2x16384x6144, .f32⟩
  | .hbm, ⟨33, _⟩ => ⟨S1x1x6144, .f32⟩
  | .hbm, ⟨34, _⟩ => ⟨S2x16384x6144, .f32⟩
  | .hbm, ⟨35, _⟩ => ⟨S2x16384x6144, .f32⟩
  | .hbm, ⟨36, _⟩ => ⟨S2x16384x6144, .f32⟩
  | .hbm, ⟨37, _⟩ => ⟨S1x6144, .f32⟩
  | .hbm, ⟨38, _⟩ => ⟨S6144, .f32⟩
  | .hbm, ⟨39, _⟩ => ⟨S1x1x6144, .f32⟩
  | .hbm, ⟨40, _⟩ => ⟨S2x16384x6144, .f32⟩
  | .hbm, ⟨41, _⟩ => ⟨S2x16384x6144, .f32⟩
  | .hbm, ⟨42, _⟩ => ⟨S2x16384x6144, .f32⟩
  | .hbm, ⟨43, _⟩ => ⟨S2x16384x6144, .f32⟩
  | .hbm, ⟨44, _⟩ => ⟨S1x6144, .f32⟩
  | .hbm, ⟨45, _⟩ => ⟨S6144, .f32⟩
  | .hbm, ⟨46, _⟩ => ⟨S1x1x6144, .f32⟩
  | .hbm, ⟨47, _⟩ => ⟨S2x16384x6144, .f32⟩
  | .hbm, ⟨48, _⟩ => ⟨S2x16384x6144, .f32⟩
  | .hbm, ⟨49, _⟩ => ⟨S2x16384x6144, .f32⟩
  | .hbm, ⟨50, _⟩ => ⟨S2x16384x3072, .f32⟩
  | .hbm, ⟨51, _⟩ => ⟨S2x16384x3072, .f32⟩
  | .hbm, ⟨52, _⟩ => ⟨S2x16384x3072, .f32⟩
  | .hbm, ⟨53, _⟩ => ⟨S2x16384x3072, .f32⟩
  | .hbm, ⟨54, _⟩ => ⟨S_, .f32⟩
  | .hbm, ⟨55, _⟩ => ⟨S2x16384x3072, .f32⟩
  | .hbm, ⟨56, _⟩ => ⟨S2x16384x3072, .f32⟩
  | .hbm, ⟨57, _⟩ => ⟨S2x16384x3072, .f32⟩
  | .hbm, ⟨58, _⟩ => ⟨S_, .f32⟩
  | .hbm, ⟨59, _⟩ => ⟨S2x16384x3072, .f32⟩
  | .hbm, ⟨60, _⟩ => ⟨S2x16384x3072, .f32⟩
  | .hbm, ⟨61, _⟩ => ⟨S2x16384x3072, .f32⟩
  | .hbm, ⟨62, _⟩ => ⟨S_, .f32⟩
  | .hbm, ⟨63, _⟩ => ⟨S2x16384x3072, .f32⟩
  | .hbm, ⟨64, _⟩ => ⟨S2x16384x3072, .f32⟩
  | .hbm, ⟨65, _⟩ => ⟨S_, .f32⟩
  | .hbm, ⟨66, _⟩ => ⟨S2x16384x3072, .f32⟩
  | .hbm, ⟨67, _⟩ => ⟨S2x16384x3072, .f32⟩
  | .hbm, ⟨68, _⟩ => ⟨S2x16384x3072, .f32⟩
  | .hbm, ⟨69, _⟩ => ⟨S2x16384x3072, .f32⟩
  | .hbm, ⟨70, _⟩ => ⟨S2x16384x1024, .f32⟩
  | .hbm, ⟨71, _⟩ => ⟨S2x16384x1024, .f32⟩
  | .hbm, ⟨72, _⟩ => ⟨S2x16384x1024, .f32⟩
  | .hbm, ⟨73, _⟩ => ⟨S_, .f32⟩
  | .hbm, ⟨74, _⟩ => ⟨S2x16384, .f32⟩
  | .hbm, ⟨75, _⟩ => ⟨S2x16384x1, .f32⟩
  | .hbm, ⟨76, _⟩ => ⟨S_, .f32⟩
  | .hbm, ⟨77, _⟩ => ⟨S2x16384x1, .f32⟩
  | .hbm, ⟨78, _⟩ => ⟨S2x16384x1, .f32⟩
  | .hbm, ⟨79, _⟩ => ⟨S_, .f32⟩
  | .hbm, ⟨80, _⟩ => ⟨S2x16384x1, .f32⟩
  | .hbm, ⟨81, _⟩ => ⟨S2x16384x1, .f32⟩
  | .hbm, ⟨82, _⟩ => ⟨S2x16384x1, .f32⟩
  | .hbm, ⟨83, _⟩ => ⟨S2x16384x1024, .f32⟩
  | .hbm, ⟨84, _⟩ => ⟨S2x16384x1024, .f32⟩
  | .hbm, ⟨85, _⟩ => ⟨S1x1x1024, .f32⟩
  | .hbm, ⟨86, _⟩ => ⟨S2x16384x1024, .f32⟩
  | .hbm, ⟨87, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S512x1024 : Shape := ⟨2, ![512, 1024]⟩
abbrev S1x1024 : Shape := ⟨2, ![1, 1024]⟩
abbrev S1x6144 : Shape := ⟨2, ![1, 6144]⟩
abbrev S1x512x1024 : Shape := ⟨3, ![1, 512, 1024]⟩
abbrev S1x512x512 : Shape := ⟨3, ![1, 512, 512]⟩
abbrev S8x6144 : Shape := ⟨2, ![8, 6144]⟩
abbrev S2x2x520x1536 : Shape := ⟨4, ![2, 2, 520, 1536]⟩
abbrev S512x512 : Shape := ⟨2, ![512, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S8x1536 : Shape := ⟨2, ![8, 1536]⟩
abbrev S1x1x8x1536 : Shape := ⟨4, ![1, 1, 8, 1536]⟩
abbrev S1x1x512x1536 : Shape := ⟨4, ![1, 1, 512, 1536]⟩
abbrev S1x1536 : Shape := ⟨2, ![1, 1536]⟩
abbrev S1536x1024 : Shape := ⟨2, ![1536, 1024]⟩

abbrev nBuf : Space → Nat
  | .hbm => 19
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S3x6144, .f32⟩
  | .hbm, ⟨8, _⟩ => ⟨S6144, .f32⟩
  | .hbm, ⟨9, _⟩ => ⟨S3072x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1x1024, .f32⟩
  | .hbm, ⟨14, _⟩ => ⟨S1024x6144, .bf16⟩
  | .hbm, ⟨15, _⟩ => ⟨S1x6144, .f32⟩
  | .hbm, ⟨16, _⟩ => ⟨S3072x1024, .bf16⟩
  | .hbm, ⟨17, _⟩ => ⟨S1x1024, .f32⟩
  | .hbm, ⟨18, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x6144, .bf16⟩
  | .local _ .vmem, ⟨10, _⟩ => ⟨S3x6144, .f32⟩
  | .local _ .vmem, ⟨11, _⟩ => ⟨S1x6144, .f32⟩
  | .local _ .vmem, ⟨12, _⟩ => ⟨S3072x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S8x6144, .f32⟩
  | .local _ .vmem, ⟨17, _⟩ => ⟨S2x2x520x1536, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S2x16386x6144 : Shape := ⟨3, ![2, 16386, 6144]⟩
abbrev S1x6144 : Shape := ⟨2, ![1, 6144]⟩
abbrev S1x1x6144 : Shape := ⟨3, ![1, 1, 6144]⟩
abbrev S2x16384x3072 : Shape := ⟨3, ![2, 16384, 3072]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S3x6144, .f32⟩
  | .hbm, ⟨8, _⟩ => ⟨S6144, .f32⟩
  | .hbm, ⟨9, _⟩ => ⟨S3072x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S2x16384x6144, .f32⟩
  | .hbm, ⟨30, _⟩ => ⟨S_, .i32⟩
  | .hbm, ⟨31, _⟩ => ⟨S_, .f32⟩
  | .hbm, ⟨32, _⟩ => ⟨S2x16386x6144, .f32⟩
  | .hbm, ⟨33, _⟩ => ⟨S2x16384x6144, .f32⟩
  | .hbm, ⟨34, _⟩ => ⟨S1x6144, .f32⟩
  | .hbm, ⟨35, _⟩ => ⟨S6144, .f32⟩
  | .hbm, ⟨36, _⟩ => ⟨S1x1x6144, .f32⟩
  | .hbm, ⟨37, _⟩ => ⟨S2x16384x6144, .f32⟩
  | .hbm, ⟨38, _⟩ => ⟨S2x16384x6144, .f32⟩
  | .hbm, ⟨39, _⟩ => ⟨S1x1x6144, .f32⟩
  | .hbm, ⟨40, _⟩ => ⟨S2x16384x6144, .f32⟩
  | .hbm, ⟨41, _⟩ => ⟨S2x16384x6144, .f32⟩
  | .hbm, ⟨42, _⟩ => ⟨S2x16384x6144, .f32⟩
  | .hbm, ⟨43, _⟩ => ⟨S1x6144, .f32⟩
  | .hbm, ⟨44, _⟩ => ⟨S6144, .f32⟩
  | .hbm, ⟨45, _⟩ => ⟨S1x1x6144, .f32⟩
  | .hbm, ⟨46, _⟩ => ⟨S2x16384x6144, .f32⟩
  | .hbm, ⟨47, _⟩ => ⟨S2x16384x6144, .f32⟩
  | .hbm, ⟨48, _⟩ => ⟨S2x16384x6144, .f32⟩
  | .hbm, ⟨49, _⟩ => ⟨S2x16384x6144, .f32⟩
  | .hbm, ⟨50, _⟩ => ⟨S1x6144, .f32⟩
  | .hbm, ⟨51, _⟩ => ⟨S6144, .f32⟩
  | .hbm, ⟨52, _⟩ => ⟨S1x1x6144, .f32⟩
  | .hbm, ⟨53, _⟩ => ⟨S2x16384x6144, .f32⟩
  | .hbm, ⟨54, _⟩ => ⟨S2x16384x6144, .f32⟩
  | .hbm, ⟨55, _⟩ => ⟨S2x16384x6144, .f32⟩
  | .hbm, ⟨56, _⟩ => ⟨S2x16384x3072, .f32⟩
  | .hbm, ⟨57, _⟩ => ⟨S2x16384x3072, .f32⟩
  | .hbm, ⟨58, _⟩ => ⟨S2x16384x3072, .f32⟩
  | .hbm, ⟨59, _⟩ => ⟨S2x16384x3072, .f32⟩
  | .hbm, ⟨60, _⟩ => ⟨S_, .f32⟩
  | .hbm, ⟨61, _⟩ => ⟨S2x16384x3072, .f32⟩
  | .hbm, ⟨62, _⟩ => ⟨S2x16384x3072, .f32⟩
  | .hbm, ⟨63, _⟩ => ⟨S2x16384x3072, .f32⟩
  | .hbm, ⟨64, _⟩ => ⟨S_, .f32⟩
  | .hbm, ⟨65, _⟩ => ⟨S2x16384x3072, .f32⟩
  | .hbm, ⟨66, _⟩ => ⟨S2x16384x3072, .f32⟩
  | .hbm, ⟨67, _⟩ => ⟨S2x16384x3072, .f32⟩
  | .hbm, ⟨68, _⟩ => ⟨S_, .f32⟩
  | .hbm, ⟨69, _⟩ => ⟨S2x16384x3072, .f32⟩
  | .hbm, ⟨70, _⟩ => ⟨S2x16384x3072, .f32⟩
  | .hbm, ⟨71, _⟩ => ⟨S_, .f32⟩
  | .hbm, ⟨72, _⟩ => ⟨S2x16384x3072, .f32⟩
  | .hbm, ⟨73, _⟩ => ⟨S2x16384x3072, .f32⟩
  | .hbm, ⟨74, _⟩ => ⟨S2x16384x3072, .f32⟩
  | .hbm, ⟨75, _⟩ => ⟨S2x16384x3072, .f32⟩
  | .hbm, ⟨76, _⟩ => ⟨S2x16384x1024, .f32⟩
  | .hbm, ⟨77, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x512 : Shape := ⟨2, ![1024, 512]⟩
abbrev S1024x256 : Shape := ⟨2, ![1024, 256]⟩
abbrev S1024x16 : Shape := ⟨2, ![1024, 16]⟩
abbrev S_ : Shape := ⟨0, ![]⟩
abbrev S1024x128 : Shape := ⟨2, ![1024, 128]⟩
abbrev S1024x2176 : Shape := ⟨2, ![1024, 2176]⟩
abbrev S1024x1024 : Shape := ⟨2, ![1024, 1024]⟩
abbrev S128x256 : Shape := ⟨2, ![128, 256]⟩
abbrev S32 : Shape := ⟨1, ![32]⟩
abbrev S16384 : Shape := ⟨1, ![16384]⟩
abbrev S128 : Shape := ⟨1, ![128]⟩
abbrev S1x1024 : Shape := ⟨2, ![1, 1024]⟩
abbrev S1x256 : Shape := ⟨2, ![1, 256]⟩
abbrev S16384x1 : Shape := ⟨2, ![16384, 1]⟩
abbrev S1x32 : Shape := ⟨2, ![1, 32]⟩
abbrev S16384x32 : Shape := ⟨2, ![16384, 32]⟩
abbrev S1x128 : Shape := ⟨2, ![1, 128]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S2x512x16384 : Shape := ⟨3, ![2, 512, 16384]⟩
abbrev S2x16384x512 : Shape := ⟨3, ![2, 16384, 512]⟩
abbrev S2x8x64x80x256 : Shape := ⟨5, ![2, 8, 64, 80, 256]⟩
abbrev S2x8x64x16384 : Shape := ⟨4, ![2, 8, 64, 16384]⟩
abbrev S2x16384x256 : Shape := ⟨3, ![2, 16384, 256]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x8x4x80x256 : Shape := ⟨5, ![1, 8, 4, 80, 256]⟩
abbrev S1x8x64x1024 : Shape := ⟨4, ![1, 8, 64, 1024]⟩
abbrev S1x1024x256 : Shape := ⟨3, ![1, 1024, 256]⟩
abbrev S64x512 : Shape := ⟨2, ![64, 512]⟩
abbrev S1024x1 : Shape := ⟨2, ![1024, 1]⟩
abbrev S512x1024 : Shape := ⟨2, ![512, 1024]⟩
abbrev S128x1024 : Shape := ⟨2, ![128, 1024]⟩
abbrev S4x256x512 : Shape := ⟨3, ![4, 256, 512]⟩
abbrev S4x512 : Shape := ⟨2, ![4, 512]⟩
abbrev S1x512 : Shape := ⟨2, ![1, 512]⟩
abbrev S128x1 : Shape := ⟨2, ![128, 1]⟩
abbrev S64x2048 : Shape := ⟨2, ![64, 2048]⟩
abbrev S1x2048 : Shape := ⟨2, ![1, 2048]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S128x2048 : Shape := ⟨2, ![128, 2048]⟩
abbrev S64x128 : Shape := ⟨2, ![64, 128]⟩
abbrev S64x384 : Shape := ⟨2, ![64, 384]⟩
abbrev S384x2048 : Shape := ⟨2, ![384, 2048]⟩
abbrev S2048 : Shape := ⟨1, ![2048]⟩
abbrev S64x1024 : Shape := ⟨2, ![64, 1024]⟩
abbrev S1x1x64x1024 : Shape := ⟨4, ![1, 1, 64, 1024]⟩

abbrev nBuf : Space → Nat
  | .hbm => 97
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x16, .f32⟩
  | .hbm, ⟨12, _⟩ => ⟨S1024x512, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x2176, .f32⟩
  | .hbm, ⟨17, _⟩ => ⟨S1024x2176, .bf16⟩
  | .hbm, ⟨18, _⟩ => ⟨S1024x1024, .f32⟩
  | .hbm, ⟨19, _⟩ => ⟨S1024x1024, .f32⟩
  | .hbm, ⟨20, _⟩ => ⟨S1024x1024, .bf16⟩
  | .hbm, ⟨21, _⟩ => ⟨S_, .i32⟩
  | .hbm, ⟨22, _⟩ => ⟨S_, .f32⟩
  | .hbm, ⟨23, _⟩ => ⟨S128x256, .f32⟩
  | .hbm, ⟨24, _⟩ => ⟨S128x256, .bf16⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S16384, .i32⟩
  | .hbm, ⟨34, _⟩ => ⟨S16384, .f32⟩
  | .hbm, ⟨35, _⟩ => ⟨S128, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S_, .i1⟩
  | .hbm, ⟨52, _⟩ => ⟨S128, .i1⟩
  | .hbm, ⟨53, _⟩ => ⟨S128, .i1⟩
  | .hbm, ⟨54, _⟩ => ⟨S128, .i1⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S1x1024, .f32⟩
  | .hbm, ⟨62, _⟩ => ⟨S1x256, .f32⟩
  | .hbm, ⟨63, _⟩ => ⟨S16384x1, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S16384x32, .f32⟩
  | .hbm, ⟨68, _⟩ => ⟨S1x128, .i1⟩
  | .hbm, ⟨69, _⟩ => ⟨S16384x32, .f32⟩
  | .hbm, ⟨70, _⟩ => ⟨S1x16384x1x32, .f32⟩
  | .hbm, ⟨71, _⟩ => ⟨S1x16384x4x32, .f32⟩
  | .hbm, ⟨72, _⟩ => ⟨S16384x128, .f32⟩
  | .hbm, ⟨73, _⟩ => ⟨S16384x32, .f32⟩
  | .hbm, ⟨74, _⟩ => ⟨S1x16384x1x32, .f32⟩
  | .hbm, ⟨75, _⟩ => ⟨S1x16384x4x32, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S_, .f32⟩
  | .hbm, ⟨80, _⟩ => ⟨S16384x128, .i1⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S_, .f32⟩
  | .hbm, ⟨85, _⟩ => ⟨S16384x128, .i1⟩
  | .hbm, ⟨86, _⟩ => ⟨S16384x128, .f32⟩
  | .hbm, ⟨87, _⟩ => ⟨S16384x128, .f32⟩
  | .hbm, ⟨88, _⟩ => ⟨S2x512x16384, .bf16⟩
  | .hbm, ⟨89, _⟩ => ⟨S2x16384x512, .bf16⟩
  | .hbm, ⟨90, _⟩ => ⟨S2x8x64x80x256, .bf16⟩
  | .hbm, ⟨91, _⟩ => ⟨S2x8x64x16384, .bf16⟩
  | .hbm, ⟨92, _⟩ => ⟨S2x16384x256, .f32⟩
  | .hbm, ⟨93, _⟩ => ⟨S2x16384x256, .f32⟩
  | .hbm, ⟨94, _⟩ => ⟨S2x16384x512, .f32⟩
  | .hbm, ⟨95, _⟩ => ⟨S2x16384x256, .f32⟩
  | .hbm, ⟨96, _⟩ => ⟨S2x16384x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x1024, .bf16⟩
  | .local _ .vmem, ⟨5, _⟩ => ⟨S128x256, .bf16⟩
  | .local _ .vmem, ⟨6, _⟩ => ⟨S1x256, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x8x4x80x256, .bf16⟩
  | .local _ .vmem, ⟨18, _⟩ => ⟨S1x8x4x80x256, .bf16⟩
  | .local _ .vmem, ⟨19, _⟩ => ⟨S1x8x64x1024, .bf16⟩
  | .local _ .vmem, ⟨20, _⟩ => ⟨S1x8x64x1024, .bf16⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S1x1024x256, .f32⟩
  | .local _ .vmem, ⟨25, _⟩ => ⟨S1x1024x512, .f32⟩
  | .local _ .vmem, ⟨26, _⟩ => ⟨S1x1024x512, .f32⟩
  | .local _ .vmem, ⟨27, _⟩ => ⟨S1x1024x256, .f32⟩
  | .local _ .vmem, ⟨28, _⟩ => ⟨S1x1024x256, .f32⟩
  | .local _ .vmem, ⟨29, _⟩ => ⟨S1x1024x512, .f32⟩
  | .local _ .vmem, ⟨30, _⟩ => ⟨S1x1024x512, .f32⟩
  | .local _ .vmem, ⟨31, _⟩ => ⟨S64x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v25 : Ref sig .tc := ⟨.hbm, 57, rfl⟩
abbrev main_c_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_4 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v45 : Ref sig .tc := ⟨.hbm, 82, rfl⟩
abbrev main_cst_5 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v46 : Ref sig .tc := ⟨.hbm, 87, rfl⟩
abbrev main_v47_0 : Ref sig .tc := ⟨.hbm, 88, rfl⟩
abbrev main_v47_1 : Ref sig .tc := ⟨.hbm, 89, rfl⟩
abbrev main_v47_2 : Ref sig .tc := ⟨.hbm, 90, rfl⟩
abbrev main_v47_3 : Ref sig .tc := ⟨.hbm, 91, rfl⟩
abbrev main_v47_4 : Ref sig .tc := ⟨.hbm, 92, rfl⟩
abbrev main_v47_5 : Ref sig .tc := ⟨.hbm, 93, rfl⟩
abbrev main_v47_6 : Ref sig .tc := ⟨.hbm, 94, rfl⟩
abbrev main_v47_7 : Ref sig .tc := ⟨.hbm, 95, rfl⟩
abbrev main_v47_8 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![2, 16], ![false, false]⟩

def k0_off1 (i : grid0.Coords) (c0_i32_50 : BitVec 32) : Fin 2 → Nat :=
  let arg1 : BitVec 32 := BitVec.ofNat 32 (i 1).val
  let c4_i32 : BitVec 32 := 4#32
  let v124 : BitVec 32 := Scalar.muli arg1 c4_i32
  let v126 : BitVec 32 := Scalar.addi v124 c0_i32_50
  let v127 : Index := Scalar.indexCast v126
  let c0_51 : Index := 0#32
  ![v127.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S2x16384x1024 : Shape := ⟨3, ![2, 16384, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3088 : Shape := ⟨3, ![2, 16384, 3088]⟩
abbrev S2x16384x512 : Shape := ⟨3, ![2, 16384, 512]⟩
abbrev S2x16384x256 : Shape := ⟨3, ![2, 16384, 256]⟩
abbrev S2x16384x16 : Shape := ⟨3, ![2, 16384, 16]⟩
abbrev S2x16384x8x64 : Shape := ⟨4, ![2, 16384, 8, 64]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S2x16384x8x32 : Shape := ⟨4, ![2, 16384, 8, 32]⟩
abbrev S1x16384x1x32 : Shape := ⟨4, ![1, 16384, 1, 32]⟩
abbrev S1x1x256 : Shape := ⟨3, ![1, 1, 256]⟩
abbrev S2x512x16384 : Shape := ⟨3, ![2, 512, 16384]⟩

abbrev nBuf : Space → Nat
  | .hbm => 138
  | .vmem => 0
  | .smem => 0
  | _ => 0

abbrev hbmTy0_0 (i : Nat) : BufTy := match i % 128 with
  | 0 => ⟨S2x16384x1024, .f32⟩
  | 1 => ⟨S1024, .f32⟩
  | 2 => ⟨S1024x3088, .f32⟩
  | 3 => ⟨S16x256, .f32⟩
  | 4 => ⟨S256, .f32⟩
  | 5 => ⟨S2x16384x1024, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S_, .f32⟩
  | 13 => ⟨S2x16384x1, .f32⟩
  | 14 => ⟨S2x16384x1, .f32⟩
  | 15 => ⟨S2x16384x1, .f32⟩
  | 16 => ⟨S2x16384x1024, .f32⟩
  | 17 => ⟨S2x16384x1024, .f32⟩
  | 18 => ⟨S1x1x1024, .f32⟩
  | 19 => ⟨S2x16384x1024, .f32⟩
  | 20 => ⟨S2x16384x1024, .f32⟩
  | 21 => ⟨S2x16384x3088, .f32⟩
  | 22 => ⟨S2x16384x512, .f32⟩
  | 23 => ⟨S2x16384x512, .f32⟩
  | 24 => ⟨S2x16384x512, .f32⟩
  | 25 => ⟨S2x16384x256, .f32⟩
  | 26 => ⟨S2x16384x256, .f32⟩
  | 27 => ⟨S2x16384x512, .f32⟩
  | 28 => ⟨S2x16384x16, .f32⟩
  | 29 => ⟨S2x16384x512, .f32⟩
  | 30 => ⟨S2x16384x8x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S16384, .i32⟩
  | 40 => ⟨S16384, .f32⟩
  | 41 => ⟨S16384x1, .f32⟩
  | 42 => ⟨S1x32, .f32⟩
  | 43 => ⟨S16384x32, .f32⟩
  | 44 => ⟨S16384x32, .f32⟩
  | 45 => ⟨S16384x32, .f32⟩
  | 46 => ⟨S16384x32, .f32⟩
  | 47 => ⟨S16384x1x32, .f32⟩
  | 48 => ⟨S16384x32, .f32⟩
  | 49 => ⟨S16384x1x32, .f32⟩
  | 50 => ⟨S2x16384x8x32, .f32⟩
  | 51 => ⟨S2x16384x8x32, .f32⟩
  | 52 => ⟨S1x16384x1x32, .f32⟩
  | 53 => ⟨S2x16384x8x32, .f32⟩
  | 54 => ⟨S2x16384x8x32, .f32⟩
  | 55 => ⟨S1x16384x1x32, .f32⟩
  | 56 => ⟨S2x16384x8x32, .f32⟩
  | 57 => ⟨S2x16384x8x32, .f32⟩
  | 58 => ⟨S2x16384x8x32, .f32⟩
  | 59 => ⟨S1x16384x1x32, .f32⟩
  | 60 => ⟨S2x16384x8x32, .f32⟩
  | 61 => ⟨S2x16384x8x32, .f32⟩
  | 62 => ⟨S1x16384x1x32, .f32⟩
  | 63 => ⟨S2x16384x8x32, .f32⟩
  | 64 => ⟨S2x16384x8x32, .f32⟩
  | 65 => ⟨S2x16384x8x32, .f32⟩
  | 66 => ⟨S2x16384x8x64, .f32⟩
  | 67 => ⟨S2x16384x512, .f32⟩
  | 68 => ⟨S2x16384x8x64, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S16384, .i32⟩
  | 78 => ⟨S16384, .f32⟩
  | 79 => ⟨S16384x1, .f32⟩
  | 80 => ⟨S1x32, .f32⟩
  | 81 => ⟨S16384x32, .f32⟩
  | 82 => ⟨S16384x32, .f32⟩
  | 83 => ⟨S16384x32, .f32⟩
  | 84 => ⟨S16384x32, .f32⟩
  | 85 => ⟨S16384x1x32, .f32⟩
  | 86 => ⟨S16384x32, .f32⟩
  | 87 => ⟨S16384x1x32, .f32⟩
  | 88 => ⟨S2x16384x8x32, .f32⟩
  | 89 => ⟨S2x16384x8x32, .f32⟩
  | 90 => ⟨S1x16384x1x32, .f32⟩
  | 91 => ⟨S2x16384x8x32, .f32⟩
  | 92 => ⟨S2x16384x8x32, .f32⟩
  | 93 => ⟨S1x16384x1x32, .f32⟩
  | 94 => ⟨S2x16384x8x32, .f32⟩
  | 95 => ⟨S2x16384x8x32, .f32⟩
  | 96 => ⟨S2x16384x8x32, .f32⟩
  | 97 => ⟨S1x16384x1x32, .f32⟩
  | 98 => ⟨S2x16384x8x32, .f32⟩
  | 99 => ⟨S2x16384x8x32, .f32⟩
  | 100 => ⟨S1x16384x1x32, .f32⟩
  | 101 => ⟨S2x16384x8x32, .f32⟩
  | 102 => ⟨S2x16384x8x32, .f32⟩
  | 103 => ⟨S2x16384x8x32, .f32⟩
  | 104 => ⟨S2x16384x8x64, .f32⟩
  | 105 => ⟨S2x16384x512, .f32⟩
  | 106 => ⟨S2x16384x256, .f32⟩
  | 107 => ⟨S1x1x256, .f32⟩
  | 108 => ⟨S2x16384x256, .f32⟩
  | 109 => ⟨S2x16384x256, .f32⟩
  | 110 => ⟨S2x16384x256, .f32⟩
  | 111 => ⟨S_, .f32⟩
  | 112 => ⟨S2x16384x256, .f32⟩
  | 113 => ⟨S2x16384x256, .f32⟩
  | 114 => ⟨S2x16384x256, .f32⟩
  | 115 => ⟨S2x16384x256, .f32⟩
  | 116 => ⟨S2x16384x256, .i1⟩
  | 117 => ⟨S2x16384x256, .f32⟩
  | 118 => ⟨S2x16384x256, .f32⟩
  | 119 => ⟨S2x16384x256, .f32⟩
  | 120 => ⟨S2x16384x256, .f32⟩
  | 121 => ⟨S2x16384x256, .f32⟩
  | 122 => ⟨S2x16384x256, .f32⟩
  | 123 => ⟨S2x16384x256, .f32⟩
  | 124 => ⟨S2x16384x256, .f32⟩
  | 125 => ⟨S2x16384x256, .f32⟩
  | 126 => ⟨S_, .f32⟩
  | 127 => ⟨S2x16384x256, .f32⟩
  | _ => ⟨S2x16384x1024, .f32⟩

abbrev hbmTy0_1 (i : Nat) : BufTy := match i % 128 with
  | 0 => ⟨S2x16384x256, .f32⟩
  | 1 => ⟨S_, .f32⟩
  | 2 => ⟨S2x16384x512, .f32⟩
  | 3 => ⟨S2x16384x512, .f32⟩
  | 4 => ⟨S2x512x16384, .f32⟩
  | 5 => ⟨S2x512x16384, .bf16⟩
  | 6 => ⟨S2x16384x512, .bf16⟩
  | 7 => ⟨S_, .f32⟩
  | 8 => ⟨S2x16384x256, .f32⟩
  | 9 => ⟨S2x16384x256, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_call0_v0 : Ref sig .tc := ⟨.hbm, 110, rfl⟩
abbrev main_call0_call0_cst : Ref sig .tc := ⟨.hbm, 111, rfl⟩
abbrev main_call0_call0_v0 : Ref sig .tc := ⟨.hbm, 112, rfl⟩
abbrev main_call0_call0_v1 : Ref sig .tc := ⟨.hbm, 113, rfl⟩
abbrev main_call0_call0_v2 : Ref sig .tc := ⟨.hbm, 114, rfl⟩
abbrev main_call0_call0_v3 : Ref sig .tc := ⟨.hbm, 115, rfl⟩
abbrev main_call0_call0_v4 : Ref sig .tc := ⟨.hbm, 116, rfl⟩
abbrev main_call0_call0_v5 : Ref sig .tc := ⟨.hbm, 117, rfl⟩
abbrev main_call0_call0_v6 : Ref sig .tc := ⟨.hbm, 118, rfl⟩
abbrev main_call0_call0_v7 : Ref sig .tc := ⟨.hbm, 119, rfl⟩
abbrev main_call0_call0_v8 : Ref sig .tc := ⟨.hbm, 120, rfl⟩
abbrev main_call0_call0_v9 : Ref sig .tc := ⟨.hbm, 121, rfl⟩
abbrev main_call0_call0_v10 : Ref sig .tc := ⟨.hbm, 122, rfl⟩
abbrev main_call0_call0_v11 : Ref sig .tc := ⟨.hbm, 123, rfl⟩
abbrev main_call0_v1 : Ref sig .tc := ⟨.hbm, 124, rfl⟩
abbrev main_v98 : Ref sig .tc := ⟨.hbm, 125, rfl⟩
abbrev main_cst_6 : Ref sig .tc := ⟨.hbm, 126, rfl⟩
abbrev main_v99 : Ref sig .tc := ⟨.hbm, 127, rfl⟩
abbrev main_v100 : Ref sig .tc := ⟨.hbm, 128, rfl⟩
abbrev main_cst_7 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_8 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== Proof.Lru.Block.lean ====
/- What one grid point of the recurrent block computes, one sequence at a time: the kernel's operations as functions of the
   blocks, without the unrolling over the segments' steps. -/
module

public import proofs.«01_k».proof.Proof.Gen.KernelIdeal.Skeleton
public import Idealize.ShloMosaic.Lib.Pointwise

@[expose] public section

set_option maxRecDepth 16384

noncomputable section

namespace Cert.Lru

open Idealize.ShloMosaic Idealize.ShloMosaic.TcCoe Idealize.SL.Sem Cert.KernelIdeal Cert.KernelIdeal.Gen

variable {F : FTy → Type} [FloatOps F]

/-- The weights as a grid point loads them. -/
structure Weights (F : FTy → Type) [FloatOps F] where
  g : Vec F S1x1024 .f32
  win0 : Vec F S1024x1024 .bf16
  win1 : Vec F S1024x1024 .bf16
  cb : Vec F S1x1024 .f32
  cw : Fin 4 → Vec F S1x1024 .f32
  wa : Fin 4 → Vec F S1x256x256 .bf16
  ba : Vec F S1x1024 .f32
  wx : Fin 4 → Vec F S1x256x256 .bf16
  bx : Vec F S1x1024 .f32
  lam : Vec F S1x1024 .f32
  wout : Vec F S1024x1024 .bf16

/-- The 0/1 matrix that brings step `s * 32 + j` to row `8 * j + s`. -/
def perm : FVec F S256x256 .bf16 :=
  k0_pay10 (iota .tc S256x256 32 [1] iota_S256x256_d1_w32) k0_pay5 k0_pay6 k0_pay7 k0_pay8 k0_pay9

/-- The 0/1 matrix that brings row `8 * j + s` back to step `s * 32 + j`. -/
def unperm : FVec F S256x256 .bf16 :=
  k0_pay15 (iota .tc S256x256 32 [0] iota_S256x256_d0_w32) (k0_pay11 (iota .tc S256x256 32 [1] iota_S256x256_d1_w32))
    (k0_pay12 (iota .tc S256x256 32 [1] iota_S256x256_d1_w32)) (k0_pay13 (iota .tc S256x256 32 [1] iota_S256x256_d1_w32))
    (k0_pay14 (iota .tc S256x256 32 [1] iota_S256x256_d1_w32)) 0#32

variable (w : Weights F)

/-- The normalised rows in the permuted order. -/
def normed (x : Vec F S1x256x1024 .f32) : FVec F S256x1024 .bf16 := k0_pay19 perm x w.g
/-- The gate branch before its activation. -/
def gate (x : Vec F S1x256x1024 .f32) : FVec F S256x1024 .f32 := k0_pay23 (normed w x) w.win0
/-- The recurrent branch before the convolution. -/
def raw (x : Vec F S1x256x1024 .f32) : FVec F S256x1024 .f32 := k0_pay25 (normed w x) w.win1

/-- The convolution, of its four shifted windows. -/
def conv (e : Fin 4 → Vec F S1x256x1024 .f32) : FVec F S256x1024 .f32 :=
  k0_pay37 w.cb (e 0) (w.cw 0) (e 1) (w.cw 1) (e 2) (w.cw 2) (e 3) (w.cw 3)

/-- A block-diagonal gate of the convolved rows. -/
def sigm (xr : FVec F S256x1024 .f32) (w0 w1 w2 w3 : Vec F S1x256x256 .bf16) (b : Vec F S1x1024 .f32) : FVec F S256x1024 .f32 :=
  k0_pay198 (k0_pay191 xr) (k0_pay193 xr w0) (k0_pay195 xr) w1 w2 w3 b
/-- The decay. -/
def decay (xr : FVec F S256x1024 .f32) : FVec F S256x1024 .f32 :=
  k0_pay201 (sigm xr (w.wa 0) (w.wa 1) (w.wa 2) (w.wa 3) w.ba) w.lam
/-- The recurrence's input. -/
def drive (xr : FVec F S256x1024 .f32) : FVec F S256x1024 .f32 :=
  k0_pay202 xr (sigm xr (w.wa 0) (w.wa 1) (w.wa 2) (w.wa 3) w.ba) (sigm xr (w.wx 0) (w.wx 1) (w.wx 2) (w.wx 3) w.bx) w.lam

/-- Rows `8 * j … 8 * j + 7` lie in the block. -/
theorem rows_slices (j : Fin 32) : S256x1024.Slices ![8 * j.val, 0] S8x1024 := by revert j; decide
/-- Row `s` lies in the eight. -/
theorem row_slices (s : Fin 8) : S8x1024.Slices ![s.val, 0] S1x1024 := by revert s; decide

/-- The eight segments' values at step `j`. -/
def rows (v : FVec F S256x1024 .f32) (j : Fin 32) : FVec F S8x1024 .f32 :=
  extractStridedSlice S8x1024 ![8 * j.val, 0] v (rows_slices j)
/-- Segment `s`'s row. -/
def row (v : FVec F S8x1024 .f32) (s : Fin 8) : FVec F S1x1024 .f32 :=
  extractStridedSlice S1x1024 ![s.val, 0] v (row_slices s)

/-- The recurrence within each segment, started from zero. -/
def hLoc (a u : FVec F S256x1024 .f32) : (j : ℕ) → j < 32 → FVec F S8x1024 .f32
  | 0, h => rows u ⟨0, h⟩
  | j + 1, h => addf (mulf (rows a ⟨j + 1, h⟩) (hLoc a u j (by omega))) (rows u ⟨j + 1, h⟩)
/-- The running product of the decays within each segment. -/
def aCum (a : FVec F S256x1024 .f32) : (j : ℕ) → j < 32 → FVec F S8x1024 .f32
  | 0, h => rows a ⟨0, h⟩
  | j + 1, h => mulf (rows a ⟨j + 1, h⟩) (aCum a j (by omega))
/-- The state that enters segment `s`. -/
def hIn (h a : FVec F S8x1024 .f32) (hl : Vec F S1x1x1024 .f32) : (s : ℕ) → s < 9 → FVec F S1x1024 .f32
  | 0, _ => k0_pay158 hl
  | s + 1, hs => addf (row h ⟨s, by omega⟩) (mulf (row a ⟨s, by omega⟩) (hIn h a hl s (by omega)))
/-- The states that enter the eight segments. -/
def hSeg (h a : FVec F S8x1024 .f32) (hl : Vec F S1x1x1024 .f32) : FVec F S8x1024 .f32 :=
  concatenate S8x1024 0 [⟨S1x1024, hIn h a hl 0 (by omega)⟩, ⟨S1x1024, hIn h a hl 1 (by omega)⟩,
    ⟨S1x1024, hIn h a hl 2 (by omega)⟩, ⟨S1x1024, hIn h a hl 3 (by omega)⟩, ⟨S1x1024, hIn h a hl 4 (by omega)⟩,
    ⟨S1x1024, hIn h a hl 5 (by omega)⟩, ⟨S1x1024, hIn h a hl 6 (by omega)⟩, ⟨S1x1024, hIn h a hl 7 (by omega)⟩]
    concatenates_S1x1024_S1x1024_S1x1024_S1x1024_S1x1024_S1x1024_S1x1024_S1x1024_S8x1024_d0

/-- The state after step `j` of every segment. -/
def hRow (a u : FVec F S256x1024 .f32) (hl : Vec F S1x1x1024 .f32) (j : Fin 32) : FVec F S8x1024 .f32 :=
  addf (hLoc a u j.val j.isLt) (mulf (aCum a j.val j.isLt) (hSeg (hLoc a u 31 (by omega)) (aCum a 31 (by omega)) hl))

/-- The states of the whole block. -/
def hAll (a u : FVec F S256x1024 .f32) (hl : Vec F S1x1x1024 .f32) : FVec F S256x1024 .f32 :=
  concatenate S256x1024 0 [
    ⟨S8x1024, hRow a u hl 0⟩, ⟨S8x1024, hRow a u hl 1⟩, ⟨S8x1024, hRow a u hl 2⟩, ⟨S8x1024, hRow a u hl 3⟩,
    ⟨S8x1024, hRow a u hl 4⟩, ⟨S8x1024, hRow a u hl 5⟩, ⟨S8x1024, hRow a u hl 6⟩, ⟨S8x1024, hRow a u hl 7⟩,
    ⟨S8x1024, hRow a u hl 8⟩, ⟨S8x1024, hRow a u hl 9⟩, ⟨S8x1024, hRow a u hl 10⟩, ⟨S8x1024, hRow a u hl 11⟩,
    ⟨S8x1024, hRow a u hl 12⟩, ⟨S8x1024, hRow a u hl 13⟩, ⟨S8x1024, hRow a u hl 14⟩, ⟨S8x1024, hRow a u hl 15⟩,
    ⟨S8x1024, hRow a u hl 16⟩, ⟨S8x1024, hRow a u hl 17⟩, ⟨S8x1024, hRow a u hl 18⟩, ⟨S8x1024, hRow a u hl 19⟩,
    ⟨S8x1024, hRow a u hl 20⟩, ⟨S8x1024, hRow a u hl 21⟩, ⟨S8x1024, hRow a u hl 22⟩, ⟨S8x1024, hRow a u hl 23⟩,
    ⟨S8x1024, hRow a u hl 24⟩, ⟨S8x1024, hRow a u hl 25⟩, ⟨S8x1024, hRow a u hl 26⟩, ⟨S8x1024, hRow a u hl 27⟩,
    ⟨S8x1024, hRow a u hl 28⟩, ⟨S8x1024, hRow a u hl 29⟩, ⟨S8x1024, hRow a u hl 30⟩, ⟨S8x1024, hRow a u hl 31⟩]
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- The state that leaves the block. -/
def hLast (a u : FVec F S256x1024 .f32) (hl : Vec F S1x1x1024 .f32) : Vec F S1x1x1024 .f32 :=
  shapeCast S1x1x1024 (hIn (hLoc a u 31 (by omega)) (aCum a 31 (by omega)) hl 8 (by omega)) shapeCasts_S1x1024_S1x1x1024

/-- The activated gate. -/
def act (v : FVec F S256x1024 .f32) : FVec F S256x1024 .f32 := mulf (k0_pay319 v) (addf k0_pay321 (k0_pay320 v))

/-- The block of the result: the residual plus the gated states, back in their own order, projected. -/
def result (x : Vec F S1x256x1024 .f32) (h : FVec F S256x1024 .f32) : Vec F S1x256x1024 .f32 :=
  k0_pay1 unperm (k0_pay17 x) (truncf .bf16 (mulf h (act (gate w x))) bitsLt_bf16_f32) w.wout

/-- Three rows of eight that precede the block in the permuted order: the last steps of each segment, moved to the next
segment, and for the first segment those carried from the block before. -/
def head (v : FVec F S256x1024 .f32) (halo : Fin 3 → Vec F S1x1x8x1024 .f32) : Fin 3 → Vec F S1x8x1024 .f32 :=
  ![k0_pay39 k0_pay16 (k0_pay38 v) (halo 0), k0_pay31 k0_pay16 v (halo 1), k0_pay34 k0_pay16 v (halo 2)]

/-- The window `o … o + 255` of the rows of eight followed by the block. -/
def windowOf (e : Fin 3 → Vec F S1x8x1024 .f32) (r : Vec F S1x256x1024 .f32) (o : ℕ) : Vec F S1x256x1024 .f32 :=
  fun y => if h : o + (y 1).val < 24
    then e ⟨(o + (y 1).val) / 8, by omega⟩ (ix3 0 ⟨(o + (y 1).val) % 8, by omega⟩ (y 2))
    else r (ix3 0 ⟨(o + (y 1).val - 24) % 256, by omega⟩ (y 2))

/-- The four windows of a block under its three rows of eight. -/
def windows (v : FVec F S256x1024 .f32) (halo : Fin 3 → Vec F S1x1x8x1024 .f32) : Fin 4 → Vec F S1x256x1024 .f32 :=
  ![windowOf (head v halo) (k0_pay36 v) 0, windowOf (head v halo) (k0_pay36 v) 8, windowOf (head v halo) (k0_pay36 v) 16,
    k0_pay36 v]

/-- The convolved rows. -/
def convolved (x : Vec F S1x256x1024 .f32) (halo : Fin 3 → Vec F S1x1x8x1024 .f32) : FVec F S256x1024 .f32 :=
  conv w (windows (raw w x) halo)

/-- The states of a block from the carried rows and the carried state. -/
def states (x : Vec F S1x256x1024 .f32) (halo : Fin 3 → Vec F S1x1x8x1024 .f32) (hl : Vec F S1x1x1024 .f32) :
    FVec F S256x1024 .f32 :=
  hAll (decay w (convolved w x halo)) (drive w (convolved w x halo)) hl

/-- The result's block of one sequence. -/
def outBlock (x : Vec F S1x256x1024 .f32) (halo : Fin 3 → Vec F S1x1x8x1024 .f32) (hl : Vec F S1x1x1024 .f32) :
    Vec F S1x256x1024 .f32 :=
  result w x (states w x halo hl)

/-- The rows carried to the next block. -/
def nextHalo (x : Vec F S1x256x1024 .f32) : Fin 3 → Vec F S1x1x8x1024 .f32 :=
  ![k0_pay40 (k0_pay38 (raw w x)), k0_pay32 (raw w x), k0_pay35 (k0_pay33 (raw w x))]

/-- The state carried to the next block. -/
def nextState (x : Vec F S1x256x1024 .f32) (halo : Fin 3 → Vec F S1x1x8x1024 .f32) (hl : Vec F S1x1x1024 .f32) :
    Vec F S1x1x1024 .f32 :=
  hLast (decay w (convolved w x halo)) (drive w (convolved w x halo)) hl

end Cert.Lru
-- ==== Proof.Lru.Perm.lean ====
/- The two 0/1 matrices: rows into the segments' order and back. -/
module

public import proofs.«01_k».proof.Proof.Lru.Block
public import Idealize.ShloMosaic.Lib.Pipeline.ValueKit

@[expose] public section

set_option maxRecDepth 16384

noncomputable section

namespace Cert.Lru

open Idealize.ShloMosaic Idealize.ShloMosaic.TcCoe Idealize.SL.Sem Cert.KernelIdeal Cert.KernelIdeal.Gen

/-- The step within the block that row `p` of the permuted order holds. -/
def tau (p : Fin 256) : Fin 256 := ⟨p.val % 8 * 32 + p.val / 8, by omega⟩
/-- The row that holds step `q`. -/
def slot (q : Fin 256) : Fin 256 := ⟨8 * (q.val % 32) + q.val / 32, by omega⟩

theorem tau_at (p : Fin 256) (j s : ℕ) (hp : p.val = 8 * j + s) (hs : s < 8) : (tau p).val = s * 32 + j := by
  simp only [tau, hp]; omega
theorem tau_slot (q : Fin 256) : tau (slot q) = q := Fin.ext (by simp only [tau, slot]; omega)
theorem slot_tau (p : Fin 256) : slot (tau p) = p := Fin.ext (by simp only [tau, slot]; omega)

/-- The entry `1` where the column's number is the word `w`, as a real number. -/
theorem onehot (w : BitVec 32) (q r : Fin 256) (h : w = BitVec.ofNat 32 r.val) :
    (FloatOps.sitofp (F := Ideal) .f32 (BitVec.setWidth 32 (IntOp.cmpi .eq (BitVec.ofNat 32 q.val) w)) : EReal)
      = if q = r then 1 else 0 := by
  subst h
  by_cases hq : q = r
  · subst hq
    have : IntOp.cmpi .eq (BitVec.ofNat 32 q.val) (BitVec.ofNat 32 q.val) = 1#1 := by simp [IntOp.cmpi]
    rw [this, if_pos rfl]
    show (((BitVec.setWidth 32 1#1).toInt : ℝ) : EReal) = 1
    have : (BitVec.setWidth 32 1#1).toInt = 1 := by decide
    rw [this]; norm_num
  · have hne : BitVec.ofNat 32 q.val ≠ BitVec.ofNat 32 r.val := fun e => hq (Fin.ext (by
      have := congrArg BitVec.toNat e
      simp only [BitVec.toNat_ofNat] at this
      omega))
    have : IntOp.cmpi .eq (BitVec.ofNat 32 q.val) (BitVec.ofNat 32 r.val) = 0#1 := by simp [IntOp.cmpi, beq_eq_false_iff_ne.mpr hne]
    rw [this, if_neg hq]
    show (((BitVec.setWidth 32 0#1).toInt : ℝ) : EReal) = 0
    have : (BitVec.setWidth 32 0#1).toInt = 0 := by decide
    rw [this]; norm_num

theorem perm_apply (p q : Fin 256) : perm (F := Ideal) (ix2 p q) = if q = tau p then (1 : EReal) else 0 := by
  unfold perm
  pointwise [k0_pay10, k0_pay5, k0_pay6, k0_pay7, k0_pay8, k0_pay9]
  exact onehot _ q (tau p) (by clear q; revert p; decide +kernel)

theorem unperm_apply (q p : Fin 256) : unperm (F := Ideal) (ix2 q p) = if q = tau p then (1 : EReal) else 0 := by
  unfold unperm
  pointwise [k0_pay11, k0_pay12, k0_pay13, k0_pay14, k0_pay15]
  exact onehot _ q (tau p) (by clear q; revert p; decide +kernel)

/-- A product with the first matrix moves rows: row `p` is the argument's row `tau p`. -/
theorem perm_matmul (v : FVec Ideal S256x1024 .bf16) (p : Fin 256) (d : Fin 1024) :
    matmul (F := Ideal) dot_S256x256_S256x1024_S256x1024_1_0_0_1_n_n none perm v (constant S256x1024 .f32 0x00000000#32) (ix2 p d)
      = v (ix2 (tau p) d) := by
  pointwise
  simp only [perm_apply, ite_mul, one_mul, zero_mul, Finset.sum_ite_eq', Finset.mem_univ, if_true]

/-- A product with the second matrix moves them back: row `q` is the argument's row `slot q`. -/
theorem unperm_matmul (v : FVec Ideal S256x1024 .bf16) (q : Fin 256) (d : Fin 1024) :
    matmul (F := Ideal) dot_S256x256_S256x1024_S256x1024_1_0_0_1_n_n none unperm v (constant S256x1024 .f32 0x00000000#32)
      (ix2 q d) = v (ix2 (slot q) d) := by
  pointwise
  have h : ∀ p : Fin 256, (q = tau p) = (p = slot q) := fun p => propext
    ⟨fun e => by rw [e, slot_tau], fun e => by rw [e, tau_slot]⟩
  simp only [unperm_apply, h, ite_mul, one_mul, zero_mul, Finset.sum_ite_eq', Finset.mem_univ, if_true]

/-- The same for the whole product. -/
theorem unperm_matmul_eq (v : FVec Ideal S256x1024 .bf16) :
    matmul (F := Ideal) dot_S256x256_S256x1024_S256x1024_1_0_0_1_n_n none unperm v (constant S256x1024 .f32 0x00000000#32)
      = fun i => v (ix2 (slot (i 0)) (i 1)) := by
  funext i
  rw [← unperm_matmul v (i 0) (i 1)]
  congr 1
  funext a; fin_cases a <;> rfl

end Cert.Lru
-- ==== Proof.Lru.Spec.lean ====
/- The recurrent block as mathematics: one sequence of rows over the extended reals, step by step. -/
module

public import proofs.«01_k».proof.Proof.Lru.Perm

@[expose] public section

set_option maxRecDepth 16384

noncomputable section

namespace Cert.Lru

open Idealize.ShloMosaic Idealize.ShloMosaic.TcCoe Idealize.SL.Sem Cert.KernelIdeal Cert.KernelIdeal.Gen

/-- A row of a sequence. -/
abbrev Row := Fin 1024 → EReal
/-- A sequence of rows, by time. -/
abbrev Series := ℕ → Row

variable (w : Weights Ideal)

/-- A row divided by its root mean square and scaled. -/
def nrmS (x : Row) : Row := fun d =>
  x d * Ideal.rsqrt (Ideal.div (∑ k, x k * x k) (Ideal.ofBits .f32 1149239296#32) + Ideal.ofBits .f32 897988541#32) * w.g (ix2 0 d)
/-- The recurrent branch of a row. -/
def rawS (x : Row) : Row := fun d => ∑ k, nrmS w x k * w.win1 (ix2 k d)
/-- The gate branch of a row. -/
def gateS (x : Row) : Row := fun d => ∑ k, nrmS w x k * w.win0 (ix2 k d)
/-- The row `3 - i` steps before time `t`; zero before the start. -/
def tapS (r : Series) (t i : ℕ) : Row := fun d => if t + i < 3 then 0 else r (t + i - 3) d
/-- The causal convolution of width four. -/
def convS (r : Series) (t : ℕ) : Row := fun d =>
  w.cb (ix2 0 d) + tapS r t 0 d * w.cw 0 (ix2 0 d) + tapS r t 1 d * w.cw 1 (ix2 0 d) + tapS r t 2 d * w.cw 2 (ix2 0 d)
    + tapS r t 3 d * w.cw 3 (ix2 0 d)
/-- A block-diagonal gate of a row. -/
def sigS (v : Fin 4 → Vec Ideal S1x256x256 .bf16) (b : Vec Ideal S1x1024 .f32) (x : Row) : Row := fun d =>
  Ideal.logistic ((∑ k : Fin 256, x ⟨256 * (d.val / 256) + k.val, by omega⟩
    * v ⟨d.val / 256, by omega⟩ (ix3 0 k ⟨d.val % 256, by omega⟩)) + b (ix2 0 d))
/-- The logarithm of the decay. -/
def logS (x : Row) : Row := fun d => sigS w.wa w.ba x d * w.lam (ix2 0 d)
/-- The decay. -/
def decayS (x : Row) : Row := fun d => Ideal.exp (logS w x d)
/-- The recurrence's input. -/
def driveS (x : Row) : Row := fun d =>
  Ideal.sqrt (Ideal.div (Ideal.ofBits .f32 3221225472#32 * Ideal.tanh (logS w x d)) (1 - Ideal.tanh (logS w x d)))
    * (sigS w.wx w.bx x d * x d)
/-- The linear recurrence: the state before time `t`. -/
def hS (a u : Series) : ℕ → Row
  | 0 => fun _ => 0
  | t + 1 => fun d => a t d * hS a u t d + u t d
/-- The gate's activation. -/
def actS (y : EReal) : EReal := Ideal.ofBits .f32 1056964608#32 * y
  * (1 + Ideal.tanh (Ideal.ofBits .f32 1061962282#32 * (y + Ideal.ofBits .f32 1027024659#32 * (y * y * y))))

/-- The recurrent branch of the sequence. -/
def rawSeq (x : Series) : Series := fun t => rawS w (x t)
/-- The decays of the sequence. -/
def decaySeq (x : Series) : Series := fun t => decayS w (convS w (rawSeq w x) t)
/-- The inputs of the sequence. -/
def driveSeq (x : Series) : Series := fun t => driveS w (convS w (rawSeq w x) t)
/-- The states of the sequence. -/
def hSeq (x : Series) : ℕ → Row := hS (decaySeq w x) (driveSeq w x)
/-- The block's result at time `t`. -/
def outSeq (x : Series) (t : ℕ) : Row := fun d =>
  x t d + ∑ k, (hSeq w x (t + 1) k * actS (gateS w (x t) k)) * w.wout (ix2 k d)

/-! ## The decays' bounds -/

theorem exp_nonneg (x : EReal) : 0 ≤ Ideal.exp x := by
  induction x with
  | bot => exact le_refl _
  | top => exact le_top
  | coe r => exact EReal.coe_nonneg.2 (Real.exp_pos r).le

theorem logistic_nonneg (x : EReal) : 0 ≤ Ideal.logistic x := by
  have h1 : (0 : EReal) < 1 + Ideal.exp (-x) := lt_of_lt_of_le zero_lt_one (le_add_of_nonneg_right (exp_nonneg _))
  unfold Ideal.logistic Ideal.div
  rw [if_neg h1.ne', one_mul]
  exact EReal.inv_nonneg_of_nonneg h1.le

theorem exp_ne_top {x : EReal} (h : x ≤ 0) : Ideal.exp x ≠ ⊤ := by
  induction x with
  | bot => exact EReal.zero_ne_top
  | top => exact absurd h (not_le.2 EReal.zero_lt_top)
  | coe r => exact EReal.coe_ne_top _

theorem decayS_bounds (hl : ∀ d, w.lam (ix2 0 d) ≤ 0) (x : Row) (d : Fin 1024) : 0 ≤ decayS w x d ∧ decayS w x d ≠ ⊤ :=
  ⟨exp_nonneg _, exp_ne_top (mul_nonpos_of_nonneg_of_nonpos (logistic_nonneg _) (hl d))⟩

/-! ## Splitting the recurrence at a step -/

/-- The state `j + 1` steps after `t`, from the state at `t`: linear, the factor a product of decays. -/
theorem hS_split (a u : Series) (ha : ∀ t d, 0 ≤ a t d ∧ a t d ≠ ⊤) (t : ℕ) (d : Fin 1024) (loc cum : ℕ → EReal)
    (n : ℕ) (l0 : loc 0 = u t d) (c0 : cum 0 = a t d)
    (l1 : ∀ j, j + 1 < n → loc (j + 1) = a (t + (j + 1)) d * loc j + u (t + (j + 1)) d)
    (c1 : ∀ j, j + 1 < n → cum (j + 1) = a (t + (j + 1)) d * cum j) (j : ℕ) (hj : j < n) :
    loc j + cum j * hS a u t d = hS a u (t + j + 1) d := by
  induction j with
  | zero => rw [l0, c0, add_comm]; rfl
  | succ j ih =>
    rw [l1 j hj, c1 j hj]
    show _ = a (t + (j + 1)) d * hS a u (t + j + 1) d + u (t + (j + 1)) d
    rw [← ih (by omega), EReal.left_distrib_of_nonneg_of_ne_top (ha _ d).1 (ha _ d).2, mul_assoc]
    rw [add_right_comm]

end Cert.Lru
-- ==== Proof.Lru.Rows.lean ====
/- The block's functions, entry by entry: row `p` of a block that starts at time `b` holds time `b + tau p` of the sequence. -/
module

public import proofs.«01_k».proof.Proof.Lru.Spec

@[expose] public section

set_option maxRecDepth 16384

noncomputable section

namespace Cert.Lru

open Idealize.ShloMosaic Idealize.ShloMosaic.TcCoe Idealize.SL.Sem Cert.KernelIdeal Cert.KernelIdeal.Gen

variable (w : Weights Ideal) (x : Vec Ideal S1x256x1024 .f32) (X : Series) (b : ℕ)

/-- The block holds the sequence's rows from time `b` on. -/
def Holds : Prop := ∀ (q : Fin 256) (d : Fin 1024), x (ix3 0 q d) = X (b + q.val) d
/-- The block holds the sequence's rows in the permuted order. -/
def HoldsP (v : FVec Ideal S256x1024 .f32) (R : Series) (b : ℕ) : Prop :=
  ∀ (p : Fin 256) (d : Fin 1024), v (ix2 p d) = R (b + (tau p).val) d

variable {x X b}

theorem normed_row (hx : Holds x X b) (p : Fin 256) (d : Fin 1024) : normed w x (ix2 p d) = nrmS w (X (b + (tau p).val)) d := by
  unfold normed k0_pay19
  simp only [perm_matmul, truncf]
  pointwise [k0_pay17]
  simp only [hx _ _]
  rfl

theorem raw_rows (hx : Holds x X b) : HoldsP (raw w x) (rawSeq w X) b := fun p d => by
  unfold raw
  pointwise [k0_pay25]
  simp only [normed_row w hx]
  rfl

theorem gate_rows (hx : Holds x X b) (p : Fin 256) (d : Fin 1024) : gate w x (ix2 p d) = gateS w (X (b + (tau p).val)) d := by
  unfold gate
  pointwise [k0_pay23]
  simp only [normed_row w hx]
  rfl

/-- The carried rows hold, for the first segment, the last three steps before time `b`. -/
def HoldsHalo (halo : Fin 3 → Vec Ideal S1x1x8x1024 .f32) (R : Series) (b : ℕ) : Prop :=
  ∀ (r : Fin 3) (d : Fin 1024), halo r (ix4 0 0 7 d) = tapS R b r.val d

/-- One of the three eights: the segment before's row, or the carried row. -/
theorem head_apply (v : FVec Ideal S256x1024 .f32) (halo : Fin 3 → Vec Ideal S1x1x8x1024 .f32) (r : Fin 3) (s : Fin 8)
    (d : Fin 1024) : head v halo r (ix3 0 s d)
      = if s.val = 0 then halo r (ix4 0 0 7 d) else v (ix2 ⟨(8 * (29 + r.val) + (s.val + 7) % 8) % 256, by omega⟩ d) := by
  have hs : ∀ (α : Type) (y z : α), Scalar.select (IntOp.cmpi .eq (BitVec.ofNat 32 s.val) 0#32) y z = if s.val = 0 then y else z := by
    intro α y z
    have : IntOp.cmpi .eq (BitVec.ofNat 32 s.val) 0#32 = BitVec.ofBool (decide (s.val = 0)) := by revert s; decide
    rw [this]
    by_cases h : s.val = 0 <;> simp [Scalar.select, h]
  have h7 : s.val = 0 → (⟨(s.val + 8 - 1) % 8, by omega⟩ : Fin 8) = 7 := fun h => Fin.ext (by show (s.val + 8 - 1) % 8 = 7; omega)
  obtain rfl | rfl | rfl : r = 0 ∨ r = 1 ∨ r = 2 := by omega
  · show k0_pay39 k0_pay16 (k0_pay38 v) (halo 0) (ix3 0 s d) = _
    pointwise [k0_pay39, k0_pay16, k0_pay38]
    rw [hs]
    split_ifs with h
    · rw [h7 h]
    · congr 3; show 232 + _ = (8 * (29 + 0) + _) % 256; omega
  · show k0_pay31 k0_pay16 v (halo 1) (ix3 0 s d) = _
    pointwise [k0_pay16, k0_pay31, k0_pay30]
    rw [hs]
    split_ifs with h
    · rw [h7 h]
    · congr 3; show 240 + _ = (8 * (29 + 1) + _) % 256; omega
  · show k0_pay34 k0_pay16 v (halo 2) (ix3 0 s d) = _
    pointwise [k0_pay16, k0_pay34, k0_pay33]
    rw [hs]
    split_ifs with h
    · rw [h7 h]
    · congr 3; show 248 + _ = (8 * (29 + 2) + _) % 256; omega

/-- A window's entry: from an eight, or from the block. -/
theorem window_apply (v : FVec Ideal S256x1024 .f32) (halo : Fin 3 → Vec Ideal S1x1x8x1024 .f32) (o : ℕ) (p : Fin 256)
    (d : Fin 1024) : windowOf (head v halo) (k0_pay36 v) o (ix3 0 p d) = if h : o + p.val < 24
      then head v halo ⟨(o + p.val) / 8, by omega⟩ (ix3 0 ⟨(o + p.val) % 8, by omega⟩ d)
      else v (ix2 ⟨(o + p.val - 24) % 256, by omega⟩ d) := by
  by_cases h : o + p.val < 24
  · rw [dif_pos h]
    exact dif_pos h
  · rw [dif_neg h]
    refine (dif_neg (show ¬ o + (ix3 (n0 := 1) (n1 := 256) (n2 := 1024) 0 p d 1).val < 24 from h)).trans ?_
    pointwise [k0_pay36]

theorem window_rows {v : FVec Ideal S256x1024 .f32} {R : Series} (hv : HoldsP v R b)
    {halo : Fin 3 → Vec Ideal S1x1x8x1024 .f32} (hh : HoldsHalo halo R b) (i : Fin 4) (p : Fin 256) (d : Fin 1024) :
    windows v halo i (ix3 0 p d) = tapS R (b + (tau p).val) i.val d := by
  have hp := p.isLt
  have hw : windows v halo i (ix3 0 p d) = if h : 8 * i.val + p.val < 24
      then head v halo ⟨(8 * i.val + p.val) / 8, by omega⟩ (ix3 0 ⟨(8 * i.val + p.val) % 8, by omega⟩ d)
      else v (ix2 ⟨(8 * i.val + p.val - 24) % 256, by omega⟩ d) := by
    obtain rfl | rfl | rfl | rfl : i = 0 ∨ i = 1 ∨ i = 2 ∨ i = 3 := by omega
    · exact window_apply v halo 0 p d
    · exact window_apply v halo 8 p d
    · exact window_apply v halo 16 p d
    · show k0_pay36 v (ix3 0 p d) = _
      rw [dif_neg (by show ¬ 8 * 3 + p.val < 24; omega)]
      pointwise [k0_pay36]
      refine congrArg v (congrArg (ix2 · d) (Fin.ext ?_))
      show p.val = p.val % 256; omega
  rw [hw]
  have ht := tau_at p (p.val / 8) (p.val % 8) (by omega) (by omega)
  have hi := i.isLt
  have e1 : (8 * i.val + p.val) % 8 = p.val % 8 := by omega
  have e2 : (8 * i.val + p.val) / 8 = i.val + p.val / 8 := by omega
  rw [ht]
  split_ifs with h
  · rw [head_apply]
    by_cases h0 : p.val % 8 = 0
    · rw [if_pos (by show (8 * i.val + p.val) % 8 = 0; omega), hh]
      have e : b + (8 * i.val + p.val) / 8 = b + (p.val % 8 * 32 + p.val / 8) + i.val := by omega
      simp only [tapS, e]
    · rw [if_neg (by show ¬ (8 * i.val + p.val) % 8 = 0; omega), hv, tau_at _ (29 + (i.val + p.val / 8)) (p.val % 8 - 1)
        (by show (8 * (29 + (8 * i.val + p.val) / 8) + ((8 * i.val + p.val) % 8 + 7) % 8) % 256 = _;
            rw [e1, e2, show (p.val % 8 + 7) % 8 = p.val % 8 - 1 by omega]
            exact Nat.mod_eq_of_lt (by omega)) (by omega)]
      unfold tapS
      rw [if_neg (by omega)]
      congr 1
      omega
  · rw [hv, tau_at _ (i.val + p.val / 8 - 3) (p.val % 8) (by show (8 * i.val + p.val - 24) % 256 = _; omega) (by omega)]
    unfold tapS
    rw [if_neg (by omega)]
    congr 1
    omega

theorem conv_rows (hx : Holds x X b) {halo : Fin 3 → Vec Ideal S1x1x8x1024 .f32} (hh : HoldsHalo halo (rawSeq w X) b) :
    HoldsP (convolved w x halo) (convS w (rawSeq w X)) b := fun p d => by
  unfold convolved conv
  pointwise [k0_pay37]
  simp only [window_rows (raw_rows w hx) hh]
  rfl

theorem sigm_rows {xr : FVec Ideal S256x1024 .f32} {C : Series} (h : HoldsP xr C b) (v : Fin 4 → Vec Ideal S1x256x256 .bf16)
    (bb : Vec Ideal S1x1024 .f32) (p : Fin 256) (d : Fin 1024) :
    sigm xr (v 0) (v 1) (v 2) (v 3) bb (ix2 p d) = sigS v bb (C (b + (tau p).val)) d := by
  unfold sigm
  pointwise [k0_pay198, k0_pay191, k0_pay193, k0_pay195, k0_pay192, k0_pay196, k0_pay197]
  simp only [h _ _]
  unfold sigS
  congr 2
  have piece : ∀ (n : Fin 4) (e : ℕ) (he : e < 256) (o : ℕ) (ho : o = 256 * n.val) (hd : d.val = o + e),
      (∑ k : Fin 256, C (b + (tau p).val) ⟨o + k.val, by omega⟩ * v n (ix3 0 k ⟨e, he⟩))
        = ∑ k : Fin 256, C (b + (tau p).val) ⟨256 * (d.val / 256) + k.val, by omega⟩
          * v ⟨d.val / 256, by omega⟩ (ix3 0 k ⟨d.val % 256, by omega⟩) := by
    intro n e he o ho hd
    subst ho
    obtain rfl : e = d.val % 256 := by omega
    have hn : n = ⟨d.val / 256, by omega⟩ := Fin.ext (by show n.val = d.val / 256; omega)
    refine Finset.sum_congr rfl fun k _ => ?_
    congr 1
    · congr 1
      exact Fin.ext (by show 256 * n.val + k.val = 256 * (d.val / 256) + k.val; omega)
    · rw [hn]
  split_ifs with h0
  · refine Eq.trans ?_ (piece 0 d.val h0 0 rfl (by omega))
    simp only [Nat.zero_add]
  all_goals first
    | exact piece 1 _ (by assumption) 256 rfl (by omega)
    | exact piece 2 _ (by assumption) 512 rfl (by omega)
    | exact piece 3 _ (by omega) 768 rfl (by omega)
    | exact absurd rfl (by assumption)

theorem decay_rows {xr : FVec Ideal S256x1024 .f32} {C : Series} (h : HoldsP xr C b) :
    HoldsP (decay w xr) (fun t => decayS w (C t)) b := fun p d => by
  unfold decay
  pointwise [k0_pay201, k0_pay200]
  simp only [sigm_rows h]
  rfl

theorem drive_rows {xr : FVec Ideal S256x1024 .f32} {C : Series} (h : HoldsP xr C b) :
    HoldsP (drive w xr) (fun t => driveS w (C t)) b := fun p d => by
  unfold drive
  pointwise [k0_pay202, k0_pay200]
  simp only [sigm_rows h, h p d]
  rfl

/-! ## The scan over the segments -/

theorem rows_apply {v : FVec Ideal S256x1024 .f32} {R : Series} (hv : HoldsP v R b) (j : Fin 32) (s : Fin 8) (d : Fin 1024) :
    rows v j (ix2 s d) = R (b + 32 * s.val + j.val) d := by
  have h : rows v j (ix2 s d) = v (ix2 ⟨8 * j.val + s.val, by omega⟩ d) := by
    unfold rows; pointwise
  rw [h, hv]
  congr 1
  simp only [tau]; omega

section
variable {a u : FVec Ideal S256x1024 .f32} {A U : Series} (ha : HoldsP a A b) (hu : HoldsP u U b)
  (hA : ∀ t d, 0 ≤ A t d ∧ A t d ≠ ⊤)
include ha hu hA

theorem loc_split (j : ℕ) (hj : j < 32) (s : Fin 8) (d : Fin 1024) :
    hLoc a u j hj (ix2 s d) + aCum a j hj (ix2 s d) * hS A U (b + 32 * s.val) d = hS A U (b + 32 * s.val + j + 1) d := by
  have key := hS_split A U hA (b + 32 * s.val) d (fun j => if h : j < 32 then hLoc a u j h (ix2 s d) else 0)
    (fun j => if h : j < 32 then aCum a j h (ix2 s d) else 0) 32 ?_ ?_ ?_ ?_ j hj
  · simpa only [dif_pos hj] using key
  · simp only [Nat.zero_lt_succ, dif_pos]
    exact rows_apply hu ⟨0, by omega⟩ s d
  · simp only [Nat.zero_lt_succ, dif_pos]
    exact rows_apply ha ⟨0, by omega⟩ s d
  · intro j hj
    simp only [dif_pos hj, dif_pos (show j < 32 by omega)]
    rw [← rows_apply ha ⟨j + 1, hj⟩ s d, ← rows_apply hu ⟨j + 1, hj⟩ s d]
    rfl
  · intro j hj
    simp only [dif_pos hj, dif_pos (show j < 32 by omega)]
    rw [← rows_apply ha ⟨j + 1, hj⟩ s d]
    rfl

theorem hIn_apply {hl : Vec Ideal S1x1x1024 .f32} (hhl : ∀ d, hl (ix3 0 0 d) = hS A U b d) (s : ℕ) (hs : s < 9) (d : Fin 1024) :
    hIn (hLoc a u 31 (by omega)) (aCum a 31 (by omega)) hl s hs (ix2 0 d) = hS A U (b + 32 * s) d := by
  induction s with
  | zero =>
    show k0_pay158 hl (ix2 0 d) = _
    pointwise [k0_pay158]
    exact hhl d
  | succ s ih =>
    have hr : ∀ v : FVec Ideal S8x1024 .f32, row v ⟨s, by omega⟩ (ix2 0 d) = v (ix2 ⟨s, by omega⟩ d) := fun v => by
      unfold row; pointwise
    show row _ _ (ix2 0 d) + row _ _ (ix2 0 d) * hIn _ _ hl s _ (ix2 0 d) = _
    rw [ih (by omega), hr, hr]
    exact loc_split ha hu hA 31 (by omega) ⟨s, by omega⟩ d

theorem hAll_rows {hl : Vec Ideal S1x1x1024 .f32} (hhl : ∀ d, hl (ix3 0 0 d) = hS A U b d) :
    HoldsP (hAll a u hl) (fun t => hS A U (t + 1)) b := fun p d => by
  have hseg : ∀ s : Fin 8, hSeg (hLoc a u 31 (by omega)) (aCum a 31 (by omega)) hl (ix2 s d) = hS A U (b + 32 * s.val) d :=
    fun s => (concatenate_ofFn_apply (t := S8x1024) 0 (fun s : Fin 8 => hIn (hLoc a u 31 (by omega)) (aCum a 31 (by omega)) hl s.val (by omega))
      concatenates_S1x1024_S1x1024_S1x1024_S1x1024_S1x1024_S1x1024_S1x1024_S1x1024_S8x1024_d0 rfl 1 rfl (ix2 s d) s
      (Nat.div_one _) (ix2 0 d) (Nat.mod_one _).symm (fun c hc => by fin_cases c; exact absurd rfl hc; rfl)).trans
      (hIn_apply ha hu hA hhl s.val (by omega) d)
  have hp := p.isLt
  have h : hAll a u hl (ix2 p d) = hRow a u hl ⟨p.val / 8, by omega⟩ (ix2 ⟨p.val % 8, by omega⟩ d) :=
    concatenate_ofFn_apply (t := S256x1024) 0 (fun j : Fin 32 => hRow a u hl j)
      concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
      rfl 8 rfl (ix2 p d) ⟨p.val / 8, by omega⟩ rfl (ix2 ⟨p.val % 8, by omega⟩ d) rfl
      (fun c hc => by fin_cases c; exact absurd rfl hc; rfl)
  rw [h]
  show hLoc a u _ _ (ix2 _ d) + aCum a _ _ (ix2 _ d) * hSeg _ _ hl (ix2 _ d) = _
  rw [hseg, loc_split ha hu hA]
  congr 1
  simp only [tau]; omega

theorem hLast_apply {hl : Vec Ideal S1x1x1024 .f32} (hhl : ∀ d, hl (ix3 0 0 d) = hS A U b d) (d : Fin 1024) :
    hLast a u hl (ix3 0 0 d) = hS A U (b + 256) d := by
  unfold hLast
  pointwise
  exact hIn_apply ha hu hA hhl 8 (by omega) d
end

/-! ## The block -/

theorem nextHalo_holds (hx : Holds x X b) : HoldsHalo (nextHalo w x) (rawSeq w X) (b + 256) := fun r d => by
  have h : nextHalo w x r (ix4 0 0 7 d) = raw w x (ix2 ⟨(8 * (29 + r.val) + 7) % 256, by omega⟩ d) := by
    obtain rfl | rfl | rfl : r = 0 ∨ r = 1 ∨ r = 2 := by omega
    · show k0_pay40 (k0_pay38 (raw w x)) (ix4 0 0 7 d) = _
      pointwise [k0_pay40, k0_pay38]
    · show k0_pay32 (raw w x) (ix4 0 0 7 d) = _
      pointwise [k0_pay32, k0_pay30]
    · show k0_pay35 (k0_pay33 (raw w x)) (ix4 0 0 7 d) = _
      pointwise [k0_pay35, k0_pay33]
  rw [h, raw_rows w hx]
  unfold tapS
  have hr := r.isLt
  rw [if_neg (by omega), tau_at _ (29 + r.val) 7 (by show (8 * (29 + r.val) + 7) % 256 = _; omega) (by omega)]
  congr 1
  omega

theorem nextState_holds (hw : ∀ d, w.lam (ix2 0 d) ≤ 0) (hx : Holds x X b) {halo : Fin 3 → Vec Ideal S1x1x8x1024 .f32}
    (hh : HoldsHalo halo (rawSeq w X) b) {hl : Vec Ideal S1x1x1024 .f32} (hhl : ∀ d, hl (ix3 0 0 d) = hSeq w X b d) (d : Fin 1024) :
    nextState w x halo hl (ix3 0 0 d) = hSeq w X (b + 256) d :=
  hLast_apply (decay_rows w (conv_rows w hx hh)) (drive_rows w (conv_rows w hx hh)) (fun t d => decayS_bounds w hw _ d) hhl d

theorem outBlock_holds (hw : ∀ d, w.lam (ix2 0 d) ≤ 0) (hx : Holds x X b) {halo : Fin 3 → Vec Ideal S1x1x8x1024 .f32}
    (hh : HoldsHalo halo (rawSeq w X) b) {hl : Vec Ideal S1x1x1024 .f32} (hhl : ∀ d, hl (ix3 0 0 d) = hSeq w X b d) :
    Holds (outBlock w x halo hl) (outSeq w X) b := fun q d => by
  have hs := hAll_rows (decay_rows w (conv_rows w hx hh)) (drive_rows w (conv_rows w hx hh)) (fun t d => decayS_bounds w hw _ d) hhl
  unfold outBlock result k0_pay1
  rw [unperm_matmul_eq]
  pointwise [k0_pay17, act, k0_pay319, k0_pay320, k0_pay321]
  rw [hx q d]
  unfold outSeq
  congr 1
  refine Finset.sum_congr rfl fun k _ => ?_
  rw [show states w x halo hl (ix2 (slot q) k) = _ from hs (slot q) k, gate_rows w hx, tau_slot]
  rfl

end Cert.Lru
-- ==== Proof.Lru.Window.lean ====
/- The rows read back from the buffer of the shifted rows: three eights stored in front of the block. -/
module

public import proofs.«01_k».proof.Proof.Lru.Block
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Lru

open Idealize.ShloMosaic Idealize.ShloMosaic.TcCoe Idealize.SL.Sem Cert.KernelIdeal Cert.KernelIdeal.Gen

variable {F : FTy → Type} [FloatOps F]

/-- What the buffer holds in plane `b`: the three eights, then the block. -/
def planeOf (e : Fin 3 → Vec F S1x8x1024 .f32) (r : Vec F S1x256x1024 .f32) : Vec F S2x280x1024 .f32 := fun y =>
  if h : (y 1).val < 24
    then e ⟨(y 1).val / 8, by omega⟩ (ix3 0 ⟨(y 1).val % 8, by omega⟩ (y 2))
    else r (ix3 0 ⟨(y 1).val - 24, by have h1 : (y 1).val < 280 := (y 1).isLt; omega⟩ (y 2))

/-- A stored eight is a part of the plane. -/
theorem head_piece (e : Fin 3 → Vec F S1x8x1024 .f32) (r : Vec F S1x256x1024 .f32) (k : Fin 3) (ek : Vec F S1x8x1024 .f32)
    (o b : ℕ) (h) (ho : o = 8 * k.val) (hk : ek = e k) (x : S1x8x1024.Idx) :
    ek x = planeOf e r ((Rect.unit (s := S2x280x1024) ![b, o, 0] ![1, 8, 1024] h).emb x) := by
  subst ho hk
  have x0 : (x 0).val < 1 := (x 0).isLt
  have x1 : (x 1).val < 8 := (x 1).isLt
  have hk := k.isLt
  refine Eq.trans ?_ (dif_pos (show 8 * k.val + 1 * (x 1).val < 24 by omega)).symm
  have hf : (⟨(8 * k.val + 1 * (x 1).val) / 8, by omega⟩ : Fin 3) = k := Fin.ext (by show _ / 8 = _; omega)
  refine Eq.trans ?_ (congrFun (congrArg e hf.symm) _)
  refine congrArg (e k) (funext fun a => Fin.ext ?_)
  fin_cases a
  · show (x 0).val = 0; omega
  · show (x 1).val = (8 * k.val + 1 * (x 1).val) % 8; omega
  · show (x 2).val = 0 + 1 * (x 2).val; omega

/-- Membership in the rows `o … o + n - 1` of plane `b`. -/
theorem in_plane (o n b o' : ℕ) (h : ∀ a, ![b, o, 0] a + ![1, n, 1024] a ≤ S2x280x1024.size a)
    {hw : ∀ a, ![b, o', 0] a + ![1, 256, 1024] a ≤ S2x280x1024.size a} (y : S1x256x1024.Idx) (h1 : o ≤ o' + (y 1).val) (h2 : o' + (y 1).val < o + n) :
    (Rect.unit (s := S2x280x1024) ![b, o', 0] ![1, 256, 1024] hw).toLoadRect.idx y
      ∈ (Rect.unit (s := S2x280x1024) ![b, o, 0] ![1, n, 1024] h).set := by
  have y0 : (y 0).val < 1 := (y 0).isLt
  have y2 : (y 2).val < 1024 := (y 2).isLt
  refine Rect.mem_set_unit.2 fun a => ?_
  fin_cases a
  · show b ≤ b + 1 * (y 0).val ∧ b + 1 * (y 0).val < b + 1; omega
  · show o ≤ o' + 1 * (y 1).val ∧ o' + 1 * (y 1).val < o + n; omega
  · show 0 ≤ 0 + 1 * (y 2).val ∧ 0 + 1 * (y 2).val < 0 + 1024; omega

/-- A window of 256 rows read after the four stores of plane `b` is that window of the rows stored. -/
theorem window_read (b o : ℕ) (e0 e1 e2 : Vec F S1x8x1024 .f32) (r : Vec F S1x256x1024 .f32)
    (L : List (View.Piece (Elt F) S2x280x1024 .f32)) (h3 h2 h1 h0 hw) :
    (View.whole cc0_scratch0).readCov
      (⟨Rect.unit (s := S2x280x1024) ![b, 24, 0] ![1, 256, 1024] h3, r⟩ :: ⟨Rect.unit ![b, 16, 0] ![1, 8, 1024] h2, e2⟩ ::
        ⟨Rect.unit ![b, 8, 0] ![1, 8, 1024] h1, e1⟩ :: ⟨Rect.unit ![b, 0, 0] ![1, 8, 1024] h0, e0⟩ :: L)
      (Rect.unit ![b, o, 0] ![1, 256, 1024] hw).toLoadRect = windowOf ![e0, e1, e2] r o := by
  rw [View.readCov_eq_canon']
  funext y
  have y0 : (y 0).val < 1 := (y 0).isLt
  have y1 : (y 1).val < 256 := (y 1).isLt
  have y2 : (y 2).val < 1024 := (y 2).isLt
  have hi : o + 256 ≤ 280 := hw 1
  refine (View.canon_append_of_piecesOf (planeOf ![e0, e1, e2] r) L [_, _, _, _] ⟨?_, ?_, ?_, ?_, trivial⟩ _ ?_).trans ?_
  · intro x
    have x0 : (x 0).val < 1 := (x 0).isLt
    refine Eq.trans ?_ (dif_neg (show ¬ 24 + 1 * (x 1).val < 24 by omega)).symm
    refine congrArg r (funext fun a => Fin.ext ?_)
    fin_cases a
    · show (x 0).val = 0; omega
    · show (x 1).val = 24 + 1 * (x 1).val - 24; omega
    · show (x 2).val = 0 + 1 * (x 2).val; omega
  · exact head_piece _ _ 2 e2 16 b h2 rfl rfl
  · exact head_piece _ _ 1 e1 8 b h1 rfl rfl
  · exact head_piece _ _ 0 e0 0 b h0 rfl rfl
  · by_cases c3 : 24 ≤ o + (y 1).val
    · exact ⟨_, .head _, in_plane 24 256 b _ h3 _ (by omega) (by omega)⟩
    by_cases c2 : 16 ≤ o + (y 1).val
    · exact ⟨_, .tail _ (.head _), in_plane 16 8 b _ h2 _ (by omega) (by omega)⟩
    by_cases c1 : 8 ≤ o + (y 1).val
    · exact ⟨_, .tail _ (.tail _ (.head _)), in_plane 8 8 b _ h1 _ (by omega) (by omega)⟩
    · exact ⟨_, .tail _ (.tail _ (.tail _ (.head _))), in_plane 0 8 b _ h0 _ (by omega) (by omega)⟩
  · have e1 : (((Rect.unit (s := S2x280x1024) ![b, o, 0] ![1, 256, 1024] hw).toLoadRect.idx y) 1).val
        = o + (y 1).val := by show o + 1 * (y 1).val = _; omega
    have e2 : ((Rect.unit (s := S2x280x1024) ![b, o, 0] ![1, 256, 1024] hw).toLoadRect.idx y) 2 = y 2 :=
      Fin.ext (by show 0 + 1 * (y 2).val = _; omega)
    unfold planeOf windowOf
    have e3 : (o + (y 1).val - 24) % 256 = o + (y 1).val - 24 := Nat.mod_eq_of_lt (by omega)
    simp only [e1, e2, e3]

end Cert.Lru
-- ==== Proof.Lru.Point.lean ====
/- What each grid point of the recurrent block leaves, in terms of the block functions and what the point before left. -/
module

public import proofs.«01_k».proof.Proof.Lru.Window

@[expose] public section

set_option maxRecDepth 16384

noncomputable section

namespace Cert.Lru

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

/-- The weights a grid point loads. -/
def weights (t : Fin cfg0.N) : Weights F where
  g := iblk m c 1 t
  win0 := View.ld (iblk m c 2 t) (Rect.unit ![0, 0] ![1024, 1024] inb_S1024x2048_S1024x1024_0_0)
  win1 := View.ld (iblk m c 2 t) (Rect.unit ![0, 1024] ![1024, 1024] inb_S1024x2048_S1024x1024_0_1024)
  cb := iblk m c 4 t
  cw := ![View.ld (iblk m c 3 t) (Rect.unit ![0, 0] ![1, 1024] inb_S4x1024_S1x1024_0_0),
    View.ld (iblk m c 3 t) (Rect.unit ![1, 0] ![1, 1024] inb_S4x1024_S1x1024_1_0),
    View.ld (iblk m c 3 t) (Rect.unit ![2, 0] ![1, 1024] inb_S4x1024_S1x1024_2_0),
    View.ld (iblk m c 3 t) (Rect.unit ![3, 0] ![1, 1024] inb_S4x1024_S1x1024_3_0)]
  wa := ![View.ld (iblk m c 5 t) (Rect.unit ![0, 0, 0] ![1, 256, 256] inb_S4x256x256_S1x256x256_0_0_0),
    View.ld (iblk m c 5 t) (Rect.unit ![1, 0, 0] ![1, 256, 256] inb_S4x256x256_S1x256x256_1_0_0),
    View.ld (iblk m c 5 t) (Rect.unit ![2, 0, 0] ![1, 256, 256] inb_S4x256x256_S1x256x256_2_0_0),
    View.ld (iblk m c 5 t) (Rect.unit ![3, 0, 0] ![1, 256, 256] inb_S4x256x256_S1x256x256_3_0_0)]
  ba := iblk m c 6 t
  wx := ![View.ld (iblk m c 7 t) (Rect.unit ![0, 0, 0] ![1, 256, 256] inb_S4x256x256_S1x256x256_0_0_0),
    View.ld (iblk m c 7 t) (Rect.unit ![1, 0, 0] ![1, 256, 256] inb_S4x256x256_S1x256x256_1_0_0),
    View.ld (iblk m c 7 t) (Rect.unit ![2, 0, 0] ![1, 256, 256] inb_S4x256x256_S1x256x256_2_0_0),
    View.ld (iblk m c 7 t) (Rect.unit ![3, 0, 0] ![1, 256, 256] inb_S4x256x256_S1x256x256_3_0_0)]
  bx := iblk m c 8 t
  lam := iblk m c 9 t
  wout := iblk m c 10 t

/-- The two sequences' blocks of the input. -/
def xBlock (t : Fin cfg0.N) : Fin 2 → Vec F S1x256x1024 .f32 :=
  ![View.ld (iblk m c 0 t) (Rect.unit ![0, 0, 0] ![1, 256, 1024] inb_S2x256x1024_S1x256x1024_0_0_0),
    View.ld (iblk m c 0 t) (Rect.unit ![1, 0, 0] ![1, 256, 1024] inb_S2x256x1024_S1x256x1024_1_0_0)]

/-- The carried rows of the two sequences. -/
def haloOf (v : Vec F S2x3x8x1024 .f32) : Fin 2 → Fin 3 → Vec F S1x1x8x1024 .f32 :=
  ![![View.ld v (Rect.unit ![0, 0, 0, 0] ![1, 1, 8, 1024] inb_S2x3x8x1024_S1x1x8x1024_0_0_0_0),
      View.ld v (Rect.unit ![0, 1, 0, 0] ![1, 1, 8, 1024] inb_S2x3x8x1024_S1x1x8x1024_0_1_0_0),
      View.ld v (Rect.unit ![0, 2, 0, 0] ![1, 1, 8, 1024] inb_S2x3x8x1024_S1x1x8x1024_0_2_0_0)],
    ![View.ld v (Rect.unit ![1, 0, 0, 0] ![1, 1, 8, 1024] inb_S2x3x8x1024_S1x1x8x1024_1_0_0_0),
      View.ld v (Rect.unit ![1, 1, 0, 0] ![1, 1, 8, 1024] inb_S2x3x8x1024_S1x1x8x1024_1_1_0_0),
      View.ld v (Rect.unit ![1, 2, 0, 0] ![1, 1, 8, 1024] inb_S2x3x8x1024_S1x1x8x1024_1_2_0_0)]]

/-- The carried state of the two sequences. -/
def stateOf (v : Vec F S2x1x1024 .f32) : Fin 2 → Vec F S1x1x1024 .f32 :=
  ![View.ld v (Rect.unit ![0, 0, 0] ![1, 1, 1024] inb_S2x1x1024_S1x1x1024_0_0_0),
    View.ld v (Rect.unit ![1, 0, 0] ![1, 1, 1024] inb_S2x1x1024_S1x1x1024_1_0_0)]

/-! The two sequences' copies of the same operations are cut at different places; each is the first form below. -/

section
variable (xr v : FVec F S256x1024 .f32) (w0 w1 w2 w3 v0 v1 v2 v3 : Vec F S1x256x256 .bf16) (ba bx lam g : Vec F S1x1024 .f32)
  (x : Vec F S1x256x1024 .f32) (p : FVec F S256x256 .bf16) (win wo : Vec F S1024x1024 .bf16) (k : IVec S8x1 1)
  (halo : Vec F S1x1x8x1024 .f32)

theorem gate_right : k0_pay199 (k0_pay191 xr) (k0_pay194 xr w0) (k0_pay195 xr) w1 w2 w3 bx = sigm xr w0 w1 w2 w3 bx := rfl
theorem decay_left : k0_pay61 (k0_pay50 xr) (k0_pay52 xr w0) (k0_pay55 xr w1) (k0_pay57 xr) (k0_pay58 w2)
    (constant S256x256 .f32 0x00000000#32) w3 ba lam = k0_pay201 (sigm xr w0 w1 w2 w3 ba) lam := rfl
theorem drive_left : k0_pay62 xr (k0_pay50 xr) (k0_pay52 xr w0) (k0_pay53 xr v0) (k0_pay55 xr w1) (k0_pay56 xr v1) (k0_pay57 xr)
    (k0_pay58 w2) (constant S256x256 .f32 0x00000000#32) v2 w3 v3 ba bx lam
    = k0_pay202 xr (sigm xr w0 w1 w2 w3 ba) (sigm xr v0 v1 v2 v3 bx) lam := rfl
theorem raw_right : k0_pay26 p (k0_pay18 x) (k0_pay20 g) (k0_pay21 x) win = k0_pay25 (k0_pay19 p x g) win := rfl
theorem gate_branch_right : k0_pay24 p (k0_pay18 x) (k0_pay20 g) (k0_pay21 x) win = k0_pay23 (k0_pay19 p x g) win := rfl
theorem head_left (y : FVec F S256x1024 .bf16) : k0_pay28 k y win halo = k0_pay39 k (k0_pay38 (k0_pay25 y win)) halo := rfl
theorem head_right1 : k0_pay42 k v halo = k0_pay31 k v halo := rfl
theorem head_right2 : k0_pay45 k (k0_pay44 v) halo = k0_pay34 k v halo := rfl
theorem carry_left0 (y : FVec F S256x1024 .bf16) : k0_pay29 (k0_pay27 y win) = k0_pay40 (k0_pay38 (k0_pay25 y win)) := rfl
theorem carry_right1 : k0_pay43 v = k0_pay32 v := rfl
theorem carry_right2 : k0_pay46 (k0_pay44 v) = k0_pay35 (k0_pay33 v) := rfl
theorem rows_right : k0_pay47 v = k0_pay36 v := rfl
theorem conv_right (cb c0 c1 c2 c3 : Vec F S1x1024 .f32) (e0 e1 e2 e3 : Vec F S1x256x1024 .f32) :
    k0_pay49 (k0_pay48 cb e0 c0 e1 c1) e2 c2 e3 c3 = k0_pay37 cb e0 c0 e1 c1 e2 c2 e3 c3 := rfl
theorem result_right (h : FVec F S256x1024 .f32) : k0_pay2 p (k0_pay18 x) h (k0_pay319 v) (k0_pay320 v) k0_pay321 wo
    = k0_pay1 p (k0_pay17 x) (truncf .bf16 (mulf h (act v)) bitsLt_bf16_f32) wo := rfl
end

/-- The result's block of both sequences, as stored. -/
def outVec (w : Weights F) (x : Fin 2 → Vec F S1x256x1024 .f32) (halo : Fin 2 → Fin 3 → Vec F S1x1x8x1024 .f32)
    (hl : Fin 2 → Vec F S1x1x1024 .f32) : Vec F S2x256x1024 .f32 :=
  View.canon [⟨Rect.unit ![1, 0, 0] ![1, 256, 1024] inb_S2x256x1024_S1x256x1024_1_0_0, outBlock w (x 1) (halo 1) (hl 1)⟩,
    ⟨Rect.unit ![0, 0, 0] ![1, 256, 1024] inb_S2x256x1024_S1x256x1024_0_0_0, outBlock w (x 0) (halo 0) (hl 0)⟩]

/-- The carried rows of both sequences, as stored over what was there. -/
def haloVec (w : Weights F) (x : Fin 2 → Vec F S1x256x1024 .f32) (L : List (View.Piece (Elt F) S2x3x8x1024 .f32)) :
    Vec F S2x3x8x1024 .f32 :=
  View.canon (⟨Rect.unit ![1, 2, 0, 0] ![1, 1, 8, 1024] inb_S2x3x8x1024_S1x1x8x1024_1_2_0_0, nextHalo w (x 1) 2⟩ ::
    ⟨Rect.unit ![1, 1, 0, 0] ![1, 1, 8, 1024] inb_S2x3x8x1024_S1x1x8x1024_1_1_0_0, nextHalo w (x 1) 1⟩ ::
    ⟨Rect.unit ![1, 0, 0, 0] ![1, 1, 8, 1024] inb_S2x3x8x1024_S1x1x8x1024_1_0_0_0, nextHalo w (x 1) 0⟩ ::
    ⟨Rect.unit ![0, 2, 0, 0] ![1, 1, 8, 1024] inb_S2x3x8x1024_S1x1x8x1024_0_2_0_0, nextHalo w (x 0) 2⟩ ::
    ⟨Rect.unit ![0, 1, 0, 0] ![1, 1, 8, 1024] inb_S2x3x8x1024_S1x1x8x1024_0_1_0_0, nextHalo w (x 0) 1⟩ ::
    ⟨Rect.unit ![0, 0, 0, 0] ![1, 1, 8, 1024] inb_S2x3x8x1024_S1x1x8x1024_0_0_0_0, nextHalo w (x 0) 0⟩ :: L)

/-- The carried state of both sequences, as stored over what was there. -/
def stateVec (w : Weights F) (x : Fin 2 → Vec F S1x256x1024 .f32) (halo : Fin 2 → Fin 3 → Vec F S1x1x8x1024 .f32)
    (hl : Fin 2 → Vec F S1x1x1024 .f32) (L : List (View.Piece (Elt F) S2x1x1024 .f32)) : Vec F S2x1x1024 .f32 :=
  View.canon (⟨Rect.unit ![1, 0, 0] ![1, 1, 1024] inb_S2x1x1024_S1x1x1024_1_0_0, nextState w (x 1) (halo 1) (hl 1)⟩ ::
    ⟨Rect.unit ![0, 0, 0] ![1, 1, 1024] inb_S2x1x1024_S1x1x1024_0_0_0, nextState w (x 0) (halo 0) (hl 0)⟩ :: L)

/-- What a grid point finds in the two carried buffers: zeros at the first point of a pair of sequences, else what the point
before left. -/
def before (t : Fin cfg0.N) : Vec F S2x3x8x1024 .f32 × Vec F S2x1x1024 .f32 :=
  if t.val % 64 = 0 then (k0_pay3, k0_pay4)
  else (outsAt0 m c (t.val - 1) (lt_of_le_of_lt (Nat.sub_le _ _) t.isLt)).2

set_option maxHeartbeats 2000000 in
/-- A grid point's three arrays from its blocks and what it finds. -/
theorem point (t : Fin cfg0.N) : ∃ L L', outsAt0 m c t.val t.isLt =
    (outVec (weights m c t) (xBlock m c t) (haloOf (before m c t).1) (stateOf (before m c t).2),
      haloVec (weights m c t) (xBlock m c t) L,
      stateVec (weights m c t) (xBlock m c t) (haloOf (before m c t).1) (stateOf (before m c t).2) L') := by
  by_cases h : t.val % 64 = 0
  case' pos =>
    refine ⟨[⟨Rect.unit ![0, 0, 0, 0] ![2, 3, 8, 1024] inb_S2x3x8x1024_S2x3x8x1024_0_0_0_0, k0_pay3⟩],
      [⟨Rect.unit ![0, 0, 0] ![2, 1, 1024] inb_S2x1x1024_S2x1x1024_0_0_0, k0_pay4⟩], ?_⟩
    rw [before, if_pos h, outsAt0_A m c t h]
    frame_open
    simp (disch := decide) only [↓ View.readCov_skip, ↓ View.readCov_cons_toLoadRect, ↓ View.readCov_fill]
    frame_out
    try simp only [read_unread_whole, window_read 0 0, window_read 0 8, window_read 0 16, window_read 1 0, window_read 1 8, window_read 1 16]
    refine Prod.ext ?_ (Prod.ext ?_ ?_)
    all_goals dsimp only
  case' neg =>
    refine ⟨[], [], ?_⟩
    rw [before, if_neg h, outsAt0_B m c t h]
    frame_open
    simp (disch := decide) only [↓ View.readCov_skip, ↓ View.readCov_cons_toLoadRect, ↓ View.readCov_fill]
    frame_out
    simp only [read_unread_whole, window_read 0 0, window_read 0 8, window_read 0 16, window_read 1 0, window_read 1 8, window_read 1 16]
    refine Prod.ext ?_ (Prod.ext ?_ ?_)
    all_goals dsimp only
  all_goals
    simp only [raw_right, gate_branch_right, head_left, head_right1, head_right2, carry_left0, carry_right1, carry_right2,
      rows_right, conv_right, result_right, gate_right]
    simp only [outVec, haloVec, stateVec, outBlock, nextHalo, nextState, result, states, hLast, convolved, raw, gate, normed,
      conv, windows, head, weights, decay, drive, hAll, hRow, sigm, hSeg, hIn, hLoc, aCum, row, rows, xBlock, haloOf, stateOf,
      perm, unperm, Matrix.cons_val, Nat.reduceMul]
    try simp only [k0_pay63, k0_pay64, k0_pay65, k0_pay66, k0_pay67, k0_pay68, k0_pay69, k0_pay70,
      k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88,
      k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106,
      k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124,
      k0_pay125, k0_pay126, k0_pay127, k0_pay128, k0_pay129, k0_pay130, k0_pay131, k0_pay132, k0_pay133,
      k0_pay134, k0_pay135, k0_pay136, k0_pay137, k0_pay138, k0_pay139, k0_pay140, k0_pay141, k0_pay142,
      k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160,
      k0_pay161, k0_pay162, k0_pay163, k0_pay164, k0_pay165, k0_pay166, k0_pay167, k0_pay168, k0_pay169,
      k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187,
      k0_pay188, k0_pay189, k0_pay190, k0_pay203, k0_pay204, k0_pay205, k0_pay206, k0_pay207, k0_pay208,
      k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226,
      k0_pay227, k0_pay228, k0_pay229, k0_pay230, k0_pay231, k0_pay232, k0_pay233, k0_pay234, k0_pay235,
      k0_pay236, k0_pay237, k0_pay238, k0_pay239, k0_pay240, k0_pay241, k0_pay242, k0_pay243, k0_pay244,
      k0_pay245, k0_pay246, k0_pay247, k0_pay248, k0_pay249, k0_pay250, k0_pay251, k0_pay252, k0_pay253,
      k0_pay254, k0_pay255, k0_pay256, k0_pay257, k0_pay258, k0_pay259, k0_pay260, k0_pay261, k0_pay262,
      k0_pay263, k0_pay264, k0_pay265, k0_pay266, k0_pay267, k0_pay268, k0_pay269, k0_pay270, k0_pay271,
      k0_pay272, k0_pay273, k0_pay274, k0_pay275, k0_pay276, k0_pay277, k0_pay278, k0_pay279, k0_pay280,
      k0_pay281, k0_pay282, k0_pay283, k0_pay284, k0_pay285, k0_pay286, k0_pay287, k0_pay288, k0_pay289,
      k0_pay290, k0_pay291, k0_pay292, k0_pay293, k0_pay294, k0_pay295, k0_pay296, k0_pay297, k0_pay298,
      k0_pay299, k0_pay300, k0_pay301, k0_pay302, k0_pay303, k0_pay304, k0_pay305, k0_pay306, k0_pay307,
      k0_pay308, k0_pay309, k0_pay310, k0_pay311, k0_pay312, k0_pay313, k0_pay314, k0_pay315, k0_pay316,
      k0_pay317, k0_pay318]
    try simp only [decay_left, drive_left, sigm]
    rfl

end Cert.Lru
-- ==== Proof.Lru.Reads.lean ====
/- What a grid point of the recurrent kernel loads, in terms of the program's arguments. -/
module

public import proofs.«01_k».proof.Proof.Lru.Rows
public import proofs.«01_k».proof.Proof.Lru.Point
public import proofs.«01_k».proof.Proof.Gen.KernelIdeal.Value

@[expose] public section

set_option maxRecDepth 16384

noncomputable section

namespace Cert.Lru

open Idealize.ShloMosaic Idealize.ShloMosaic.TcCoe Idealize.SL.Sem Cert.KernelIdeal Cert.KernelIdeal.Gen

/-- The weights as the program's arguments give them. -/
def argW (g : S1024.Idx → EReal) (win : S1024x2048.Idx → EReal) (cw : S4x1024.Idx → EReal) (cb : S1024.Idx → EReal)
    (wa : S4x256x256.Idx → EReal) (ba : S1024.Idx → EReal) (wx : S4x256x256.Idx → EReal) (bx lam : S1024.Idx → EReal)
    (wout : S1024x1024.Idx → EReal) : Weights Ideal where
  g := fun i => g (ix1 (i 1))
  win0 := fun i => win (ix2 (i 0) ⟨(i 1).val, lt_of_lt_of_le (i 1).isLt (by decide)⟩)
  win1 := fun i => win (ix2 (i 0) ⟨1024 + (i 1).val, lt_of_lt_of_le (Nat.add_lt_add_left (i 1).isLt 1024) (by decide)⟩)
  cb := fun i => cb (ix1 (i 1))
  cw k := fun i => cw (ix2 k (i 1))
  wa k := fun i => wa (ix3 k (i 1) (i 2))
  ba := fun i => ba (ix1 (i 1))
  wx k := fun i => wx (ix3 k (i 1) (i 2))
  bx := fun i => bx (ix1 (i 1))
  lam := fun i => lam (ix1 (i 1))
  wout := wout

/-- The softplus function of a vector, as the host computes it. -/
def softplusV (x : FVec Ideal S1024 .f32) : FVec Ideal S1024 .f32 :=
  let z : FVec Ideal S1024 .f32 := broadcastInDim S1024 ![] bcast_S_S1024 (constant S_ .f32 0x00000000#32)
  select (cmpf .une (subf x z) (subf x z)) (addf x z) (addf (maximumf x z) (Host.log1p (Host.exp (Host.negf (Host.absf (subf x z))))))

variable (m : (ℓ : Loc nD τ sig) → Buf (Elt Ideal) ℓ) (c : Dev nD)

/-- Where each operand's block lies at a grid point. -/
theorem idx : ∀ t : Fin cfg0.N,
    win0_0.index t (0 : Fin 3) = 0 ∧ win0_0.index t (1 : Fin 3) = t.val ∧ win0_0.index t (2 : Fin 3) = 0 ∧
    win0_1.index t (0 : Fin 2) = 0 ∧ win0_1.index t (1 : Fin 2) = 0 ∧ win0_2.index t (0 : Fin 2) = 0 ∧
    win0_2.index t (1 : Fin 2) = 0 ∧ win0_3.index t (0 : Fin 2) = 0 ∧ win0_3.index t (1 : Fin 2) = 0 ∧
    win0_4.index t (0 : Fin 2) = 0 ∧ win0_4.index t (1 : Fin 2) = 0 ∧ win0_5.index t (0 : Fin 3) = 0 ∧
    win0_5.index t (1 : Fin 3) = 0 ∧ win0_5.index t (2 : Fin 3) = 0 ∧ win0_6.index t (0 : Fin 2) = 0 ∧
    win0_6.index t (1 : Fin 2) = 0 ∧ win0_7.index t (0 : Fin 3) = 0 ∧ win0_7.index t (1 : Fin 3) = 0 ∧
    win0_7.index t (2 : Fin 3) = 0 ∧ win0_8.index t (0 : Fin 2) = 0 ∧ win0_8.index t (1 : Fin 2) = 0 ∧
    win0_9.index t (0 : Fin 2) = 0 ∧ win0_9.index t (1 : Fin 2) = 0 ∧ win0_10.index t (0 : Fin 2) = 0 ∧
    win0_10.index t (1 : Fin 2) = 0 := by
  decide

theorem entry_g : V m c main_v4
    = shapeCast S1x1024 (m ((c : Thread nD τ).loc main_arg1)) shapeCasts_S1024_S1x1024 := by
  unfold V
  simp only [hostOps0, hostOps0_1, hostOps0_2, List.flatten_cons, List.flatten_nil, List.append_nil, List.cons_append, List.nil_append]
  entry_read
  rfl

theorem entry_win : V m c main_v5
    = (truncf .bf16 (m ((c : Thread nD τ).loc main_arg2)) bitsLt_bf16_f32 : FVec Ideal S1024x2048 .bf16) := by
  unfold V
  simp only [hostOps0, hostOps0_1, hostOps0_2, List.flatten_cons, List.flatten_nil, List.append_nil, List.cons_append, List.nil_append]
  entry_read
  rfl

theorem entry_cb : V m c main_v6
    = shapeCast S1x1024 (m ((c : Thread nD τ).loc main_arg4)) shapeCasts_S1024_S1x1024 := by
  unfold V
  simp only [hostOps0, hostOps0_1, hostOps0_2, List.flatten_cons, List.flatten_nil, List.append_nil, List.cons_append, List.nil_append]
  entry_read
  rfl

theorem entry_wa : V m c main_v7
    = (truncf .bf16 (m ((c : Thread nD τ).loc main_arg5)) bitsLt_bf16_f32 : FVec Ideal S4x256x256 .bf16) := by
  unfold V
  simp only [hostOps0, hostOps0_1, hostOps0_2, List.flatten_cons, List.flatten_nil, List.append_nil, List.cons_append, List.nil_append]
  entry_read
  rfl

theorem entry_ba : V m c main_v8
    = shapeCast S1x1024 (m ((c : Thread nD τ).loc main_arg6)) shapeCasts_S1024_S1x1024 := by
  unfold V
  simp only [hostOps0, hostOps0_1, hostOps0_2, List.flatten_cons, List.flatten_nil, List.append_nil, List.cons_append, List.nil_append]
  entry_read
  rfl

theorem entry_wx : V m c main_v9
    = (truncf .bf16 (m ((c : Thread nD τ).loc main_arg7)) bitsLt_bf16_f32 : FVec Ideal S4x256x256 .bf16) := by
  unfold V
  simp only [hostOps0, hostOps0_1, hostOps0_2, List.flatten_cons, List.flatten_nil, List.append_nil, List.cons_append, List.nil_append]
  entry_read
  rfl

theorem entry_bx : V m c main_v10
    = shapeCast S1x1024 (m ((c : Thread nD τ).loc main_arg8)) shapeCasts_S1024_S1x1024 := by
  unfold V
  simp only [hostOps0, hostOps0_1, hostOps0_2, List.flatten_cons, List.flatten_nil, List.append_nil, List.cons_append, List.nil_append]
  entry_read
  rfl

theorem entry_lam : V m c main_v11
    = shapeCast S1x1024 (mulf (constant S1024 .f32 0xC1000000#32) (softplusV (Host.negf (m ((c : Thread nD τ).loc main_arg9))))) shapeCasts_S1024_S1x1024 := by
  unfold V
  simp only [hostOps0, hostOps0_1, hostOps0_2, List.flatten_cons, List.flatten_nil, List.append_nil, List.cons_append, List.nil_append]
  entry_read
  rfl

theorem entry_wout : V m c main_v12
    = (truncf .bf16 (m ((c : Thread nD τ).loc main_arg10)) bitsLt_bf16_f32 : FVec Ideal S1024x1024 .bf16) := by
  unfold V
  simp only [hostOps0, hostOps0_1, hostOps0_2, List.flatten_cons, List.flatten_nil, List.append_nil, List.cons_append, List.nil_append]
  entry_read
  rfl

/-- Softplus of an extended real. -/
def spS (x : EReal) : EReal := max x 0 + Ideal.log1p (Ideal.exp (-FloatOps.absf (F := Ideal) (φ := .f32) x))

/-- The log decays' factor from the layer's parameter. -/
def lamS (x : S1024.Idx → EReal) : S1024.Idx → EReal := fun i => Ideal.ofBits .f32 0xC1000000#32 * spS (-(x i))

theorem softplusV_apply (x : FVec Ideal S1024 .f32) (i : S1024.Idx) : softplusV x i = spS (x i) := by
  unfold softplusV
  pointwise
  exact if_neg (fun h => h rfl)

/-- The kernel's weights. -/
def wts : Weights Ideal :=
  argW (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (lamS (m ((c : Thread nD τ).loc main_arg9)))
    (m ((c : Thread nD τ).loc main_arg10))

/-- An entry of a block read at an offset. -/
theorem ld2 {Val : EltTy → Type} {e : EltTy} {n0 p0 o0 n1 p1 o1 : ℕ} (v : (⟨2, ![n0, n1]⟩ : Shape).Idx → Val e)
    (h : ∀ a, (![o0, o1] : Fin 2 → ℕ) a + (![p0, p1] : Fin 2 → ℕ) a ≤ (![n0, n1] : Fin 2 → ℕ) a)
    (i : Fin p0) (i1 : Fin n0) (j : Fin p1) (j1 : Fin n1) (hi : i1.val = o0 + i.val) (hj : j1.val = o1 + j.val) :
    View.ld v (Rect.unit (s := ⟨2, ![n0, n1]⟩) ![o0, o1] ![p0, p1] h) (ix2 i j) = v (ix2 i1 j1) := by
  refine congrArg v (funext fun a => Fin.ext ?_)
  fin_cases a
  · show o0 + 1 * i.val = i1.val; omega
  · show o1 + 1 * j.val = j1.val; omega

/-- An entry of a block read at an offset. -/
theorem ld3 {Val : EltTy → Type} {e : EltTy} {n0 p0 o0 n1 p1 o1 n2 p2 o2 : ℕ} (v : (⟨3, ![n0, n1, n2]⟩ : Shape).Idx → Val e)
    (h : ∀ a, (![o0, o1, o2] : Fin 3 → ℕ) a + (![p0, p1, p2] : Fin 3 → ℕ) a ≤ (![n0, n1, n2] : Fin 3 → ℕ) a)
    (i : Fin p0) (i1 : Fin n0) (j : Fin p1) (j1 : Fin n1) (k : Fin p2) (k1 : Fin n2) (hi : i1.val = o0 + i.val) (hj : j1.val = o1 + j.val) (hk : k1.val = o2 + k.val) :
    View.ld v (Rect.unit (s := ⟨3, ![n0, n1, n2]⟩) ![o0, o1, o2] ![p0, p1, p2] h) (ix3 i j k) = v (ix3 i1 j1 k1) := by
  refine congrArg v (funext fun a => Fin.ext ?_)
  fin_cases a
  · show o0 + 1 * i.val = i1.val; omega
  · show o1 + 1 * j.val = j1.val; omega
  · show o2 + 1 * k.val = k1.val; omega

/-- An entry of a block read at an offset. -/
theorem ld4 {Val : EltTy → Type} {e : EltTy} {n0 p0 o0 n1 p1 o1 n2 p2 o2 n3 p3 o3 : ℕ} (v : (⟨4, ![n0, n1, n2, n3]⟩ : Shape).Idx → Val e)
    (h : ∀ a, (![o0, o1, o2, o3] : Fin 4 → ℕ) a + (![p0, p1, p2, p3] : Fin 4 → ℕ) a ≤ (![n0, n1, n2, n3] : Fin 4 → ℕ) a)
    (i : Fin p0) (i1 : Fin n0) (j : Fin p1) (j1 : Fin n1) (k : Fin p2) (k1 : Fin n2) (l : Fin p3) (l1 : Fin n3) (hi : i1.val = o0 + i.val) (hj : j1.val = o1 + j.val) (hk : k1.val = o2 + k.val) (hl : l1.val = o3 + l.val) :
    View.ld v (Rect.unit (s := ⟨4, ![n0, n1, n2, n3]⟩) ![o0, o1, o2, o3] ![p0, p1, p2, p3] h) (ix4 i j k l) = v (ix4 i1 j1 k1 l1) := by
  refine congrArg v (funext fun a => Fin.ext ?_)
  fin_cases a
  · show o0 + 1 * i.val = i1.val; omega
  · show o1 + 1 * j.val = j1.val; omega
  · show o2 + 1 * k.val = k1.val; omega
  · show o3 + 1 * l.val = l1.val; omega

theorem four : ∀ k : Fin 4, k = 0 ∨ k = 1 ∨ k = 2 ∨ k = 3 := by decide

theorem read_g (t : Fin cfg0.N) (i : Fin 1) (j : Fin 1024) : iblk m c 1 t (ix2 i j) = m ((c : Thread nD τ).loc main_arg1) (ix1 j) := by
  blk_simp [iblk, idx t]
  rw [entry_g]
  pointwise
  blk_ext [iblk, V, idx t]

theorem read_cb (t : Fin cfg0.N) (i : Fin 1) (j : Fin 1024) : iblk m c 4 t (ix2 i j) = m ((c : Thread nD τ).loc main_arg4) (ix1 j) := by
  blk_simp [iblk, idx t]
  rw [entry_cb]
  pointwise
  blk_ext [iblk, V, idx t]

theorem read_ba (t : Fin cfg0.N) (i : Fin 1) (j : Fin 1024) : iblk m c 6 t (ix2 i j) = m ((c : Thread nD τ).loc main_arg6) (ix1 j) := by
  blk_simp [iblk, idx t]
  rw [entry_ba]
  pointwise
  blk_ext [iblk, V, idx t]

theorem read_bx (t : Fin cfg0.N) (i : Fin 1) (j : Fin 1024) : iblk m c 8 t (ix2 i j) = m ((c : Thread nD τ).loc main_arg8) (ix1 j) := by
  blk_simp [iblk, idx t]
  rw [entry_bx]
  pointwise
  blk_ext [iblk, V, idx t]

theorem read_cw (t : Fin cfg0.N) (i : Fin 4) (j : Fin 1024) : iblk m c 3 t (ix2 i j) = m ((c : Thread nD τ).loc main_arg3) (ix2 i j) := by
  blk_simp [iblk, idx t]
  rw [V_main_arg3]
  pointwise
  blk_ext [iblk, V, idx t]

theorem read_win (t : Fin cfg0.N) (i : Fin 1024) (j : Fin 2048) : iblk m c 2 t (ix2 i j) = m ((c : Thread nD τ).loc main_arg2) (ix2 i j) := by
  blk_simp [iblk, idx t]
  rw [entry_win]
  pointwise
  blk_ext [iblk, V, idx t]

theorem read_wout (t : Fin cfg0.N) (i : Fin 1024) (j : Fin 1024) : iblk m c 10 t (ix2 i j) = m ((c : Thread nD τ).loc main_arg10) (ix2 i j) := by
  blk_simp [iblk, idx t]
  rw [entry_wout]
  pointwise
  blk_ext [iblk, V, idx t]

theorem read_wa (t : Fin cfg0.N) (i : Fin 4) (j : Fin 256) (k : Fin 256) : iblk m c 5 t (ix3 i j k) = m ((c : Thread nD τ).loc main_arg5) (ix3 i j k) := by
  blk_simp [iblk, idx t]
  rw [entry_wa]
  pointwise
  blk_ext [iblk, V, idx t]

theorem read_wx (t : Fin cfg0.N) (i : Fin 4) (j : Fin 256) (k : Fin 256) : iblk m c 7 t (ix3 i j k) = m ((c : Thread nD τ).loc main_arg7) (ix3 i j k) := by
  blk_simp [iblk, idx t]
  rw [entry_wx]
  pointwise
  blk_ext [iblk, V, idx t]

theorem read_lam (t : Fin cfg0.N) (i : Fin 1) (j : Fin 1024) :
    iblk m c 9 t (ix2 i j) = lamS (m ((c : Thread nD τ).loc main_arg9)) (ix1 j) := by
  blk_simp [iblk, idx t]
  rw [entry_lam]
  pointwise [lamS]
  rw [softplusV_apply]
  refine congrArg (fun y : EReal => Ideal.ofBits .f32 3238002688#32 * spS (-y)) ?_
  blk_ext [iblk, V, idx t]

theorem read_x (t : Fin cfg0.N) (i : Fin 2) (j : Fin 256) (k : Fin 1024) : iblk m c 0 t (ix3 i j k) = m ((c : Thread nD τ).loc main_arg0) (ix3 i ⟨256 * t.val + j.val, by have := t.isLt; have : cfg0.N = 64 := N_0; omega⟩ k) := by
  blk_simp [iblk, idx t]
  rw [V_main_arg0]
  pointwise
  blk_ext [iblk, V, idx t]

set_option maxHeartbeats 2000000 in
theorem weights_eq (t : Fin cfg0.N) : weights m c t = wts m c := by
  unfold weights wts argW
  congr 1
  · funext i
    rw [eq_ix2 i]
    exact read_g m c t _ _
  · funext i
    rw [eq_ix2 i]
    exact (ld2 (iblk m c 2 t) inb_S1024x2048_S1024x1024_0_0 (i 0) (i 0) (i 1) _ (by omega) (Nat.zero_add _).symm).trans (read_win m c t _ _)
  · funext i
    rw [eq_ix2 i]
    exact (ld2 (iblk m c 2 t) inb_S1024x2048_S1024x1024_0_1024 (i 0) (i 0) (i 1) _ (by omega) rfl).trans (read_win m c t _ _)
  · funext i
    rw [eq_ix2 i]
    exact read_cb m c t _ _
  · funext k i
    obtain rfl | rfl | rfl | rfl := four k
    · rw [eq_ix2 i]
      exact (ld2 (iblk m c 3 t) inb_S4x1024_S1x1024_0_0 (i 0) 0 (i 1) (i 1) (by have h : (i 0).val < 1 := (i 0).isLt; show 0 = 0 + (i 0).val; omega) (by omega)).trans
        (read_cw m c t _ _)
    · rw [eq_ix2 i]
      exact (ld2 (iblk m c 3 t) inb_S4x1024_S1x1024_1_0 (i 0) 1 (i 1) (i 1) (by have h : (i 0).val < 1 := (i 0).isLt; show 1 = 1 + (i 0).val; omega) (by omega)).trans
        (read_cw m c t _ _)
    · rw [eq_ix2 i]
      exact (ld2 (iblk m c 3 t) inb_S4x1024_S1x1024_2_0 (i 0) 2 (i 1) (i 1) (by have h : (i 0).val < 1 := (i 0).isLt; show 2 = 2 + (i 0).val; omega) (by omega)).trans
        (read_cw m c t _ _)
    · rw [eq_ix2 i]
      exact (ld2 (iblk m c 3 t) inb_S4x1024_S1x1024_3_0 (i 0) 3 (i 1) (i 1) (by have h : (i 0).val < 1 := (i 0).isLt; show 3 = 3 + (i 0).val; omega) (by omega)).trans
        (read_cw m c t _ _)
  · funext k i
    obtain rfl | rfl | rfl | rfl := four k
    · rw [eq_ix3 i]
      exact (ld3 (iblk m c 5 t) inb_S4x256x256_S1x256x256_0_0_0 (i 0) 0 (i 1) (i 1) (i 2) (i 2) (by have h : (i 0).val < 1 := (i 0).isLt; show 0 = 0 + (i 0).val; omega) (by omega) (by omega)).trans
        (read_wa m c t _ _ _)
    · rw [eq_ix3 i]
      exact (ld3 (iblk m c 5 t) inb_S4x256x256_S1x256x256_1_0_0 (i 0) 1 (i 1) (i 1) (i 2) (i 2) (by have h : (i 0).val < 1 := (i 0).isLt; show 1 = 1 + (i 0).val; omega) (by omega) (by omega)).trans
        (read_wa m c t _ _ _)
    · rw [eq_ix3 i]
      exact (ld3 (iblk m c 5 t) inb_S4x256x256_S1x256x256_2_0_0 (i 0) 2 (i 1) (i 1) (i 2) (i 2) (by have h : (i 0).val < 1 := (i 0).isLt; show 2 = 2 + (i 0).val; omega) (by omega) (by omega)).trans
        (read_wa m c t _ _ _)
    · rw [eq_ix3 i]
      exact (ld3 (iblk m c 5 t) inb_S4x256x256_S1x256x256_3_0_0 (i 0) 3 (i 1) (i 1) (i 2) (i 2) (by have h : (i 0).val < 1 := (i 0).isLt; show 3 = 3 + (i 0).val; omega) (by omega) (by omega)).trans
        (read_wa m c t _ _ _)
  · funext i
    rw [eq_ix2 i]
    exact read_ba m c t _ _
  · funext k i
    obtain rfl | rfl | rfl | rfl := four k
    · rw [eq_ix3 i]
      exact (ld3 (iblk m c 7 t) inb_S4x256x256_S1x256x256_0_0_0 (i 0) 0 (i 1) (i 1) (i 2) (i 2) (by have h : (i 0).val < 1 := (i 0).isLt; show 0 = 0 + (i 0).val; omega) (by omega) (by omega)).trans
        (read_wx m c t _ _ _)
    · rw [eq_ix3 i]
      exact (ld3 (iblk m c 7 t) inb_S4x256x256_S1x256x256_1_0_0 (i 0) 1 (i 1) (i 1) (i 2) (i 2) (by have h : (i 0).val < 1 := (i 0).isLt; show 1 = 1 + (i 0).val; omega) (by omega) (by omega)).trans
        (read_wx m c t _ _ _)
    · rw [eq_ix3 i]
      exact (ld3 (iblk m c 7 t) inb_S4x256x256_S1x256x256_2_0_0 (i 0) 2 (i 1) (i 1) (i 2) (i 2) (by have h : (i 0).val < 1 := (i 0).isLt; show 2 = 2 + (i 0).val; omega) (by omega) (by omega)).trans
        (read_wx m c t _ _ _)
    · rw [eq_ix3 i]
      exact (ld3 (iblk m c 7 t) inb_S4x256x256_S1x256x256_3_0_0 (i 0) 3 (i 1) (i 1) (i 2) (i 2) (by have h : (i 0).val < 1 := (i 0).isLt; show 3 = 3 + (i 0).val; omega) (by omega) (by omega)).trans
        (read_wx m c t _ _ _)
  · funext i
    rw [eq_ix2 i]
    exact read_bx m c t _ _
  · funext i
    rw [eq_ix2 i]
    exact read_lam m c t _ _
  · funext i
    rw [eq_ix2 i]
    exact read_wout m c t _ _

end Cert.Lru
-- ==== Proof.Lru.Sweep.lean ====
/- The recurrent kernel's result: every grid point leaves its block of the sequence's result. -/
module

public import proofs.«01_k».proof.Proof.Lru.Reads

@[expose] public section

set_option maxRecDepth 16384

noncomputable section

namespace Cert.Lru

open Idealize.ShloMosaic Idealize.ShloMosaic.TcCoe Idealize.SL.Sem Cert.KernelIdeal Cert.KernelIdeal.Gen

/-! ## Softplus is nonnegative -/

theorem log1p_nonneg {x : EReal} (h : 0 ≤ x) : 0 ≤ Ideal.log1p x := by
  unfold Ideal.log1p
  have h1 : (1 : EReal) ≤ 1 + x := le_add_of_nonneg_right h
  generalize 1 + x = y at h1
  induction y with
  | bot => exact absurd (lt_of_lt_of_le zero_lt_one h1) (by simp)
  | top => exact le_top
  | coe r =>
    have h2 : (1 : ℝ) ≤ r := by exact_mod_cast h1
    show (0 : EReal) ≤ if r ≤ 0 then ⊥ else (Real.log r : EReal)
    rw [if_neg (by linarith)]
    exact_mod_cast Real.log_nonneg h2

theorem spS_nonneg (x : EReal) : 0 ≤ spS x := add_nonneg (le_max_right _ _) (log1p_nonneg (exp_nonneg _))

theorem lamS_nonpos (x : S1024.Idx → EReal) (i : S1024.Idx) : lamS x i ≤ 0 := by
  unfold lamS
  rw [show Ideal.ofBits .f32 0xC1000000#32 = ((-8 : ℝ) : EReal) by
    simp [Ideal.ofBits, Ideal.ieee, -EReal.coe_mul, -EReal.coe_neg]; norm_num]
  exact mul_nonpos_of_nonpos_of_nonneg (by exact_mod_cast (by norm_num : (-8 : ℝ) ≤ 0)) (spS_nonneg _)

variable (m : (ℓ : Loc nD τ sig) → Buf (Elt Ideal) ℓ) (c : Dev nD)

theorem wts_lam (d : Fin 1024) : (wts m c).lam (ix2 0 d) ≤ 0 := lamS_nonpos _ _

/-! ## The sequences -/

/-- Sequence `b` of the input. -/
def inS (x : S2x16384x1024.Idx → EReal) (b : Fin 2) : Series := fun t d => if h : t < 16384 then x (ix3 b ⟨t, h⟩ d) else 0

theorem two : ∀ b : Fin 2, b = 0 ∨ b = 1 := by decide
theorem three : ∀ b : Fin 3, b = 0 ∨ b = 1 ∨ b = 2 := by decide

theorem xBlock_holds (t : Fin cfg0.N) (b : Fin 2) :
    Holds (xBlock m c t b) (inS (m ((c : Thread nD τ).loc main_arg0)) b) (256 * t.val) := fun q d => by
  have ht : t.val < 64 := lt_of_lt_of_eq t.isLt N_0
  unfold inS
  rw [dif_pos (by omega)]
  obtain rfl | rfl := two b
  · exact (ld3 (iblk m c 0 t) inb_S2x256x1024_S1x256x1024_0_0_0 0 0 q q d d rfl (by omega) (by omega)).trans (read_x m c t _ _ _)
  · exact (ld3 (iblk m c 0 t) inb_S2x256x1024_S1x256x1024_1_0_0 0 1 q q d d rfl (by omega) (by omega)).trans (read_x m c t _ _ _)

/-! ## Reading back what a point stored -/

section
variable {Val : EltTy → Type} [∀ e, Nonempty (Val e)] {e : EltTy}

theorem hit3 {n0 n1 n2 p0 p1 p2 o0 o1 o2 : ℕ} (h) (P : (⟨3, ![p0, p1, p2]⟩ : Shape).Idx → Val e)
    (L : List (View.Piece Val ⟨3, ![n0, n1, n2]⟩ e)) (i : Fin p0) (i1 : Fin n0) (j : Fin p1) (j1 : Fin n1) (k : Fin p2) (k1 : Fin n2)
    (hi : i1.val = o0 + i.val) (hj : j1.val = o1 + j.val) (hk : k1.val = o2 + k.val) :
    View.canon (⟨Rect.unit (s := ⟨3, ![n0, n1, n2]⟩) ![o0, o1, o2] ![p0, p1, p2] h, P⟩ :: L) (ix3 i1 j1 k1) = P (ix3 i j k) := by
  have : ix3 i1 j1 k1 = (Rect.unit (s := ⟨3, ![n0, n1, n2]⟩) ![o0, o1, o2] ![p0, p1, p2] h).emb (ix3 i j k) := by
    funext a
    refine Fin.ext ?_
    fin_cases a
    · show i1.val = o0 + 1 * i.val; omega
    · show j1.val = o1 + 1 * j.val; omega
    · show k1.val = o2 + 1 * k.val; omega
  rw [this]
  exact View.canon_cons_emb _ _ _ _

theorem skip3 {n0 n1 n2 p0 p1 p2 o0 o1 o2 : ℕ} (h) (P : (⟨3, ![p0, p1, p2]⟩ : Shape).Idx → Val e)
    (L : List (View.Piece Val ⟨3, ![n0, n1, n2]⟩ e)) (i1 : Fin n0) (j1 : Fin n1) (k1 : Fin n2)
    (hi : i1.val < o0 ∨ o0 + p0 ≤ i1.val) :
    View.canon (⟨Rect.unit (s := ⟨3, ![n0, n1, n2]⟩) ![o0, o1, o2] ![p0, p1, p2] h, P⟩ :: L) (ix3 i1 j1 k1) = View.canon L (ix3 i1 j1 k1) := by
  refine View.canon_cons_of_not_mem _ _ fun hm => ?_
  replace hm : ix3 i1 j1 k1 ∈ (Rect.unit (s := ⟨3, ![n0, n1, n2]⟩) ![o0, o1, o2] ![p0, p1, p2] h).set := hm
  have h0 : o0 ≤ i1.val ∧ i1.val < o0 + p0 := Rect.mem_set_unit.1 hm 0
  omega

theorem hit4 {n0 n1 n2 n3 p0 p1 p2 p3 o0 o1 o2 o3 : ℕ} (h) (P : (⟨4, ![p0, p1, p2, p3]⟩ : Shape).Idx → Val e)
    (L : List (View.Piece Val ⟨4, ![n0, n1, n2, n3]⟩ e)) (i : Fin p0) (i1 : Fin n0) (j : Fin p1) (j1 : Fin n1) (k : Fin p2) (k1 : Fin n2)
    (l : Fin p3) (l1 : Fin n3) (hi : i1.val = o0 + i.val) (hj : j1.val = o1 + j.val) (hk : k1.val = o2 + k.val) (hl : l1.val = o3 + l.val) :
    View.canon (⟨Rect.unit (s := ⟨4, ![n0, n1, n2, n3]⟩) ![o0, o1, o2, o3] ![p0, p1, p2, p3] h, P⟩ :: L) (ix4 i1 j1 k1 l1) = P (ix4 i j k l) := by
  have : ix4 i1 j1 k1 l1 = (Rect.unit (s := ⟨4, ![n0, n1, n2, n3]⟩) ![o0, o1, o2, o3] ![p0, p1, p2, p3] h).emb (ix4 i j k l) := by
    funext a
    refine Fin.ext ?_
    fin_cases a
    · show i1.val = o0 + 1 * i.val; omega
    · show j1.val = o1 + 1 * j.val; omega
    · show k1.val = o2 + 1 * k.val; omega
    · show l1.val = o3 + 1 * l.val; omega
  rw [this]
  exact View.canon_cons_emb _ _ _ _

theorem skip4 {n0 n1 n2 n3 p0 p1 p2 p3 o0 o1 o2 o3 : ℕ} (h) (P : (⟨4, ![p0, p1, p2, p3]⟩ : Shape).Idx → Val e)
    (L : List (View.Piece Val ⟨4, ![n0, n1, n2, n3]⟩ e)) (i1 : Fin n0) (j1 : Fin n1) (k1 : Fin n2) (l1 : Fin n3)
    (hi : (i1.val < o0 ∨ o0 + p0 ≤ i1.val) ∨ (j1.val < o1 ∨ o1 + p1 ≤ j1.val)) :
    View.canon (⟨Rect.unit (s := ⟨4, ![n0, n1, n2, n3]⟩) ![o0, o1, o2, o3] ![p0, p1, p2, p3] h, P⟩ :: L) (ix4 i1 j1 k1 l1)
      = View.canon L (ix4 i1 j1 k1 l1) := by
  refine View.canon_cons_of_not_mem _ _ fun hm => ?_
  replace hm : ix4 i1 j1 k1 l1 ∈ (Rect.unit (s := ⟨4, ![n0, n1, n2, n3]⟩) ![o0, o1, o2, o3] ![p0, p1, p2, p3] h).set := hm
  have h0 : o0 ≤ i1.val ∧ i1.val < o0 + p0 := Rect.mem_set_unit.1 hm 0
  have h1 : o1 ≤ j1.val ∧ j1.val < o1 + p1 := Rect.mem_set_unit.1 hm 1
  omega
end

variable (w : Weights Ideal) (x : Fin 2 → Vec Ideal S1x256x1024 .f32) (halo : Fin 2 → Fin 3 → Vec Ideal S1x1x8x1024 .f32)
  (hl : Fin 2 → Vec Ideal S1x1x1024 .f32)

theorem outVec_apply (b : Fin 2) (q : Fin 256) (d : Fin 1024) :
    outVec w x halo hl (ix3 b q d) = outBlock w (x b) (halo b) (hl b) (ix3 0 q d) := by
  unfold outVec
  obtain rfl | rfl := two b
  · rw [skip3 _ _ _ 0 q d (by decide), hit3 _ _ _ 0 0 q q d d (by rfl) (by omega) (by omega)]
  · rw [hit3 _ _ _ 0 1 q q d d (by rfl) (by omega) (by omega)]

theorem stateOf_apply (v : Vec Ideal S2x1x1024 .f32) (b : Fin 2) (d : Fin 1024) : stateOf v b (ix3 0 0 d) = v (ix3 b 0 d) := by
  obtain rfl | rfl := two b
  · exact ld3 v inb_S2x1x1024_S1x1x1024_0_0_0 0 0 0 0 d d rfl rfl (by omega)
  · exact ld3 v inb_S2x1x1024_S1x1x1024_1_0_0 0 1 0 0 d d rfl rfl (by omega)

theorem stateVec_apply (L) (b : Fin 2) (d : Fin 1024) :
    stateVec w x halo hl L (ix3 b 0 d) = nextState w (x b) (halo b) (hl b) (ix3 0 0 d) := by
  unfold stateVec
  obtain rfl | rfl := two b
  · rw [skip3 _ _ _ 0 0 d (by decide), hit3 _ _ _ 0 0 0 0 d d (by rfl) (by rfl) (by omega)]
  · rw [hit3 _ _ _ 0 1 0 0 d d (by rfl) (by rfl) (by omega)]

theorem haloVec_apply (L) (b : Fin 2) (r : Fin 3) (s : Fin 8) (d : Fin 1024) : haloVec w x L (ix4 b r s d) = nextHalo w (x b) r (ix4 0 0 s d) := by
  unfold haloVec
  obtain rfl | rfl := two b
  · obtain rfl | rfl | rfl := three r
    · rw [skip4 _ _ _ 0 0 s d (by decide), skip4 _ _ _ 0 0 s d (by decide), skip4 _ _ _ 0 0 s d (by decide),
        skip4 _ _ _ 0 0 s d (by decide), skip4 _ _ _ 0 0 s d (by decide), hit4 _ _ _ 0 0 0 0 s s d d (by rfl) (by rfl) (by omega) (by omega)]
    · rw [skip4 _ _ _ 0 1 s d (by decide), skip4 _ _ _ 0 1 s d (by decide), skip4 _ _ _ 0 1 s d (by decide),
        skip4 _ _ _ 0 1 s d (by decide), hit4 _ _ _ 0 0 0 1 s s d d (by rfl) (by rfl) (by omega) (by omega)]
    · rw [skip4 _ _ _ 0 2 s d (by decide), skip4 _ _ _ 0 2 s d (by decide), skip4 _ _ _ 0 2 s d (by decide),
        hit4 _ _ _ 0 0 0 2 s s d d (by rfl) (by rfl) (by omega) (by omega)]
  · obtain rfl | rfl | rfl := three r
    · rw [skip4 _ _ _ 1 0 s d (by decide), skip4 _ _ _ 1 0 s d (by decide), hit4 _ _ _ 0 1 0 0 s s d d (by rfl) (by rfl) (by omega) (by omega)]
    · rw [skip4 _ _ _ 1 1 s d (by decide), hit4 _ _ _ 0 1 0 1 s s d d (by rfl) (by rfl) (by omega) (by omega)]
    · rw [hit4 _ _ _ 0 1 0 2 s s d d (by rfl) (by rfl) (by omega) (by omega)]

theorem haloOf_apply (v : Vec Ideal S2x3x8x1024 .f32) (b : Fin 2) (r : Fin 3) (s : Fin 8) (d : Fin 1024) :
    haloOf v b r (ix4 0 0 s d) = v (ix4 b r s d) := by
  obtain rfl | rfl := two b
  · obtain rfl | rfl | rfl := three r
    · exact ld4 v inb_S2x3x8x1024_S1x1x8x1024_0_0_0_0 0 0 0 0 s s d d rfl rfl (by omega) (by omega)
    · exact ld4 v inb_S2x3x8x1024_S1x1x8x1024_0_1_0_0 0 0 0 1 s s d d rfl rfl (by omega) (by omega)
    · exact ld4 v inb_S2x3x8x1024_S1x1x8x1024_0_2_0_0 0 0 0 2 s s d d rfl rfl (by omega) (by omega)
  · obtain rfl | rfl | rfl := three r
    · exact ld4 v inb_S2x3x8x1024_S1x1x8x1024_1_0_0_0 0 1 0 0 s s d d rfl rfl (by omega) (by omega)
    · exact ld4 v inb_S2x3x8x1024_S1x1x8x1024_1_1_0_0 0 1 0 1 s s d d rfl rfl (by omega) (by omega)
    · exact ld4 v inb_S2x3x8x1024_S1x1x8x1024_1_2_0_0 0 1 0 2 s s d d rfl rfl (by omega) (by omega)

/-! ## The sweep over the grid -/

/-- Sequence `b` of the kernel's input. -/
abbrev seqOf (b : Fin 2) : Series := inS (m ((c : Thread nD τ).loc main_arg0)) b

theorem carried (t : ℕ) (ht : t < cfg0.N) (b : Fin 2) :
    HoldsHalo (haloOf (before m c ⟨t, ht⟩).1 b) (rawSeq (wts m c) (seqOf m c b)) (256 * t)
      ∧ ∀ d, stateOf (before m c ⟨t, ht⟩).2 b (ix3 0 0 d) = hSeq (wts m c) (seqOf m c b) (256 * t) d := by
  induction t with
  | zero =>
    have h : before m c ⟨0, ht⟩ = ((k0_pay3 (F := Ideal) : Vec Ideal S2x3x8x1024 .f32), (k0_pay4 (F := Ideal) : Vec Ideal S2x1x1024 .f32)) := by
      unfold before
      exact if_pos rfl
    rw [h]
    dsimp only
    refine ⟨fun r d => ?_, fun d => ?_⟩
    · rw [haloOf_apply]
      have hr := r.isLt
      unfold tapS
      rw [if_pos (by omega)]
      pointwise [k0_pay3]
    · rw [stateOf_apply]
      pointwise [k0_pay4]
      rfl
  | succ t ih =>
    have hN : t + 1 < 64 := lt_of_lt_of_eq ht N_0
    have ht' : t < cfg0.N := Nat.lt_of_succ_lt ht
    obtain ⟨L, L', hp⟩ := point m c ⟨t, ht'⟩
    have h : before m c ⟨t + 1, ht⟩ = (outsAt0 m c t ht').2 := if_neg (by show ¬ (t + 1) % 64 = 0; omega)
    obtain ⟨h0, h1⟩ := ih ht'
    rw [h, hp, weights_eq]
    dsimp only
    refine ⟨fun r d => ?_, fun d => ?_⟩
    · rw [haloOf_apply, haloVec_apply]
      exact nextHalo_holds (wts m c) (xBlock_holds m c ⟨t, ht'⟩ b) r d
    · rw [stateOf_apply, stateVec_apply]
      exact nextState_holds (wts m c) (wts_lam m c) (xBlock_holds m c ⟨t, ht'⟩ b) h0 h1 d

/-- A grid point leaves its 256 rows of both sequences' results. -/
theorem point_out (t : Fin cfg0.N) (b : Fin 2) (q : Fin 256) (d : Fin 1024) :
    (outsAt0 m c t.val t.isLt).1 (ix3 b q d) = outSeq (wts m c) (seqOf m c b) (256 * t.val + q.val) d := by
  obtain ⟨L, L', hp⟩ := point m c t
  obtain ⟨h0, h1⟩ := carried m c t.val t.isLt b
  rw [hp, weights_eq]
  dsimp only
  rw [outVec_apply]
  exact outBlock_holds (wts m c) (wts_lam m c) (xBlock_holds m c t b) h0 h1 q d

/-- The kernel's result, entry by entry. -/
theorem result_apply (b : Fin 2) (t : Fin 16384) (d : Fin 1024) :
    Cert.KernelIdeal.Value.G11 m c (ix3 b t d) = outSeq (wts m c) (seqOf m c b) t.val d := by
  have hb := b.isLt
  have hd := d.isLt
  have hpt : Cert.KernelIdeal.Value.pt11Of (ix3 b t d) = t.val / 256 := by
    show 64 * (b.val / 2 - 0) + 1 * (t.val / 256 - 0) + 1 * (d.val / 1024 - 0) = _
    omega
  have hlt : t.val / 256 < cfg0.N := by rw [show cfg0.N = 64 from N_0]; omega
  unfold Cert.KernelIdeal.Value.G11
  rw [dif_pos (by rw [hpt]; exact hlt), Cert.KernelIdeal.Value.fold0_congr m c _ _ (t.val / 256) (by omega) hpt, ← Cert.KernelIdeal.Value.outsAt0_sweep m c _ hlt]
  have hloc : Cert.KernelIdeal.Value.loc11Of (ix3 b t d) = ix3 b ⟨t.val % 256, by omega⟩ d := by
    funext a
    refine Fin.ext ?_
    fin_cases a
    · show b.val % 2 = b.val; omega
    · rfl
    · show d.val % 1024 = d.val; omega
  rw [hloc, point_out m c ⟨t.val / 256, hlt⟩]
  congr 1
  show 256 * (t.val / 256) + t.val % 256 = t.val
  omega

end Cert.Lru
-- ==== Proof.Lru.RefRun.lean ====
/- The reference's loop, followed from its entry: what the carried arrays hold after n trips, and the result array. -/
module

public import proofs.«01_k».proof.Proof.Lru.Sweep
public import proofs.«01_k».proof.Proof.Gen.ReferenceIdeal.Run
public import proofs.«01_k».proof.Proof.Gen.ReferenceIdeal.Step

@[expose] public section

set_option maxRecDepth 65536

noncomputable section

namespace Cert.Lru.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The six carried buffers hold the state `s`, and the counter holds `j`. -/
structure Holds (V : Valuation τ sig (Elt Ideal)) (s : State Ideal) (j : ℕ) : Prop where
  h : V (Proc.devRef .tc main_v105_4) = s.main_v105_4
  y : V (Proc.devRef .tc main_v105_5) = s.main_v105_5
  a : V (Proc.devRef .tc main_v105_0) = s.main_v105_0
  u : V (Proc.devRef .tc main_v105_1) = s.main_v105_1
  g : V (Proc.devRef .tc main_v105_2) = s.main_v105_2
  n : V (Proc.devRef .tc main_v105_3) = constantI S_ 32 (BitVec.ofNat 32 j)

variable {V : Valuation τ sig (Elt Ideal)} {s : State Ideal} {j : ℕ}

/-- The new state vector of one trip, over the buffers, is the one over the state. -/
theorem next_h (k : Holds V s j) : res_main_while0b_v113 V = Step.b13 j s := by
  unfold res_main_while0b_v113
  rw [k.h, k.a, k.u, k.n]
  rfl

/-- The output array after one trip, over the buffers, is the one over the state. -/
theorem next_y (k : Holds V s j) : step_main_v105_5 V = Step.b18 j s := by
  unfold step_main_v105_5
  rw [next_h k, k.y, k.g, k.n]
  rfl

/-- The counter steps to the next number. -/
theorem next_n (k : Holds V s j) : step_main_v105_3 V = constantI S_ 32 (BitVec.ofNat 32 (j + 1)) := by
  unfold step_main_v105_3
  rw [k.n]
  funext i
  show BitVec.ofNat 32 j + 1#32 = BitVec.ofNat 32 (j + 1)
  simp only [BitVec.ofNat_add]

/-- One trip keeps the buffers at the state, stepped. -/
theorem next (k : Holds V s j) : Holds (STEP V) (step j s) (j + 1) where
  h := (STEP_main_v105_4 V).trans (next_h k)
  y := (STEP_main_v105_5 V).trans (next_y k)
  n := (STEP_main_v105_3 V).trans (next_n k)
  a := (STEP_main_v105_0 V).trans k.a
  u := (STEP_main_v105_1 V).trans k.u
  g := (STEP_main_v105_2 V).trans k.g

variable (m : (ℓ : Loc nD τ sig) → Buf (Elt Ideal) ℓ) (c : Dev nD)

/-- The state the loop starts from. -/
abbrev first : State Ideal :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The state after `n` trips. -/
def after : ℕ → State Ideal
  | 0 => first m c
  | n + 1 => step n (after n)

set_option maxHeartbeats 1000000 in
/-- The operations before the loop leave the first state and the counter zero. -/
theorem start : Holds (entryContents preI m c) (first m c) 0 := by
  constructor <;> (simp only [entryContents, afterL_cons, afterL_nil]; after_reads_simp) <;> rfl

/-- After `n` trips the buffers hold the state after `n` trips. -/
theorem holds_after : ∀ n, Holds (STEP^[n] (entryContents preI m c)) (after m c n) n
  | 0 => start m c
  | n + 1 => by
    rw [Function.iterate_succ_apply']
    exact next (holds_after n)

/-- The reference's result array. -/
def result : (⟨S2x16384x1024, .f32⟩ : BufTy).Contents (Elt Ideal) :=
  Step.R_main_v108 (after m c 16384) (m ((c.tc : Thread nD τ).loc main_arg0)) (m ((c.tc : Thread nD τ).loc main_arg10))

/-- What the operations after the loop make of the buffers is the result array. -/
theorem out_eq : out_main_v108 (STEP^[16384] (entryContents preI m c)) = result m c := by
  unfold out_main_v108 result Step.R_main_v108
  rw [(holds_after m c 16384).y, iter_main_arg0 m c 16384, iter_main_arg10 m c 16384]

/-- The three arrays the loop only reads are the ones it was given. -/
theorem after_fixed (n : ℕ) : (after m c n).main_v105_0 = (first m c).main_v105_0
    ∧ (after m c n).main_v105_1 = (first m c).main_v105_1 ∧ (after m c n).main_v105_2 = (first m c).main_v105_2 := by
  induction n with
  | zero => exact ⟨rfl, rfl, rfl⟩
  | succ n ih => exact ih

end Cert.Lru.Ref

end
-- ==== Proof.Lru.RefSpec.lean ====
/- The reference's arrays entry by entry: they are the functions the kernel computes. -/
module

public import proofs.«01_k».proof.Proof.Lru.RefRun

@[expose] public section

set_option maxRecDepth 16384

noncomputable section

namespace Cert.Lru.Ref

open Idealize.ShloMosaic Idealize.ShloMosaic.TcCoe Idealize.SL.Sem Cert.ReferenceIdeal Cert.ReferenceIdeal.Gen
open Cert.ReferenceIdeal.Step
open Cert.Lru (Weights Series argW lamS spS inS nrmS rawS gateS tapS convS sigS logS decayS driveS hS actS rawSeq decaySeq driveSeq hSeq outSeq)

section
variable (x : (⟨S2x16384x1024, .f32⟩ : BufTy).Contents (Elt Ideal)) (g : (⟨S1024, .f32⟩ : BufTy).Contents (Elt Ideal))
variable (win : (⟨S1024x2048, .f32⟩ : BufTy).Contents (Elt Ideal)) (cw : (⟨S4x1024, .f32⟩ : BufTy).Contents (Elt Ideal))
variable (cb : (⟨S1024, .f32⟩ : BufTy).Contents (Elt Ideal)) (wa : (⟨S4x256x256, .f32⟩ : BufTy).Contents (Elt Ideal))
variable (ba : (⟨S1024, .f32⟩ : BufTy).Contents (Elt Ideal)) (wx : (⟨S4x256x256, .f32⟩ : BufTy).Contents (Elt Ideal))
variable (bx lam : (⟨S1024, .f32⟩ : BufTy).Contents (Elt Ideal)) (wout : (⟨S1024x1024, .f32⟩ : BufTy).Contents (Elt Ideal))

theorem inS_at (b : Fin 2) (t : Fin 16384) (d : Fin 1024) : inS x b t.val d = x (ix3 b t d) := dif_pos t.isLt

/-- The normalised rows. -/
theorem nrm_at (b : Fin 2) (t : Fin 16384) (d : Fin 1024) : A_main_v12 x g win cw cb wa ba wx bx lam (ix3 b t d) = nrmS (argW g win cw cb wa ba wx bx (lamS lam) wout) (inS x b t.val) d := by
  unfold nrmS
  simp only [inS_at]
  pointwise [A_main_v12, A_main_v11, A_main_v10, A_main_v9, A_main_v8, A_main_v7, A_main_v6, A_main_v4, A_main_v2, A_main_v1, A_main_v0, K_main_v3, K_main_v5, K_main_cst, K_main_cst_0, K_main_cst_1, argW]

/-- The input product. -/
theorem dot_at (b : Fin 2) (t : Fin 16384) (d : Fin 2048) : A_main_v13 x g win cw cb wa ba wx bx lam (ix3 b t d) = ∑ k : Fin 1024, A_main_v12 x g win cw cb wa ba wx bx lam (ix3 b t k) * win (ix2 k d) := by
  pointwise [A_main_v13]

/-- The gate branch. -/
theorem gate_at (b : Fin 2) (t : Fin 16384) (d : Fin 1024) : A_main_v14 x g win cw cb wa ba wx bx lam (ix3 b t d) = gateS (argW g win cw cb wa ba wx bx (lamS lam) wout) (inS x b t.val) d := by
  unfold gateS
  simp only [← nrm_at]
  pointwise [A_main_v14, dot_at, argW]

/-- The recurrent branch. -/
theorem raw_at (b : Fin 2) (t : Fin 16384) (d : Fin 1024) : A_main_v15 x g win cw cb wa ba wx bx lam (ix3 b t d) = rawS (argW g win cw cb wa ba wx bx (lamS lam) wout) (inS x b t.val) d := by
  unfold rawS
  simp only [← nrm_at]
  pointwise [A_main_v15, dot_at, argW]

/-- The recurrent branch behind three rows of zeros. -/
theorem pad_at (b : Fin 2) (t : Fin 16387) (d : Fin 1024) : A_main_v16 x g win cw cb wa ba wx bx lam (ix3 b t d) = if h : t.val < 3 then 0 else A_main_v15 x g win cw cb wa ba wx bx lam (ix3 b ⟨t.val - 3, by omega⟩ d) := by
  pointwise [A_main_v16, K_main_call0_v0, K_main_c]
  have e : (FloatOps.sitofp (F := Ideal) FTy.f32 (0#32 : BitVec 32) : EReal) = 0 := by
    show (((BitVec.toInt (0#32 : BitVec 32) : ℝ)) : EReal) = 0
    simp
  by_cases h : t.val < 3
  · rw [dif_pos h, dif_neg (by omega)]
    exact e
  · rw [dif_neg h, dif_pos (by omega)]

/-- Softplus. -/
theorem soft_at (d : Fin 1024) : A_main_v75 x g win cw cb wa ba wx bx lam (ix1 d) = spS (-(lam (ix1 d))) := by
  pointwise [A_main_v75, A_main_call1_v4, A_main_call1_v3, A_main_call1_v1, A_main_call1_v6, A_main_call1_v11, A_main_call1_v10, A_main_call1_v9, A_main_call1_v8, A_main_call1_v7, A_main_v74, K_main_call1_v0, K_main_call1_v2, K_main_call1_v5, K_main_call1_cst]
  exact if_neg (fun h => h rfl)

/-- The convolved branch. -/
theorem conv_at (b : Fin 2) (t : Fin 16384) (d : Fin 1024) : A_main_v46 x g win cw cb wa ba wx bx lam (ix3 b t d) = convS (argW g win cw cb wa ba wx bx (lamS lam) wout) (rawSeq (argW g win cw cb wa ba wx bx (lamS lam) wout) (inS x b)) t.val d := by
  pointwise [A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, pad_at]
  simp only [raw_at x g win cw cb wa ba wx bx lam wout, dite_eq_ite]
  unfold convS tapS rawSeq
  rw [if_neg (show ¬ t.val + 3 < 3 by omega), show t.val + 3 - 3 = t.val by omega, Nat.add_comm 1 t.val, Nat.add_comm 2 t.val]
  rfl

/-- The gate over the decay. -/
theorem siga_at (b : Fin 2) (t : Fin 16384) (d : Fin 1024) : A_main_v59 x g win cw cb wa ba wx bx lam (ix3 b t d) = sigS (argW g win cw cb wa ba wx bx (lamS lam) wout).wa (argW g win cw cb wa ba wx bx (lamS lam) wout).ba (convS (argW g win cw cb wa ba wx bx (lamS lam) wout) (rawSeq (argW g win cw cb wa ba wx bx (lamS lam) wout) (inS x b)) t.val) d := by
  pointwise [A_main_v59, A_main_v57, A_main_v55, A_main_v54, A_main_v53, A_main_v52, A_main_v51, A_main_v50, A_main_v49, A_main_v48, A_main_v47, K_main_v56, K_main_v58, K_main_cst_2, K_main_cst_3, conv_at x g win cw cb wa ba wx bx lam wout]
  unfold sigS Ideal.logistic
  simp only [mul_comm (wa _), Nat.mul_comm _ 256]
  rfl

/-- The gate over the input. -/
theorem sigx_at (b : Fin 2) (t : Fin 16384) (d : Fin 1024) : A_main_v71 x g win cw cb wa ba wx bx lam (ix3 b t d) = sigS (argW g win cw cb wa ba wx bx (lamS lam) wout).wx (argW g win cw cb wa ba wx bx (lamS lam) wout).bx (convS (argW g win cw cb wa ba wx bx (lamS lam) wout) (rawSeq (argW g win cw cb wa ba wx bx (lamS lam) wout) (inS x b)) t.val) d := by
  pointwise [A_main_v71, A_main_v69, A_main_v67, A_main_v66, A_main_v65, A_main_v64, A_main_v63, A_main_v62, A_main_v61, A_main_v60, A_main_v47, K_main_v68, K_main_v70, K_main_cst_4, K_main_cst_5, conv_at x g win cw cb wa ba wx bx lam wout]
  unfold sigS Ideal.logistic
  simp only [mul_comm (wx _), Nat.mul_comm _ 256]
  rfl

/-- The logarithm of the decay. -/
theorem log_at (b : Fin 2) (t : Fin 16384) (d : Fin 1024) : A_main_v78 x g win cw cb wa ba wx bx lam (ix3 b t d) = logS (argW g win cw cb wa ba wx bx (lamS lam) wout) (convS (argW g win cw cb wa ba wx bx (lamS lam) wout) (rawSeq (argW g win cw cb wa ba wx bx (lamS lam) wout) (inS x b)) t.val) d := by
  pointwise [A_main_v78, A_main_v77, A_main_v76, A_main_v73, K_main_v72, K_main_cst_6, soft_at, siga_at x g win cw cb wa ba wx bx lam wout]
  unfold logS
  show _ = _ * (Ideal.ofBits .f32 0xC1000000#32 * spS (-(lam (ix1 d))))
  rw [mul_left_comm, ← mul_assoc]

/-- Hyperbolic tangent against the exponential. -/
theorem expm1_tanh (y : EReal) : -(Ideal.exp (Ideal.ofBits .f32 1073741824#32 * y) - 1)
    = Ideal.div (Ideal.ofBits .f32 3221225472#32 * Ideal.tanh y) (1 - Ideal.tanh y) := by
  rw [show Ideal.ofBits .f32 1073741824#32 = ((2 : ℝ) : EReal) by simp [Ideal.ofBits, Ideal.ieee, -EReal.coe_mul, -EReal.coe_neg]; norm_num]
  rw [show Ideal.ofBits .f32 3221225472#32 = ((-2 : ℝ) : EReal) by simp [Ideal.ofBits, Ideal.ieee, -EReal.coe_mul, -EReal.coe_neg]; norm_num]
  induction y with
  | bot =>
    rw [EReal.coe_mul_bot_of_pos (by norm_num)]
    show -((0 : EReal) - 1) = Ideal.div (((-2 : ℝ) : EReal) * ((-1 : ℝ) : EReal)) (((1 : ℝ) : EReal) - ((-1 : ℝ) : EReal))
    rw [← EReal.coe_mul, ← EReal.coe_sub]
    unfold Ideal.div
    rw [if_neg (by norm_num), ← EReal.coe_inv, ← EReal.coe_mul]
    norm_num
  | top =>
    rw [EReal.coe_mul_top_of_pos (by norm_num)]
    show -((⊤ : EReal) - ((1 : ℝ) : EReal)) = Ideal.div (((-2 : ℝ) : EReal) * ((1 : ℝ) : EReal)) (((1 : ℝ) : EReal) - ((1 : ℝ) : EReal))
    rw [← EReal.coe_mul, ← EReal.coe_sub]
    unfold Ideal.div
    rw [if_pos (by norm_num), if_neg (by norm_num)]
    rfl
  | coe r =>
    show -(((Real.exp (2 * r) : ℝ) : EReal) - ((1 : ℝ) : EReal)) = Ideal.div (((-2 : ℝ) : EReal) * ((Real.tanh r : ℝ) : EReal)) (((1 : ℝ) : EReal) - ((Real.tanh r : ℝ) : EReal))
    have ht : Real.tanh r < 1 := Real.tanh_lt_one r
    rw [← EReal.coe_mul, ← EReal.coe_sub, ← EReal.coe_sub, ← EReal.coe_neg]
    unfold Ideal.div
    rw [if_neg (by intro h; rw [EReal.coe_eq_zero] at h; linarith), ← EReal.coe_inv, ← EReal.coe_mul]
    refine congrArg _ ?_
    have hp := Real.exp_pos r
    have hq := Real.exp_pos (-r)
    have hpq : Real.exp r * Real.exp (-r) = 1 := by rw [← Real.exp_add, add_neg_cancel, Real.exp_zero]
    rw [Real.tanh_eq_sinh_div_cosh, Real.sinh_eq, Real.cosh_eq, show 2 * r = r + r by ring, Real.exp_add]
    rw [← div_eq_mul_inv, eq_div_iff]
    · field_simp
      nlinarith [hpq]
    · have : 0 < Real.exp r + Real.exp (-r) := by linarith
      field_simp
      ring_nf
      positivity

/-- The decays. -/
theorem decay_at (b : Fin 2) (t : Fin 16384) (d : Fin 1024) : A_main_v79 x g win cw cb wa ba wx bx lam (ix3 b t d) = decaySeq (argW g win cw cb wa ba wx bx (lamS lam) wout) (inS x b) t.val d := by
  pointwise [A_main_v79, log_at x g win cw cb wa ba wx bx lam wout]
  rfl

/-- The recurrence's inputs. -/
theorem drive_at (b : Fin 2) (t : Fin 16384) (d : Fin 1024) : A_main_v86 x g win cw cb wa ba wx bx lam (ix3 b t d) = driveSeq (argW g win cw cb wa ba wx bx (lamS lam) wout) (inS x b) t.val d := by
  pointwise [A_main_v86, A_main_v85, A_main_v84, A_main_v83, A_main_v82, A_main_v81, K_main_v80, K_main_cst_7, log_at x g win cw cb wa ba wx bx lam wout, sigx_at x g win cw cb wa ba wx bx lam wout, conv_at x g win cw cb wa ba wx bx lam wout]
  rw [expm1_tanh]
  rfl

/-- The gate's activations. -/
theorem act_at (b : Fin 2) (t : Fin 16384) (d : Fin 1024) : A_main_v99 x g win cw cb wa ba wx bx lam (ix3 b t d) = actS (gateS (argW g win cw cb wa ba wx bx (lamS lam) wout) (inS x b t.val) d) := by
  pointwise [A_main_v87, A_main_v88, A_main_v90, A_main_v91, A_main_v93, A_main_v94, A_main_v96, A_main_v98, A_main_v99, K_main_v89, K_main_v92, K_main_v95, K_main_v97, K_main_cst_8, K_main_cst_9, K_main_cst_10, K_main_cst_11, gate_at x g win cw cb wa ba wx bx lam wout]
  unfold actS
  rw [mul_left_comm, ← mul_assoc]
end

section
variable (j : ℕ) (s : State Ideal)

/-- The row index of trip `j`. -/
abbrev rowAt (k : Fin 3) : Int := BitVec.toInt ((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal)) k (Shape.Idx.first h_S_))

theorem row0 (hj : j < 16384) (ht) : Host.clampedStart S16384x2x1024 S1x2x1024 ht (rowAt j) 0 = j :=
  Host.clampedStart_of_le ht _ _ _ (by
    show BitVec.toInt (BitVec.ofNat 32 j) = _
    rw [BitVec.toInt_ofNat', Int.bmod_eq_of_le] <;> omega) (by show j + 1 ≤ 16384; omega)

theorem row1 (ht) : Host.clampedStart S16384x2x1024 S1x2x1024 ht (rowAt j) 1 = 0 :=
  Host.clampedStart_of_le ht _ _ 0 rfl (by show _ ≤ _; simp [S1x2x1024, S16384x2x1024])

theorem row2 (ht) : Host.clampedStart S16384x2x1024 S1x2x1024 ht (rowAt j) 2 = 0 :=
  Host.clampedStart_of_le ht _ _ 0 rfl (by show _ ≤ _; simp [S1x2x1024, S16384x2x1024])

/-- The state vector after trip `j`. -/
theorem hstep_at (hj : j < 16384) (b : Fin 2) (d : Fin 1024) : b13 j s (ix2 b d)
    = s.main_v105_0 (ix3 ⟨j, hj⟩ b d) * s.main_v105_4 (ix2 b d) + s.main_v105_1 (ix3 ⟨j, hj⟩ b d) := by
  pointwise [b13, b12, b7, b6, b5, b4, b3, b2, b1, b0]
  simp only [row0 j hj, row1, row2, Nat.zero_add]

/-- The output array after trip `j`: row `j` is written. -/
theorem ystep_at (hj : j < 16384) (t : Fin 16384) (b : Fin 2) (d : Fin 1024) : b18 j s (ix3 t b d)
    = if t.val = j then b13 j s (ix2 b d) * s.main_v105_2 (ix3 ⟨j, hj⟩ b d) else s.main_v105_5 (ix3 t b d) := by
  pointwise [b18, b17, b16, b15, b14, b11, b10, b9, b8]
  simp only [row0 j hj, row1, row2, Nat.zero_add, Nat.sub_zero]
  by_cases h : t.val = j
  · rw [if_pos h, dif_pos (by omega)]
  · rw [if_neg h, dif_neg (by omega)]
end

variable (m : (ℓ : Loc nD τ sig) → Buf (Elt Ideal) ℓ) (c : Dev nD)

/-- The reference's weights. -/
def wts : Weights Ideal :=
  argW (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (lamS (m ((c.tc : Thread nD τ).loc main_arg9)))
    (m ((c.tc : Thread nD τ).loc main_arg10))

/-- The reference's input sequence. -/
abbrev seqOf (b : Fin 2) : Series := inS (m ((c.tc : Thread nD τ).loc main_arg0)) b

/-- The decays the loop reads. -/
theorem first_a (t : Fin 16384) (b : Fin 2) (d : Fin 1024) : (first m c).main_v105_0 (ix3 t b d) = decaySeq (wts m c) (seqOf m c b) t.val d := by
  show A_main_v100 _ _ _ _ _ _ _ _ _ _ _ = _
  pointwise [A_main_v100]
  exact decay_at _ _ _ _ _ _ _ _ _ _ (m ((c.tc : Thread nD τ).loc main_arg10)) b t d

/-- The inputs the loop reads. -/
theorem first_u (t : Fin 16384) (b : Fin 2) (d : Fin 1024) : (first m c).main_v105_1 (ix3 t b d) = driveSeq (wts m c) (seqOf m c b) t.val d := by
  show A_main_v101 _ _ _ _ _ _ _ _ _ _ _ = _
  pointwise [A_main_v101]
  exact drive_at _ _ _ _ _ _ _ _ _ _ (m ((c.tc : Thread nD τ).loc main_arg10)) b t d

/-- The activations the loop reads. -/
theorem first_g (t : Fin 16384) (b : Fin 2) (d : Fin 1024) : (first m c).main_v105_2 (ix3 t b d) = actS (gateS (wts m c) (seqOf m c b t.val) d) := by
  show A_main_v102 _ _ _ _ _ _ _ _ _ _ _ = _
  pointwise [A_main_v102]
  exact act_at _ _ _ _ _ _ _ _ _ _ (m ((c.tc : Thread nD τ).loc main_arg10)) b t d

/-- The state vector after `n` trips. -/
theorem after_h (b : Fin 2) (d : Fin 1024) : ∀ n, n ≤ 16384 → (after m c n).main_v105_4 (ix2 b d) = hSeq (wts m c) (seqOf m c b) n d
  | 0, _ => by
    show K_main_v103 (F := Ideal) (ix2 b d) = 0
    pointwise [K_main_v103, K_main_cst_12]
  | n + 1, h => by
    show b13 n (after m c n) (ix2 b d) = _
    rw [hstep_at n _ (by omega), after_h b d n (by omega), (after_fixed m c n).1, (after_fixed m c n).2.1, first_a, first_u]
    rfl

/-- The output array after `n` trips: the rows before `n`. -/
theorem after_y (t : Fin 16384) (b : Fin 2) (d : Fin 1024) : ∀ n, n ≤ 16384 → t.val < n →
    (after m c n).main_v105_5 (ix3 t b d) = hSeq (wts m c) (seqOf m c b) (t.val + 1) d * actS (gateS (wts m c) (seqOf m c b t.val) d)
  | 0, _, h => absurd h (Nat.not_lt_zero _)
  | n + 1, h, ht => by
    show b18 n (after m c n) (ix3 t b d) = _
    rw [ystep_at n _ (by omega)]
    by_cases e : t.val = n
    · subst e
      rw [if_pos rfl, (after_fixed m c _).2.2, first_g]
      exact congrArg (· * _) (after_h m c b d (t.val + 1) (by omega))
    · rw [if_neg e]
      exact after_y t b d n (by omega) (by omega)

/-- The reference's result. -/
theorem result_apply (b : Fin 2) (t : Fin 16384) (d : Fin 1024) :
    result m c (ix3 b t d) = outSeq (wts m c) (seqOf m c b) t.val d := by
  unfold result outSeq
  pointwise [R_main_v108]
  rw [show seqOf m c b t.val d = _ from inS_at _ b t d]
  simp only [fun (b : Fin 2) (k : Fin 1024) => after_y m c t b k 16384 (le_refl _) t.isLt]
  rfl

end Cert.Lru.Ref

end
-- ==== Proof.Lru.Equal.lean ====
/- The recurrent kernel and its reference end with the same array. -/
module

public import proofs.«01_k».proof.Proof.Lru.RefSpec

@[expose] public section

noncomputable section

namespace Cert.Lru

open Idealize.ShloMosaic Idealize.ShloMosaic.TcCoe Idealize.SL.Sem

/-- From equal arguments the kernel's result array is the reference's. -/
theorem equal (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hw : Ref.wts m' c = wts m c) (hx : ∀ b, Ref.seqOf m' c b = seqOf m c b) : Ref.result m' c = KernelIdeal.Value.G11 m c := by
  have key (b : Fin 2) (t : Fin 16384) (d : Fin 1024) : Ref.result m' c (ix3 b t d) = KernelIdeal.Value.G11 m c (ix3 b t d) := by
    rw [Ref.result_apply, result_apply, hw, hx]
  funext i
  rw [eq_ix3 i]
  exact key _ _ _

end Cert.Lru

end
-- ==== Proof.Ffn.Block.lean ====
/- What one grid point of the feed-forward call computes: the kernel's operations as functions of the blocks. The hidden
   columns come in four bands of 1536: bands 0 and 1 are the values, bands 2 and 3 the gates. -/
module

public import proofs.«01_k».proof.Proof.Gen.Kernel2Ideal.Skeleton
public import Idealize.ShloMosaic.Lib.Pointwise

@[expose] public section

set_option maxRecDepth 16384

noncomputable section

namespace Cert.Ffn

open Idealize.ShloMosaic Idealize.ShloMosaic.TcCoe Idealize.SL.Sem Cert.Kernel2Ideal Cert.Kernel2Ideal.Gen

variable {F : FTy → Type} [FloatOps F]

/-- The weights as a grid point loads them. -/
structure Weights (F : FTy → Type) [FloatOps F] where
  g : Vec F S1x1024 .f32
  wup : Fin 4 → Vec F S1024x1536 .bf16
  cb : Fin 4 → Vec F S1x1536 .f32
  cw : Fin 3 → Fin 4 → Vec F S1x1536 .f32
  wdn : Fin 2 → Vec F S1536x1024 .bf16
  fg : Vec F S1x1024 .f32

variable (w : Weights F)

/-- Every row divided by its root mean square and scaled. -/
def scaled (x : FVec F S512x1024 .f32) (g : Vec F S1x1024 .f32) : FVec F S512x1024 .f32 :=
  mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

/-- The normalised rows. -/
def normed (x : FVec F S512x1024 .f32) : FVec F S512x1024 .bf16 := truncf .bf16 (scaled x w.g) bitsLt_bf16_f32
/-- A band of the hidden rows. -/
def up (x : FVec F S512x1024 .f32) (q : Fin 4) : FVec F S512x1536 .f32 := k0_pay14 (normed w x) (w.wup q)

/-- The rows a window at offset `o` sees: eight carried rows, then the block. -/
def windowOf (e : Vec F S1x1x8x1536 .f32) (r : Vec F S1x1x512x1536 .f32) (o : ℕ) : Vec F S1x1x512x1536 .f32 :=
  fun y => if h : o + (y 2).val < 8 then e (ix4 0 0 ⟨o + (y 2).val, h⟩ (y 3))
    else r (ix4 0 0 ⟨(o + (y 2).val - 8) % 512, by omega⟩ (y 3))

/-- A band after the convolution. -/
def half (x : FVec F S512x1024 .f32) (halo : Fin 4 → Vec F S8x1536 .f32) (q : Fin 4) : FVec F S512x1536 .f32 :=
  k0_pay30 (w.cb q) (windowOf (k0_pay15 (halo q)) (k0_pay16 (up w x q)) 6) (w.cw 0 q)
    (windowOf (k0_pay15 (halo q)) (k0_pay16 (up w x q)) 7) (w.cw 1 q) (k0_pay16 (up w x q)) (w.cw 2 q)

/-- A value band times the activation of its gate band. -/
def gated (a y : FVec F S512x1536 .f32) : FVec F S512x1536 .bf16 :=
  truncf .bf16 (mulf a (mulf (mulf (broadcast S512x1536 (Scalar.ofBits .f32 0x3F000000#32)) y)
    (addf (broadcast S512x1536 (Scalar.ofBits .f32 0x3F800000#32)) (tanh (mulf (broadcast S512x1536 (Scalar.ofBits .f32 0x3F4C422A#32))
      (addf y (mulf (broadcast S512x1536 (Scalar.ofBits .f32 0x3D372713#32)) (mulf (mulf y y) y))))))))
    bitsLt_bf16_f32

/-- The two gated bands through the second projection, added to the rows. -/
def summed (x : FVec F S512x1024 .f32) (a0 a1 : FVec F S512x1536 .bf16) : FVec F S512x1024 .f32 :=
  addf (addf x (matmul dot_S512x1536_S1536x1024_S512x1024_1_0_0_1_n_n none a0
      (shapeCast S1536x1024 (w.wdn 0) shapeCasts_S1536x1024_S1536x1024) (constant S512x1024 .f32 0x00000000#32)))
    (matmul dot_S512x1536_S1536x1024_S512x1024_1_0_0_1_n_n none a1
      (shapeCast S1536x1024 (w.wdn 1) shapeCasts_S1536x1024_S1536x1024) (constant S512x1024 .f32 0x00000000#32))

/-- The rows after the feed-forward layer. -/
def layer (x : FVec F S512x1024 .f32) (halo : Fin 4 → Vec F S8x1536 .f32) : FVec F S512x1024 .f32 :=
  summed w x (gated (half w x halo 0) (half w x halo 2)) (gated (half w x halo 1) (half w x halo 3))

/-- A band's rows carried to the next block. -/
def nextHalo (x : FVec F S512x1024 .f32) (q : Fin 4) : Vec F S8x1536 .f32 := k0_pay17 (up w x q)

/-- The carried rows after a block, as stored over what was there. -/
def haloVec (x : FVec F S512x1024 .f32) (L : List (View.Piece (Elt F) S8x6144 .f32)) : Vec F S8x6144 .f32 :=
  View.canon (⟨Rect.unit ![0, 4608] ![8, 1536] inb_S8x6144_S8x1536_0_4608, nextHalo w x 3⟩ ::
    ⟨Rect.unit ![0, 1536] ![8, 1536] inb_S8x6144_S8x1536_0_1536, nextHalo w x 1⟩ ::
    ⟨Rect.unit ![0, 3072] ![8, 1536] inb_S8x6144_S8x1536_0_3072, nextHalo w x 2⟩ ::
    ⟨Rect.unit ![0, 0] ![8, 1536] inb_S8x6144_S8x1536_0_0, nextHalo w x 0⟩ :: L)

/-- The carried rows of the four bands. -/
def haloOf (v : Vec F S8x6144 .f32) : Fin 4 → Vec F S8x1536 .f32 :=
  ![View.ld v (Rect.unit ![0, 0] ![8, 1536] inb_S8x6144_S8x1536_0_0),
    View.ld v (Rect.unit ![0, 1536] ![8, 1536] inb_S8x6144_S8x1536_0_1536),
    View.ld v (Rect.unit ![0, 3072] ![8, 1536] inb_S8x6144_S8x1536_0_3072),
    View.ld v (Rect.unit ![0, 4608] ![8, 1536] inb_S8x6144_S8x1536_0_4608)]

end Cert.Ffn
-- ==== Proof.Ffn.Spec.lean ====
/- The feed-forward layer as mathematics: a sequence of rows over the extended reals. -/
module

public import proofs.«01_k».proof.Proof.Ffn.Block

@[expose] public section

set_option maxRecDepth 16384

noncomputable section

namespace Cert.Ffn

open Idealize.ShloMosaic Idealize.ShloMosaic.TcCoe Idealize.SL.Sem Cert.Kernel2Ideal

/-- A row of a sequence. -/
abbrev Row := Fin 1024 → EReal
/-- A row of the hidden columns, values then gates. -/
abbrev Hidden := Fin 6144 → EReal

/-- The layer's weights. -/
structure Wts where
  g : Row
  up : Fin 1024 → Hidden
  cw : Fin 3 → Hidden
  cb : Hidden
  dn : Fin 3072 → Row
  fg : Row

/-- A row divided by its root mean square and scaled. -/
def nrmS (g x : Row) : Row := fun d =>
  x d * Ideal.rsqrt (Ideal.div (∑ k, x k * x k) (Ideal.ofBits .f32 1149239296#32) + Ideal.ofBits .f32 897988541#32) * g d

/-- The weights as the program's arguments give them. -/
def argW (g : S1024.Idx → EReal) (up : S1024x6144.Idx → EReal) (cw : S3x6144.Idx → EReal) (cb : S6144.Idx → EReal)
    (dn : S3072x1024.Idx → EReal) (fg : S1024.Idx → EReal) : Wts where
  g d := g (ix1 d)
  up k j := up (ix2 k j)
  cw i j := cw (ix2 i j)
  cb j := cb (ix1 j)
  dn k d := dn (ix2 k d)
  fg d := fg (ix1 d)

/-- Sequence `b` of an array of rows. -/
def seqS (x : S2x16384x1024.Idx → EReal) (b : Fin 2) : ℕ → Row := fun t d => if h : t < 16384 then x (ix3 b ⟨t, h⟩ d) else 0

/-- Sequence `b` of an array of rows plus two arrays of half rows through the halves of a matrix. -/
def mixS (x : S2x16384x1024.Idx → EReal) (oa ob : (⟨3, ![2, 16384, 512]⟩ : Shape).Idx → EReal)
    (wo : (⟨2, ![1024, 1024]⟩ : Shape).Idx → EReal) (b : Fin 2) : ℕ → Row := fun t d =>
  if h : t < 16384 then x (ix3 b ⟨t, h⟩ d) + ((∑ k : Fin 512, oa (ix3 b ⟨t, h⟩ k) * wo (ix2 ⟨k.val, by omega⟩ d))
    + ∑ k : Fin 512, ob (ix3 b ⟨t, h⟩ k) * wo (ix2 ⟨512 + k.val, by omega⟩ d)) else 0

variable (W : Wts)

/-- The hidden row of a row. -/
def upS (x : Row) : Hidden := fun j => ∑ k, nrmS W.g x k * W.up k j
/-- The row `2 - i` steps before time `t`; zero before the start. -/
def tapS (r : ℕ → Hidden) (t i : ℕ) : Hidden := fun j => if t + i < 2 then 0 else r (t + i - 2) j
/-- The causal convolution of width three. -/
def convS (r : ℕ → Hidden) (t : ℕ) : Hidden := fun j =>
  W.cb j + tapS r t 0 j * W.cw 0 j + tapS r t 1 j * W.cw 1 j + tapS r t 2 j * W.cw 2 j
/-- The gate's activation. -/
def actS (y : EReal) : EReal := Ideal.ofBits .f32 1056964608#32 * y
  * (Ideal.ofBits .f32 1065353216#32 + Ideal.tanh (Ideal.ofBits .f32 1061962282#32 * (y + Ideal.ofBits .f32 1027024659#32 * (y * y * y))))
/-- A hidden row's values times their activated gates. -/
def gateS (v : Hidden) (k : Fin 3072) : EReal := v ⟨k.val, by omega⟩ * actS (v ⟨3072 + k.val, by omega⟩)
/-- The rows after the layer. -/
def layerS (x : ℕ → Row) (t : ℕ) : Row := fun d =>
  x t d + ∑ k, gateS (convS W (fun t => upS W (x t)) t) k * W.dn k d

/-- Hidden column `j` of band `q`. -/
def col (q : Fin 4) (j : Fin 1536) : Fin 6144 := ⟨1536 * q.val + j.val, by omega⟩

/-- A sum over 3072 columns is the sum over the first half plus the sum over the second. -/
theorem sum_halves (f : Fin 3072 → EReal) : ∑ k, f k
    = (∑ k : Fin 1536, f ⟨k.val, by omega⟩) + ∑ k : Fin 1536, f ⟨1536 + k.val, by omega⟩ := by
  have h := Fin.sum_univ_add (M := EReal) (a := 1536) (b := 1536) f
  exact h

end Cert.Ffn
-- ==== Proof.Ffn.Rows.lean ====
/- The block's functions, entry by entry, for a block of rows that starts at time `b`. -/
module

public import proofs.«01_k».proof.Proof.Ffn.Spec

@[expose] public section

set_option maxRecDepth 16384

noncomputable section

namespace Cert.Ffn

open Idealize.ShloMosaic Idealize.ShloMosaic.TcCoe Idealize.SL.Sem Cert.Kernel2Ideal Cert.Kernel2Ideal.Gen

/-- The loaded weights are the layer's. -/
structure Loaded (w : Weights Ideal) (W : Wts) : Prop where
  g : ∀ d : Fin 1024, w.g (ix2 0 d) = W.g d
  up : ∀ (q : Fin 4) (k : Fin 1024) (j : Fin 1536), w.wup q (ix2 k j) = W.up k (col q j)
  cb : ∀ (q : Fin 4) (j : Fin 1536), w.cb q (ix2 0 j) = W.cb (col q j)
  cw : ∀ (i : Fin 3) (q : Fin 4) (j : Fin 1536), w.cw i q (ix2 0 j) = W.cw i (col q j)
  dn0 : ∀ (k : Fin 1536) (d : Fin 1024), w.wdn 0 (ix2 k d) = W.dn ⟨k.val, by omega⟩ d
  dn1 : ∀ (k : Fin 1536) (d : Fin 1024), w.wdn 1 (ix2 k d) = W.dn ⟨1536 + k.val, by omega⟩ d
  fg : ∀ d : Fin 1024, w.fg (ix2 0 d) = W.fg d

/-- The block holds the sequence's rows from time `b` on. -/
def Holds (x : FVec Ideal S512x1024 .f32) (X : ℕ → Row) (b : ℕ) : Prop :=
  ∀ (p : Fin 512) (d : Fin 1024), x (ix2 p d) = X (b + p.val) d

/-- The scaled row is the row scaled. -/
theorem scaled_row (x : FVec Ideal S512x1024 .f32) (g : Vec Ideal S1x1024 .f32) (G R : Row) (p : Fin 512)
    (hg : ∀ d : Fin 1024, g (ix2 0 d) = G d) (hx : ∀ d : Fin 1024, x (ix2 p d) = R d) (d : Fin 1024) :
    scaled x g (ix2 p d) = nrmS G R d := by
  unfold scaled nrmS
  pointwise
  simp only [hx, hg]

variable {w : Weights Ideal} {W : Wts} (hW : Loaded w W) {x : FVec Ideal S512x1024 .f32} {X : ℕ → Row} {b : ℕ}
  (hx : Holds x X b)
include hW hx

/-- A hidden band's entry. -/
theorem up_row (q : Fin 4) (p : Fin 512) (j : Fin 1536) : up w x q (ix2 p j) = upS W (X (b + p.val)) (col q j) := by
  have h : ∀ k : Fin 1024, normed w x (ix2 p k) = nrmS W.g (X (b + p.val)) k := fun k =>
    scaled_row x w.g W.g _ p hW.g (hx p) k
  unfold up upS
  pointwise [k0_pay14]
  simp only [h, hW.up]

/-- The hidden rows of the sequence. -/
abbrev hid (W : Wts) (X : ℕ → Row) : ℕ → Hidden := fun t => upS W (X t)

omit hW hx in
theorem head_entry (e : Vec Ideal S8x1536 .f32) (r : Fin 8) (j : Fin 1536) : k0_pay15 (F := Ideal) e (ix4 0 0 r j) = e (ix2 r j) := by
  pointwise [k0_pay15]
omit hW hx in
theorem body_entry (v : FVec Ideal S512x1536 .f32) (p : Fin 512) (j : Fin 1536) : k0_pay16 v (ix4 0 0 p j) = v (ix2 p j) := by
  pointwise [k0_pay16]

/-- The carried rows hold the last two hidden rows before time `b`. -/
def HoldsHalo (halo : Fin 4 → Vec Ideal S8x1536 .f32) (R : ℕ → Hidden) (b : ℕ) : Prop :=
  ∀ (q : Fin 4) (i : Fin 2) (j : Fin 1536), halo q (ix2 ⟨6 + i.val, by omega⟩ j) = tapS R b i.val (col q j)

variable {halo : Fin 4 → Vec Ideal S8x1536 .f32} (hh : HoldsHalo halo (hid W X) b)
include hh

/-- A window's entry is a tap of the hidden rows. -/
theorem window_row (i : Fin 2) (q : Fin 4) (p : Fin 512) (j : Fin 1536) :
    windowOf (k0_pay15 (F := Ideal) (halo q)) (k0_pay16 (up w x q)) (6 + i.val) (ix4 0 0 p j)
      = tapS (hid W X) (b + p.val) i.val (col q j) := by
  have hi := i.isLt
  have hp := p.isLt
  by_cases h : 6 + i.val + p.val < 8
  · refine (dif_pos (show 6 + i.val + (ix4 (n0 := 1) (n1 := 1) (n2 := 512) (n3 := 1536) 0 0 p j 2).val < 8 from h)).trans ?_
    refine (head_entry _ ⟨6 + i.val + p.val, h⟩ j).trans ?_
    have h1 := hh q ⟨i.val + p.val, by omega⟩ j
    have e : (⟨6 + (i.val + p.val), by omega⟩ : Fin 8) = ⟨6 + i.val + p.val, h⟩ := Fin.ext (by show 6 + (i.val + p.val) = 6 + i.val + p.val; omega)
    refine ((congrArg (fun r => halo q (ix2 r j)) e.symm).trans h1).trans ?_
    unfold tapS
    have e1 : b + (i.val + p.val) = b + p.val + i.val := by omega
    simp only [e1]
  · refine (dif_neg (show ¬ 6 + i.val + (ix4 (n0 := 1) (n1 := 1) (n2 := 512) (n3 := 1536) 0 0 p j 2).val < 8 from h)).trans ?_
    refine (body_entry _ ⟨(6 + i.val + p.val - 8) % 512, by omega⟩ j).trans ?_
    rw [up_row hW hx]
    unfold tapS hid
    rw [if_neg (by omega)]
    have e1 : b + (6 + i.val + p.val - 8) % 512 = b + p.val + i.val - 2 := by omega
    simp only [e1]

/-- A convolved band's entry. -/
theorem half_row (q : Fin 4) (p : Fin 512) (j : Fin 1536) :
    half w x halo q (ix2 p j) = convS W (hid W X) (b + p.val) (col q j) := by
  have h0 := window_row hW hx hh 0 q p j
  have h1 := window_row hW hx hh 1 q p j
  have h2 : tapS (hid W X) (b + p.val) 2 (col q j) = up w x q (ix2 p j) := by
    rw [up_row hW hx]
    exact if_neg (by omega)
  unfold half convS
  rw [h2]
  pointwise [k0_pay30]
  rw [body_entry, hW.cb, hW.cw, hW.cw, hW.cw]
  congr 4

omit hW hx hh in
theorem gated_row (a y : FVec Ideal S512x1536 .f32) (p : Fin 512) (j : Fin 1536) :
    gated a y (ix2 p j) = a (ix2 p j) * actS (y (ix2 p j)) := by
  unfold gated actS
  pointwise

omit hW hx hh in
theorem gate_first (v : Hidden) (k : Fin 1536) : gateS v ⟨k.val, by omega⟩ = v (col 0 k) * actS (v (col 2 k)) := by
  unfold gateS
  rw [show col 0 k = ⟨k.val, by omega⟩ from Fin.ext (by show 1536 * 0 + k.val = k.val; omega),
    show col 2 k = ⟨3072 + k.val, by omega⟩ from Fin.ext (by show 1536 * 2 + k.val = 3072 + k.val; omega)]

omit hW hx hh in
theorem gate_second (v : Hidden) (k : Fin 1536) : gateS v ⟨1536 + k.val, by omega⟩ = v (col 1 k) * actS (v (col 3 k)) := by
  unfold gateS
  rw [show col 1 k = ⟨1536 + k.val, by omega⟩ from Fin.ext (by show 1536 * 1 + k.val = 1536 + k.val; omega),
    show col 3 k = ⟨3072 + (1536 + k.val), by omega⟩ from Fin.ext (by show 1536 * 3 + k.val = 3072 + (1536 + k.val); omega)]

/-- The block's layer is the layer of the sequence's rows. -/
theorem layer_holds : Holds (layer w x halo) (layerS W X) b := fun p d => by
  have h := half_row hW hx hh
  unfold layer summed layerS
  rw [sum_halves, ← add_assoc, ← hx p d]
  pointwise
  simp only [gated_row, h, hW.dn0, hW.dn1, gate_first, gate_second]

omit hh in
/-- The rows carried on are the last two hidden rows before the next block. -/
theorem nextHalo_holds : HoldsHalo (nextHalo w x) (hid W X) (b + 512) := fun q i j => by
  have hi := i.isLt
  have e : nextHalo w x q (ix2 ⟨6 + i.val, by omega⟩ j) = up w x q (ix2 ⟨510 + i.val, by omega⟩ j) := by
    unfold nextHalo
    pointwise [k0_pay17]
    refine congrArg (fun r => up w x q (ix2 r j)) (Fin.ext ?_)
    show 504 + (6 + i.val) = 510 + i.val; omega
  rw [e, up_row hW hx]
  unfold tapS
  rw [if_neg (by omega)]
  have e1 : b + 512 + i.val - 2 = b + (510 + i.val) := by omega
  simp only [e1]

end Cert.Ffn
-- ==== Proof.Ffn.Carry.lean ====
/- The carried rows of the feed-forward call: what is stored, and what is read back. -/
module

public import proofs.«01_k».proof.Proof.Ffn.Rows
public import proofs.«01_k».proof.Proof.Lru.Sweep

@[expose] public section

set_option maxRecDepth 16384

noncomputable section

namespace Cert.Ffn

open Idealize.ShloMosaic Idealize.ShloMosaic.TcCoe Idealize.SL.Sem Cert.Kernel2Ideal Cert.Kernel2Ideal.Gen

section
variable {Val : EltTy → Type} [∀ e, Nonempty (Val e)] {e : EltTy}

/-- An entry inside the last store is that store's. -/
theorem hit2 {n0 n1 p0 p1 o0 o1 : ℕ} (h) (P : (⟨2, ![p0, p1]⟩ : Shape).Idx → Val e)
    (L : List (View.Piece Val ⟨2, ![n0, n1]⟩ e)) (i : Fin p0) (i1 : Fin n0) (j : Fin p1) (j1 : Fin n1)
    (hi : i1.val = o0 + i.val) (hj : j1.val = o1 + j.val) :
    View.canon (⟨Rect.unit (s := ⟨2, ![n0, n1]⟩) ![o0, o1] ![p0, p1] h, P⟩ :: L) (ix2 i1 j1) = P (ix2 i j) := by
  have : ix2 i1 j1 = (Rect.unit (s := ⟨2, ![n0, n1]⟩) ![o0, o1] ![p0, p1] h).emb (ix2 i j) := by
    funext a
    refine Fin.ext ?_
    fin_cases a
    · show i1.val = o0 + 1 * i.val; omega
    · show j1.val = o1 + 1 * j.val; omega
  rw [this]
  exact View.canon_cons_emb _ _ _ _

/-- An entry outside the last store's columns is the stores' before. -/
theorem skip2 {n0 n1 p0 p1 o0 o1 : ℕ} (h) (P : (⟨2, ![p0, p1]⟩ : Shape).Idx → Val e)
    (L : List (View.Piece Val ⟨2, ![n0, n1]⟩ e)) (i1 : Fin n0) (j1 : Fin n1) (hj : j1.val < o1 ∨ o1 + p1 ≤ j1.val) :
    View.canon (⟨Rect.unit (s := ⟨2, ![n0, n1]⟩) ![o0, o1] ![p0, p1] h, P⟩ :: L) (ix2 i1 j1) = View.canon L (ix2 i1 j1) := by
  refine View.canon_cons_of_not_mem _ _ fun hm => ?_
  replace hm : ix2 i1 j1 ∈ (Rect.unit (s := ⟨2, ![n0, n1]⟩) ![o0, o1] ![p0, p1] h).set := hm
  have h1 : o1 ≤ j1.val ∧ j1.val < o1 + p1 := Rect.mem_set_unit.1 hm 1
  omega
end

/-- The stored rows, band by band. -/
theorem haloVec_apply (w : Weights Ideal) (x : FVec Ideal S512x1024 .f32) (L) (q : Fin 4) (i : Fin 8) (j : Fin 1536) :
    haloVec w x L (ix2 i (col q j)) = nextHalo w x q (ix2 i j) := by
  have hj := j.isLt
  have hc : (col q j).val = 1536 * q.val + j.val := rfl
  unfold haloVec
  obtain rfl | rfl | rfl | rfl := Cert.Lru.four q
  · rw [skip2 _ _ _ i (col 0 j) (by omega), skip2 _ _ _ i (col 0 j) (by omega), skip2 _ _ _ i (col 0 j) (by omega),
      hit2 _ _ _ i i j (col 0 j) (by omega) (by omega)]
  · rw [skip2 _ _ _ i (col 1 j) (by omega), hit2 _ _ _ i i j (col 1 j) (by omega) (by omega)]
  · rw [skip2 _ _ _ i (col 2 j) (by omega), skip2 _ _ _ i (col 2 j) (by omega),
      hit2 _ _ _ i i j (col 2 j) (by omega) (by omega)]
  · rw [hit2 _ _ _ i i j (col 3 j) (by omega) (by omega)]

/-- The rows read back, band by band. -/
theorem haloOf_apply (v : Vec Ideal S8x6144 .f32) (q : Fin 4) (i : Fin 8) (j : Fin 1536) :
    haloOf v q (ix2 i j) = v (ix2 i (col q j)) := by
  obtain rfl | rfl | rfl | rfl := Cert.Lru.four q
  · exact Cert.Lru.ld2 v inb_S8x6144_S8x1536_0_0 i i j (col 0 j) (by omega) rfl
  · exact Cert.Lru.ld2 v inb_S8x6144_S8x1536_0_1536 i i j (col 1 j) (by omega) rfl
  · exact Cert.Lru.ld2 v inb_S8x6144_S8x1536_0_3072 i i j (col 2 j) (by omega) rfl
  · exact Cert.Lru.ld2 v inb_S8x6144_S8x1536_0_4608 i i j (col 3 j) (by omega) rfl

/-- Zeros are the rows carried into a sequence. -/
theorem zero_holds (R : ℕ → Hidden) : HoldsHalo (haloOf (k0_pay2 (F := Ideal))) R 0 := fun q i j => by
  have hi := i.isLt
  rw [haloOf_apply]
  unfold tapS
  rw [if_pos (by omega)]
  pointwise [k0_pay2]

/-- The rows stored by a block hold for the next. -/
theorem stored_holds {w : Weights Ideal} {W : Wts} (hW : Loaded w W) {x : FVec Ideal S512x1024 .f32} {X : ℕ → Row} {b : ℕ}
    (hx : Holds x X b) (L) : HoldsHalo (haloOf (haloVec w x L)) (hid W X) (b + 512) := fun q i j => by
  rw [haloOf_apply, haloVec_apply]
  exact nextHalo_holds hW hx q i j

end Cert.Ffn
-- ==== Proof.Ffn.Window.lean ====
/- The rows read back from the buffer of the shifted rows: eight carried rows stored in front of the block. -/
module

public import proofs.«01_k».proof.Proof.Ffn.Block
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem Cert.Kernel2Ideal Cert.Kernel2Ideal.Gen

variable {F : FTy → Type} [FloatOps F]

/-- What the buffer holds in a plane: the eight rows, then the block. -/
def planeOf (e : Vec F S1x1x8x1536 .f32) (r : Vec F S1x1x512x1536 .f32) : Vec F S2x2x520x1536 .f32 := fun y =>
  if h : (y 2).val < 8 then e (ix4 0 0 ⟨(y 2).val, h⟩ (y 3))
  else r (ix4 0 0 ⟨(y 2).val - 8, by have h1 : (y 2).val < 520 := (y 2).isLt; omega⟩ (y 3))

/-- Membership in the rows `o … o + n - 1` of a plane. -/
theorem in_plane (b p o n o' : ℕ) (h : ∀ a, ![b, p, o, 0] a + ![1, 1, n, 1536] a ≤ S2x2x520x1536.size a)
    {hw : ∀ a, ![b, p, o', 0] a + ![1, 1, 512, 1536] a ≤ S2x2x520x1536.size a} (y : S1x1x512x1536.Idx)
    (h1 : o ≤ o' + (y 2).val) (h2 : o' + (y 2).val < o + n) :
    (Rect.unit (s := S2x2x520x1536) ![b, p, o', 0] ![1, 1, 512, 1536] hw).toLoadRect.idx y
      ∈ (Rect.unit (s := S2x2x520x1536) ![b, p, o, 0] ![1, 1, n, 1536] h).set := by
  have y0 : (y 0).val < 1 := (y 0).isLt
  have y1 : (y 1).val < 1 := (y 1).isLt
  have y3 : (y 3).val < 1536 := (y 3).isLt
  refine Rect.mem_set_unit.2 fun a => ?_
  fin_cases a
  · show b ≤ b + 1 * (y 0).val ∧ b + 1 * (y 0).val < b + 1; omega
  · show p ≤ p + 1 * (y 1).val ∧ p + 1 * (y 1).val < p + 1; omega
  · show o ≤ o' + 1 * (y 2).val ∧ o' + 1 * (y 2).val < o + n; omega
  · show 0 ≤ 0 + 1 * (y 3).val ∧ 0 + 1 * (y 3).val < 0 + 1536; omega

/-- A window of 512 rows over the two stores of a plane is that window of the rows stored. -/
theorem window_canon (b p o : ℕ) (e : Vec F S1x1x8x1536 .f32) (r : Vec F S1x1x512x1536 .f32)
    (L : List (View.Piece (Elt F) S2x2x520x1536 .f32)) (h1 h0 hw) (y : S1x1x512x1536.Idx) :
    View.canon (⟨Rect.unit (s := S2x2x520x1536) ![b, p, 8, 0] ![1, 1, 512, 1536] h1, r⟩ ::
        ⟨Rect.unit ![b, p, 0, 0] ![1, 1, 8, 1536] h0, e⟩ :: L)
      ((Rect.unit (s := S2x2x520x1536) ![b, p, o, 0] ![1, 1, 512, 1536] hw).toLoadRect.idx y) = windowOf e r o y := by
  have y2 : (y 2).val < 512 := (y 2).isLt
  have hi : o + 512 ≤ 520 := hw 2
  refine (View.canon_append_of_piecesOf (planeOf e r) L [_, _] ⟨?_, ?_, trivial⟩ _ ?_).trans ?_
  · intro x
    have x0 : (x 0).val < 1 := (x 0).isLt
    have x1 : (x 1).val < 1 := (x 1).isLt
    refine Eq.trans ?_ (dif_neg (show ¬ 8 + 1 * (x 2).val < 8 by omega)).symm
    refine congrArg r (funext fun a => Fin.ext ?_)
    fin_cases a
    · show (x 0).val = 0; omega
    · show (x 1).val = 0; omega
    · show (x 2).val = 8 + 1 * (x 2).val - 8; omega
    · show (x 3).val = 0 + 1 * (x 3).val; omega
  · intro x
    have x0 : (x 0).val < 1 := (x 0).isLt
    have x1 : (x 1).val < 1 := (x 1).isLt
    have x2 : (x 2).val < 8 := (x 2).isLt
    refine Eq.trans ?_ (dif_pos (show 0 + 1 * (x 2).val < 8 by omega)).symm
    refine congrArg e (funext fun a => Fin.ext ?_)
    fin_cases a
    · show (x 0).val = 0; omega
    · show (x 1).val = 0; omega
    · show (x 2).val = 0 + 1 * (x 2).val; omega
    · show (x 3).val = 0 + 1 * (x 3).val; omega
  · by_cases c1 : 8 ≤ o + (y 2).val
    · exact ⟨_, .head _, in_plane b p 8 512 _ h1 _ (by omega) (by omega)⟩
    · exact ⟨_, .tail _ (.head _), in_plane b p 0 8 _ h0 _ (by omega) (by omega)⟩
  · have e1 : (((Rect.unit (s := S2x2x520x1536) ![b, p, o, 0] ![1, 1, 512, 1536] hw).toLoadRect.idx y) 2).val
        = o + (y 2).val := by show o + 1 * (y 2).val = _; omega
    have e2 : ((Rect.unit (s := S2x2x520x1536) ![b, p, o, 0] ![1, 1, 512, 1536] hw).toLoadRect.idx y) 3 = y 3 :=
      Fin.ext (by show 0 + 1 * (y 3).val = _; omega)
    unfold planeOf windowOf
    have e3 : (o + (y 2).val - 8) % 512 = o + (y 2).val - 8 := Nat.mod_eq_of_lt (by omega)
    simp only [e1, e2, e3]

end Cert.Ffn
-- ==== Proof.Final.Point.lean ====
/- What each grid point of the feed-forward call with the final norm leaves, in terms of the block functions and what the point
   before left. -/
module

public import proofs.«01_k».proof.Proof.Ffn.Window
public import proofs.«01_k».proof.Proof.Gen.Kernel2Ideal.Value

@[expose] public section

set_option maxRecDepth 16384

noncomputable section

namespace Cert.Final

open Idealize.ShloMosaic Idealize.ShloMosaic.TcCoe Idealize.SL.Sem Cert.Kernel2Ideal Cert.Kernel2Ideal.Gen Cert.Ffn

variable {F : FTy → Type} [FloatOps F]

/-- A window of 512 rows read after the two stores of a plane is that window of the rows stored. -/
theorem window_read (b p o : ℕ) (e : Vec F S1x1x8x1536 .f32) (r : Vec F S1x1x512x1536 .f32)
    (L : List (View.Piece (Elt F) S2x2x520x1536 .f32)) (h1 h0 hw) :
    (View.whole cc0_scratch1).readCov (⟨Rect.unit (s := S2x2x520x1536) ![b, p, 8, 0] ![1, 1, 512, 1536] h1, r⟩ ::
        ⟨Rect.unit ![b, p, 0, 0] ![1, 1, 8, 1536] h0, e⟩ :: L)
      (Rect.unit ![b, p, o, 0] ![1, 1, 512, 1536] hw).toLoadRect = windowOf e r o := by
  rw [View.readCov_eq_canon']
  exact funext fun y => window_canon b p o e r L h1 h0 hw y

variable (m : (ℓ : Loc nD τ sig) → Buf (Elt F) ℓ) (c : Dev nD)

/-- The weights a grid point loads. -/
def weights (t : Fin cfg0.N) : Weights F where
  g := iblk m c 1 t
  wup := ![View.ld (iblk m c 2 t) (Rect.unit ![0, 0] ![1024, 1536] inb_S1024x6144_S1024x1536_0_0),
    View.ld (iblk m c 2 t) (Rect.unit ![0, 1536] ![1024, 1536] inb_S1024x6144_S1024x1536_0_1536),
    View.ld (iblk m c 2 t) (Rect.unit ![0, 3072] ![1024, 1536] inb_S1024x6144_S1024x1536_0_3072),
    View.ld (iblk m c 2 t) (Rect.unit ![0, 4608] ![1024, 1536] inb_S1024x6144_S1024x1536_0_4608)]
  cb := ![View.ld (iblk m c 4 t) (Rect.unit ![0, 0] ![1, 1536] inb_S1x6144_S1x1536_0_0),
    View.ld (iblk m c 4 t) (Rect.unit ![0, 1536] ![1, 1536] inb_S1x6144_S1x1536_0_1536),
    View.ld (iblk m c 4 t) (Rect.unit ![0, 3072] ![1, 1536] inb_S1x6144_S1x1536_0_3072),
    View.ld (iblk m c 4 t) (Rect.unit ![0, 4608] ![1, 1536] inb_S1x6144_S1x1536_0_4608)]
  cw := ![![View.ld (iblk m c 3 t) (Rect.unit ![0, 0] ![1, 1536] inb_S3x6144_S1x1536_0_0),
      View.ld (iblk m c 3 t) (Rect.unit ![0, 1536] ![1, 1536] inb_S3x6144_S1x1536_0_1536),
      View.ld (iblk m c 3 t) (Rect.unit ![0, 3072] ![1, 1536] inb_S3x6144_S1x1536_0_3072),
      View.ld (iblk m c 3 t) (Rect.unit ![0, 4608] ![1, 1536] inb_S3x6144_S1x1536_0_4608)],
    ![View.ld (iblk m c 3 t) (Rect.unit ![1, 0] ![1, 1536] inb_S3x6144_S1x1536_1_0),
      View.ld (iblk m c 3 t) (Rect.unit ![1, 1536] ![1, 1536] inb_S3x6144_S1x1536_1_1536),
      View.ld (iblk m c 3 t) (Rect.unit ![1, 3072] ![1, 1536] inb_S3x6144_S1x1536_1_3072),
      View.ld (iblk m c 3 t) (Rect.unit ![1, 4608] ![1, 1536] inb_S3x6144_S1x1536_1_4608)],
    ![View.ld (iblk m c 3 t) (Rect.unit ![2, 0] ![1, 1536] inb_S3x6144_S1x1536_2_0),
      View.ld (iblk m c 3 t) (Rect.unit ![2, 1536] ![1, 1536] inb_S3x6144_S1x1536_2_1536),
      View.ld (iblk m c 3 t) (Rect.unit ![2, 3072] ![1, 1536] inb_S3x6144_S1x1536_2_3072),
      View.ld (iblk m c 3 t) (Rect.unit ![2, 4608] ![1, 1536] inb_S3x6144_S1x1536_2_4608)]]
  wdn := ![View.ld (iblk m c 5 t) (Rect.unit ![0, 0] ![1536, 1024] inb_S3072x1024_S1536x1024_0_0),
    View.ld (iblk m c 5 t) (Rect.unit ![1536, 0] ![1536, 1024] inb_S3072x1024_S1536x1024_1536_0)]
  fg := iblk m c 6 t

/-- The rows of the input a grid point loads. -/
def rowsOf (t : Fin cfg0.N) : FVec F S512x1024 .f32 := k0_pay3 (iblk m c 0 t)

/-- What a grid point finds in the carried buffer: zeros at the first point of a sequence, else what the point before left. -/
def before (t : Fin cfg0.N) : Vec F S8x6144 .f32 :=
  if t.val % 32 = 0 then k0_pay2 else (outsAt0 m c (t.val - 1) (lt_of_le_of_lt (Nat.sub_le _ _) t.isLt)).2

set_option maxHeartbeats 2000000 in
/-- A grid point's two arrays from its blocks and what it finds. -/
theorem point (t : Fin cfg0.N) : ∃ L, outsAt0 m c t.val t.isLt =
    (shapeCast S1x512x1024 (scaled (layer (weights m c t) (rowsOf m c t) (haloOf (before m c t))) (weights m c t).fg)
      shapeCasts_S512x1024_S1x512x1024, haloVec (weights m c t) (rowsOf m c t) L) := by
  by_cases h : t.val % 32 = 0
  case' pos =>
    refine ⟨[⟨Rect.unit ![0, 0] ![8, 6144] inb_S8x6144_S8x6144_0_0, k0_pay2⟩], ?_⟩
    rw [before, if_pos h, outsAt0_A m c t h]
  case' neg =>
    refine ⟨[], ?_⟩
    rw [before, if_neg h, outsAt0_B m c t h]
  all_goals
    frame_open
    simp (disch := decide) only [↓ View.readCov_skip, ↓ View.readCov_cons_toLoadRect, ↓ View.readCov_fill]
    frame_out
    try simp only [read_unread_whole, window_read _ _ 6, window_read _ _ 7]
    refine Prod.ext ?_ ?_
    all_goals dsimp only
  all_goals
    simp only [layer, summed, gated, half, up, normed, scaled, haloVec, nextHalo, haloOf, weights, rowsOf, Matrix.cons_val]
    try simp only [k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32]
    rfl

end Cert.Final
-- ==== Proof.Final.Reads.lean ====
/- What a grid point of the feed-forward call with the final norm loads, in terms of the arguments. -/
module

public import proofs.«01_k».proof.Proof.Ffn.Carry
public import proofs.«01_k».proof.Proof.Final.Point
public import Idealize.ShloMosaic.Lib.ValueLayout

@[expose] public section

set_option maxRecDepth 16384

noncomputable section

namespace Cert.Final

open Idealize.ShloMosaic Idealize.ShloMosaic.TcCoe Idealize.SL.Sem Cert.Kernel2Ideal Cert.Kernel2Ideal.Gen Cert.Ffn

variable (m : (ℓ : Loc nD τ sig) → Buf (Elt Ideal) ℓ) (c : Dev nD)

/-- Where each operand's block lies at a grid point. -/
theorem idx : ∀ t : Fin cfg0.N,
    win0_0.index t (0 : Fin 3) = t.val / 32 ∧ win0_0.index t (1 : Fin 3) = t.val % 32 ∧ win0_0.index t (2 : Fin 3) = 0 ∧
    win0_1.index t (0 : Fin 2) = 0 ∧ win0_1.index t (1 : Fin 2) = 0 ∧ win0_2.index t (0 : Fin 2) = 0 ∧
    win0_2.index t (1 : Fin 2) = 0 ∧ win0_3.index t (0 : Fin 2) = 0 ∧ win0_3.index t (1 : Fin 2) = 0 ∧
    win0_4.index t (0 : Fin 2) = 0 ∧ win0_4.index t (1 : Fin 2) = 0 ∧ win0_5.index t (0 : Fin 2) = 0 ∧
    win0_5.index t (1 : Fin 2) = 0 ∧ win0_6.index t (0 : Fin 2) = 0 ∧ win0_6.index t (1 : Fin 2) = 0 := by
  decide

theorem entry_v0 : V m c main_v0
    = shapeCast S1x1024 (m ((c : Thread nD τ).loc main_arg1)) shapeCasts_S1024_S1x1024 := by
  unfold V
  entry_read
  rfl

theorem entry_v1 : V m c main_v1
    = (truncf .bf16 (m ((c : Thread nD τ).loc main_arg3)) bitsLt_bf16_f32 : FVec Ideal S1024x6144 .bf16) := by
  unfold V
  entry_read
  rfl

theorem entry_v2 : V m c main_v2
    = shapeCast S1x6144 (m ((c : Thread nD τ).loc main_arg5)) shapeCasts_S6144_S1x6144 := by
  unfold V
  entry_read
  rfl

theorem entry_v3 : V m c main_v3
    = (truncf .bf16 (m ((c : Thread nD τ).loc main_arg6)) bitsLt_bf16_f32 : FVec Ideal S3072x1024 .bf16) := by
  unfold V
  entry_read
  rfl

theorem entry_v4 : V m c main_v4
    = shapeCast S1x1024 (m ((c : Thread nD τ).loc main_arg2)) shapeCasts_S1024_S1x1024 := by
  unfold V
  entry_read
  rfl

theorem read_g (t : Fin cfg0.N) (i : Fin 1) (j : Fin 1024) : iblk m c 1 t (ix2 i j) = m ((c : Thread nD τ).loc main_arg1) (ix1 j) := by
  blk_simp [iblk, idx t]
  rw [entry_v0]
  pointwise
  blk_ext [iblk, V, idx t]

theorem read_wup (t : Fin cfg0.N) (i : Fin 1024) (j : Fin 6144) : iblk m c 2 t (ix2 i j) = m ((c : Thread nD τ).loc main_arg3) (ix2 i j) := by
  blk_simp [iblk, idx t]
  rw [entry_v1]
  pointwise
  blk_ext [iblk, V, idx t]

theorem read_cw (t : Fin cfg0.N) (i : Fin 3) (j : Fin 6144) : iblk m c 3 t (ix2 i j) = m ((c : Thread nD τ).loc main_arg4) (ix2 i j) := by
  blk_simp [iblk, idx t]
  rw [V_main_arg4]
  pointwise
  blk_ext [iblk, V, idx t]

theorem read_cb (t : Fin cfg0.N) (i : Fin 1) (j : Fin 6144) : iblk m c 4 t (ix2 i j) = m ((c : Thread nD τ).loc main_arg5) (ix1 j) := by
  blk_simp [iblk, idx t]
  rw [entry_v2]
  have e : (win0_4.blk t).view.emb (ix2 i j) = ix2 i j := by blk_ext [iblk, V, idx t]
  rw [e]
  exact ValueIdx.shapeCast_a_1a_apply _ _ _ _

theorem read_wdn (t : Fin cfg0.N) (i : Fin 3072) (j : Fin 1024) : iblk m c 5 t (ix2 i j) = m ((c : Thread nD τ).loc main_arg6) (ix2 i j) := by
  blk_simp [iblk, idx t]
  rw [entry_v3]
  pointwise
  blk_ext [iblk, V, idx t]

theorem read_fg (t : Fin cfg0.N) (i : Fin 1) (j : Fin 1024) : iblk m c 6 t (ix2 i j) = m ((c : Thread nD τ).loc main_arg2) (ix1 j) := by
  blk_simp [iblk, idx t]
  rw [entry_v4]
  pointwise
  blk_ext [iblk, V, idx t]

theorem read_x (t : Fin cfg0.N) (p : Fin 512) (d : Fin 1024) :
    rowsOf m c t (ix2 p d) = seqS (m ((c : Thread nD τ).loc main_arg0)) ⟨t.val / 32, by have := lt_of_lt_of_eq t.isLt N_0; omega⟩
      (512 * (t.val % 32) + p.val) d := by
  have ht : t.val < 64 := lt_of_lt_of_eq t.isLt N_0
  have hp := p.isLt
  unfold rowsOf seqS
  rw [dif_pos (by omega)]
  pointwise [k0_pay3]
  blk_simp [iblk, idx t]
  rw [V_main_arg0]
  pointwise
  blk_ext [iblk, V, idx t]

/-- The layer's weights from the program's arguments. -/
def wts : Wts :=
  argW (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg2))

/-- The weights a grid point loads are the layer's. -/
theorem loaded (t : Fin cfg0.N) : Loaded (weights m c t) (wts m c) where
  g d := read_g m c t 0 d
  up q k j := by
    obtain rfl | rfl | rfl | rfl := Cert.Lru.four q
    all_goals exact (Cert.Lru.ld2 (iblk m c 2 t) _ k k j _ (by omega) rfl).trans (read_wup m c t _ _)
  cb q j := by
    obtain rfl | rfl | rfl | rfl := Cert.Lru.four q
    all_goals exact (Cert.Lru.ld2 (iblk m c 4 t) _ 0 0 j _ rfl rfl).trans (read_cb m c t _ _)
  cw i q j := by
    obtain rfl | rfl | rfl := Cert.Lru.three i
    all_goals obtain rfl | rfl | rfl | rfl := Cert.Lru.four q
    all_goals exact (Cert.Lru.ld2 (iblk m c 3 t) _ 0 _ j _ rfl rfl).trans (read_cw m c t _ _)
  dn0 k d := (Cert.Lru.ld2 (iblk m c 5 t) _ k ⟨k.val, by omega⟩ d d (by show k.val = 0 + k.val; omega) (by omega)).trans (read_wdn m c t _ _)
  dn1 k d := (Cert.Lru.ld2 (iblk m c 5 t) _ k ⟨1536 + k.val, by omega⟩ d d rfl (by omega)).trans (read_wdn m c t _ _)
  fg d := read_fg m c t 0 d

end Cert.Final
-- ==== Proof.Final.Sweep.lean ====
/- The result of the feed-forward call with the final norm: every grid point leaves its block of its sequence's result. -/
module

public import proofs.«01_k».proof.Proof.Final.Reads

@[expose] public section

set_option maxRecDepth 16384

noncomputable section

namespace Cert.Final

open Idealize.ShloMosaic Idealize.ShloMosaic.TcCoe Idealize.SL.Sem Cert.Kernel2Ideal Cert.Kernel2Ideal.Gen Cert.Ffn

variable (m : (ℓ : Loc nD τ sig) → Buf (Elt Ideal) ℓ) (c : Dev nD)

/-- Sequence `b` of the kernel's input. -/
abbrev seqOf (b : Fin 2) : ℕ → Row := seqS (m ((c : Thread nD τ).loc main_arg0)) b

/-- The result's rows: the layer's rows, normalised. -/
def outS (W : Wts) (X : ℕ → Row) (t : ℕ) : Row := nrmS W.fg (layerS W X t)

/-- The sequence a grid point works on. -/
def seqAt (t : ℕ) (h : t < cfg0.N) : Fin 2 := ⟨t / 32, by have := lt_of_lt_of_eq h N_0; omega⟩

theorem rows_holds (t : Fin cfg0.N) : Holds (rowsOf m c t) (seqOf m c (seqAt t.val t.isLt)) (512 * (t.val % 32)) :=
  fun p d => read_x m c t p d

/-- The carried rows a grid point finds are the last hidden rows of its sequence so far. -/
theorem carried (t : Fin cfg0.N) :
    HoldsHalo (haloOf (before m c t)) (hid (wts m c) (seqOf m c (seqAt t.val t.isLt))) (512 * (t.val % 32)) := by
  have hN : t.val < 64 := lt_of_lt_of_eq t.isLt N_0
  unfold before
  by_cases h : t.val % 32 = 0
  · rw [if_pos h, h]
    exact zero_holds _
  · rw [if_neg h]
    have ht : t.val - 1 < cfg0.N := lt_of_le_of_lt (Nat.sub_le _ _) t.isLt
    obtain ⟨L, hp⟩ := point m c ⟨t.val - 1, ht⟩
    have hs : seqAt t.val t.isLt = seqAt (t.val - 1) ht := Fin.ext (by show t.val / 32 = (t.val - 1) / 32; omega)
    have hb : 512 * (t.val % 32) = 512 * ((t.val - 1) % 32) + 512 := by omega
    rw [hs, hb, show outsAt0 m c (t.val - 1) _ = _ from hp]
    dsimp only
    have hr : Holds (rowsOf m c ⟨t.val - 1, ht⟩) (seqOf m c (seqAt (t.val - 1) ht)) (512 * ((t.val - 1) % 32)) :=
      rows_holds m c ⟨t.val - 1, ht⟩
    exact stored_holds (loaded m c ⟨t.val - 1, ht⟩) hr L

/-- A grid point leaves its 512 rows of the result. -/
theorem point_out (t : Fin cfg0.N) (p : Fin 512) (d : Fin 1024) :
    (outsAt0 m c t.val t.isLt).1 (ix3 0 p d)
      = outS (wts m c) (seqOf m c (seqAt t.val t.isLt)) (512 * (t.val % 32) + p.val) d := by
  obtain ⟨L, hp⟩ := point m c t
  have hl := layer_holds (loaded m c t) (rows_holds m c t) (carried m c t)
  rw [hp]
  dsimp only
  refine (ValueIdx.shapeCast_ab_1ab_apply _ _ _ _ _).trans ?_
  exact scaled_row _ _ _ _ p (loaded m c t).fg (hl p) d

/-- The kernel's result, entry by entry. -/
theorem result_apply (b : Fin 2) (t : Fin 16384) (d : Fin 1024) :
    Cert.Kernel2Ideal.Value.G7 m c (ix3 b t d) = outS (wts m c) (seqOf m c b) t.val d := by
  have hb := b.isLt
  have hd := d.isLt
  have hpt : Cert.Kernel2Ideal.Value.pt7Of (ix3 b t d) = 32 * b.val + t.val / 512 := by
    show 32 * (b.val / 1 - 0) + 1 * (t.val / 512 - 0) + 1 * (d.val / 1024 - 0) = _
    omega
  have hlt : 32 * b.val + t.val / 512 < cfg0.N := by rw [show cfg0.N = 64 from N_0]; omega
  unfold Cert.Kernel2Ideal.Value.G7
  rw [dif_pos (by rw [hpt]; exact hlt), Cert.Kernel2Ideal.Value.fold0_congr m c _ _ (32 * b.val + t.val / 512) (by omega) hpt,
    ← Cert.Kernel2Ideal.Value.outsAt0_sweep m c _ hlt]
  have hloc : Cert.Kernel2Ideal.Value.loc7Of (ix3 b t d) = ix3 0 ⟨t.val % 512, by omega⟩ d := by
    funext a
    refine Fin.ext ?_
    fin_cases a
    · show b.val % 1 = 0; omega
    · rfl
    · show d.val % 1024 = d.val; omega
  have hs : seqAt (32 * b.val + t.val / 512) hlt = b := Fin.ext (by show (32 * b.val + t.val / 512) / 32 = b.val; omega)
  rw [hloc, point_out m c ⟨32 * b.val + t.val / 512, hlt⟩]
  dsimp only
  rw [hs]
  congr 1
  show 512 * ((32 * b.val + t.val / 512) % 32) + t.val % 512 = t.val
  omega

end Cert.Final
-- ==== Proof.Ffn.RefFns.lean ====
/- The reference's feed-forward layer as functions of whole arrays, and their entries. -/
module

public import proofs.«01_k».proof.Proof.Gen.Reference2Ideal.Run
public import proofs.«01_k».proof.Proof.Ffn.Spec

@[expose] public section

set_option maxRecDepth 16384

noncomputable section

namespace Cert.Ffn.Ref

open Idealize.ShloMosaic Idealize.ShloMosaic.TcCoe Idealize.SL.Sem Cert.Reference2Ideal Cert.Reference2Ideal.Gen

variable {F : FTy → Type} [FloatOps F]

/-- Every row divided by its root mean square and scaled. -/
def scaledR (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1
        (Host.reduceAdd (mulf x x) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The hidden rows. -/
def upR (x : FVec F S2x16384x1024 .f32) (g : FVec F S1024 .f32) (up : FVec F S1024x6144 .f32) : FVec F S2x16384x6144 .f32 :=
  Host.dotGeneral dot_S2x16384x1024_S1024x6144_S2x16384x6144_2_0_01_1_n_n none (scaledR x g) up

/-- The hidden rows with two rows of zeros in front. -/
def padR (v : FVec F S2x16384x6144 .f32) : FVec F S2x16386x6144 .f32 :=
  pad S2x16386x6144 ![0, 2, 0] ![0, 0, 0] ![0, 0, 0] v (sitofp .f32 (constantI S_ 32 0#32)) pads_S2x16384x6144_S2x16386x6144_000_200_000 h_S_

/-- A hidden row over all positions. -/
def spread (v : FVec F S6144 .f32) : FVec F S2x16384x6144 .f32 :=
  broadcastInDim S2x16384x6144 ![0, 1, 2] bcast_S1x1x6144_S2x16384x6144_0_1_2 (broadcastInDim S1x1x6144 ![2] bcast_S6144_S1x1x6144_2 v)

/-- The convolved hidden rows. -/
def convR (v : FVec F S2x16384x6144 .f32) (cw : FVec F S3x6144 .f32) (cb : FVec F S6144 .f32) : FVec F S2x16384x6144 .f32 :=
  addf (addf (addf (spread cb)
    (mulf (extractStridedSlice S2x16384x6144 ![0, 0, 0] (padR v) slices_S2x16386x6144_S2x16384x6144_0_0_0)
      (spread (shapeCast _ (extractStridedSlice S1x6144 ![0, 0] cw slices_S3x6144_S1x6144_0_0) shapeCasts_S1x6144_S6144))))
    (mulf (extractStridedSlice S2x16384x6144 ![0, 1, 0] (padR v) slices_S2x16386x6144_S2x16384x6144_0_1_0)
      (spread (shapeCast _ (extractStridedSlice S1x6144 ![1, 0] cw slices_S3x6144_S1x6144_1_0) shapeCasts_S1x6144_S6144))))
    (mulf (extractStridedSlice S2x16384x6144 ![0, 2, 0] (padR v) slices_S2x16386x6144_S2x16384x6144_0_2_0)
      (spread (shapeCast _ (extractStridedSlice S1x6144 ![2, 0] cw slices_S3x6144_S1x6144_2_0) shapeCasts_S1x6144_S6144)))

/-- A number over all gate positions. -/
def fill (b : BitVec 32) : FVec F S2x16384x3072 .f32 := broadcastInDim S2x16384x3072 ![] bcast_S_S2x16384x3072 (constant S_ .f32 b)

/-- The gates' activation. -/
def actR (y : FVec F S2x16384x3072 .f32) : FVec F S2x16384x3072 .f32 :=
  mulf y (mulf (fill 0x3F000000#32) (addf (fill 0x3F800000#32)
    (Host.tanh (mulf (fill 0x3F4C422A#32) (addf y (mulf (fill 0x3D372713#32) (mulf (mulf y y) y)))))))

/-- The values times the activated gates. -/
def gateR (v : FVec F S2x16384x6144 .f32) : FVec F S2x16384x3072 .f32 :=
  mulf (extractStridedSlice S2x16384x3072 ![0, 0, 0] v slices_S2x16384x6144_S2x16384x3072_0_0_0)
    (actR (extractStridedSlice S2x16384x3072 ![0, 0, 3072] v slices_S2x16384x6144_S2x16384x3072_0_0_3072))

/-- The rows after the layer. -/
def layerR (x : FVec F S2x16384x1024 .f32) (g : FVec F S1024 .f32) (up : FVec F S1024x6144 .f32) (cw : FVec F S3x6144 .f32)
    (cb : FVec F S6144 .f32) (dn : FVec F S3072x1024 .f32) : FVec F S2x16384x1024 .f32 :=
  addf x (Host.dotGeneral dot_S2x16384x3072_S3072x1024_S2x16384x1024_2_0_01_1_n_n none (gateR (convR (upR x g up) cw cb)) dn)

/-! ## Entries -/

theorem scaled_at (x : FVec Ideal S2x16384x1024 .f32) (g : FVec Ideal S1024 .f32) (b : Fin 2) (t : Fin 16384) (d : Fin 1024) :
    scaledR x g (ix3 b t d) = nrmS (fun d => g (ix1 d)) (fun d => x (ix3 b t d)) d := by
  unfold nrmS
  pointwise [scaledR]

theorem up_at (x : FVec Ideal S2x16384x1024 .f32) (g : FVec Ideal S1024 .f32) (up : FVec Ideal S1024x6144 .f32) (b : Fin 2)
    (t : Fin 16384) (j : Fin 6144) : upR x g up (ix3 b t j)
      = ∑ k, nrmS (fun d => g (ix1 d)) (fun d => x (ix3 b t d)) k * up (ix2 k j) := by
  pointwise [upR]
  simp only [scaled_at]

/-- A padded row: zero for the first two, else the hidden row two before. -/
theorem pad_at (v : FVec Ideal S2x16384x6144 .f32) (b : Fin 2) (s : Fin 16386) (j : Fin 6144) :
    padR v (ix3 b s j) = if h : 2 ≤ s.val then v (ix3 b ⟨s.val - 2, by omega⟩ j) else 0 := by
  pointwise [padR]
  by_cases h : 2 ≤ s.val
  · rw [dif_pos h, dif_pos ⟨h, by omega⟩]
  · rw [dif_neg h, dif_neg (fun h' => h h'.1)]
    show (((0#32 : BitVec 32).toInt : ℝ) : EReal) = 0
    simp

theorem conv_at (v : FVec Ideal S2x16384x6144 .f32) (cw : FVec Ideal S3x6144 .f32) (cb : FVec Ideal S6144 .f32) (b : Fin 2)
    (t : Fin 16384) (j : Fin 6144) : convR v cw cb (ix3 b t j) = cb (ix1 j)
      + padR v (ix3 b ⟨t.val, by omega⟩ j) * cw (ix2 0 j) + padR v (ix3 b ⟨1 + t.val, by omega⟩ j) * cw (ix2 1 j)
      + padR v (ix3 b ⟨2 + t.val, by omega⟩ j) * cw (ix2 2 j) := by
  pointwise [convR, spread]

theorem act_at (y : FVec Ideal S2x16384x3072 .f32) (b : Fin 2) (t : Fin 16384) (k : Fin 3072) :
    actR y (ix3 b t k) = actS (y (ix3 b t k)) := by
  unfold actS
  pointwise [actR, fill]
  rw [mul_left_comm, ← mul_assoc]

theorem gate_at (v : FVec Ideal S2x16384x6144 .f32) (b : Fin 2) (t : Fin 16384) (k : Fin 3072) :
    gateR v (ix3 b t k) = gateS (fun j => v (ix3 b t j)) k := by
  unfold gateS
  rw [gateR]
  pointwise
  rw [act_at]
  pointwise

theorem seq_at (x : FVec Ideal S2x16384x1024 .f32) (b : Fin 2) (t : Fin 16384) : seqS x b t.val = fun d => x (ix3 b t d) :=
  funext fun d => dif_pos t.isLt

/-- The layer's rows, where the sequence `X` holds the array's rows. -/
theorem layer_at (x : FVec Ideal S2x16384x1024 .f32) (g : FVec Ideal S1024 .f32) (up : FVec Ideal S1024x6144 .f32)
    (cw : FVec Ideal S3x6144 .f32) (cb : FVec Ideal S6144 .f32) (dn : FVec Ideal S3072x1024 .f32) (fg : FVec Ideal S1024 .f32)
    (X : ℕ → Row) (b : Fin 2) (hX : ∀ t : Fin 16384, X t.val = fun d => x (ix3 b t d)) (t : Fin 16384) (d : Fin 1024) :
    layerR x g up cw cb dn (ix3 b t d) = layerS (argW g up cw cb dn fg) X t.val d := by
  have hp : ∀ (i : ℕ) (hi : i < 3) (j : Fin 6144), padR (upR x g up) (ix3 b ⟨i + t.val, by omega⟩ j)
      = tapS (fun t => upS (argW g up cw cb dn fg) (X t)) t.val i j := fun i hi j => by
    rw [pad_at]
    unfold tapS
    by_cases h : t.val + i < 2
    · rw [if_pos h, dif_neg (by show ¬ 2 ≤ i + t.val; omega)]
    · rw [if_neg h, dif_pos (by show 2 ≤ i + t.val; omega), up_at]
      have e : t.val + i - 2 = i + t.val - 2 := by omega
      have hx := hX ⟨i + t.val - 2, by omega⟩
      unfold upS
      dsimp only at hx ⊢
      rw [e, hx]
      rfl
  have hc : ∀ j : Fin 6144, convR (upR x g up) cw cb (ix3 b t j)
      = convS (argW g up cw cb dn fg) (fun t => upS (argW g up cw cb dn fg) (X t)) t.val j := fun j => by
    have h0 := hp 0 (by omega) j
    have h1 := hp 1 (by omega) j
    have h2 := hp 2 (by omega) j
    have e0 : (⟨0 + t.val, by omega⟩ : Fin 16386) = ⟨t.val, by omega⟩ := Fin.ext (Nat.zero_add _)
    rw [e0] at h0
    rw [conv_at, h0, h1, h2]
    rfl
  unfold layerR layerS
  rw [hX t]
  pointwise
  simp only [gate_at, hc]
  rfl

end Cert.Ffn.Ref
-- ==== Proof.Final.Equal.lean ====
/- The feed-forward call with the final norm: the kernel's result array is the reference's. -/
module

public import proofs.«01_k».proof.Proof.Final.Sweep
public import proofs.«01_k».proof.Proof.Ffn.RefFns

@[expose] public section

set_option maxRecDepth 16384

noncomputable section

namespace Cert.Final

open Idealize.ShloMosaic Idealize.ShloMosaic.TcCoe Idealize.SL.Sem Cert.Ffn

/-- The reference as a function of its arguments. -/
def outR (x : FVec Ideal Reference2Ideal.S2x16384x1024 .f32) (g fg : FVec Ideal Reference2Ideal.S1024 .f32)
    (up : FVec Ideal Reference2Ideal.S1024x6144 .f32) (cw : FVec Ideal Reference2Ideal.S3x6144 .f32)
    (cb : FVec Ideal Reference2Ideal.S6144 .f32) (dn : FVec Ideal Reference2Ideal.S3072x1024 .f32) :
    FVec Ideal Reference2Ideal.S2x16384x1024 .f32 := Ref.scaledR (Ref.layerR x g up cw cb dn) fg

/-- The reference's result array is that function of the arguments. -/
theorem ref_result (m : (ℓ : Loc Reference2Ideal.nD Reference2Ideal.τ Reference2Ideal.sig) → Buf (Elt Ideal) ℓ) (c : Dev Reference2Ideal.nD) :
    Reference2Ideal.Value.res_main_v68 m c = outR (m (c.tc.loc Reference2Ideal.main_arg0))
      (m (c.tc.loc Reference2Ideal.main_arg1)) (m (c.tc.loc Reference2Ideal.main_arg2)) (m (c.tc.loc Reference2Ideal.main_arg3))
      (m (c.tc.loc Reference2Ideal.main_arg4)) (m (c.tc.loc Reference2Ideal.main_arg5)) (m (c.tc.loc Reference2Ideal.main_arg6)) := by
  unfold Reference2Ideal.Value.res_main_v68
  rfl

/-- The kernel's result array is the same function of the kernel's arguments. -/
theorem kernel_result (m : (ℓ : Loc Kernel2Ideal.nD Kernel2Ideal.τ Kernel2Ideal.sig) → Buf (Elt Ideal) ℓ) (c : Dev Kernel2Ideal.nD) :
    Kernel2Ideal.Value.G7 m c = outR (m (c.tc.loc Kernel2Ideal.main_arg0))
      (m (c.tc.loc Kernel2Ideal.main_arg1)) (m (c.tc.loc Kernel2Ideal.main_arg2)) (m (c.tc.loc Kernel2Ideal.main_arg3))
      (m (c.tc.loc Kernel2Ideal.main_arg4)) (m (c.tc.loc Kernel2Ideal.main_arg5)) (m (c.tc.loc Kernel2Ideal.main_arg6)) := by
  have key (b : Fin 2) (t : Fin 16384) (d : Fin 1024) : Kernel2Ideal.Value.G7 m c (ix3 b t d)
      = outR (m (c.tc.loc Kernel2Ideal.main_arg0)) (m (c.tc.loc Kernel2Ideal.main_arg1)) (m (c.tc.loc Kernel2Ideal.main_arg2))
        (m (c.tc.loc Kernel2Ideal.main_arg3)) (m (c.tc.loc Kernel2Ideal.main_arg4)) (m (c.tc.loc Kernel2Ideal.main_arg5))
        (m (c.tc.loc Kernel2Ideal.main_arg6)) (ix3 b t d) := by
    rw [result_apply, outR, Ref.scaled_at]
    have h := Ref.layer_at (m (c.tc.loc Kernel2Ideal.main_arg0)) (m (c.tc.loc Kernel2Ideal.main_arg1))
      (m (c.tc.loc Kernel2Ideal.main_arg3)) (m (c.tc.loc Kernel2Ideal.main_arg4)) (m (c.tc.loc Kernel2Ideal.main_arg5))
      (m (c.tc.loc Kernel2Ideal.main_arg6)) (m (c.tc.loc Kernel2Ideal.main_arg2)) (seqOf m c b) b
      (fun t => Ref.seq_at _ b t) t
    unfold outS
    simp only [h]
    rfl
  funext i
  rw [eq_ix3 i]
  exact key _ _ _

end Cert.Final
-- ==== Proof.Mixed.Point.lean ====
/- What each grid point of the feed-forward call with the output projection leaves, in terms of the block functions and what the point
   before left. -/
module

public import proofs.«01_k».proof.Proof.Ffn.Window
public import proofs.«01_k».proof.Proof.Gen.Kernel3Ideal.Value

@[expose] public section

set_option maxRecDepth 16384

noncomputable section

namespace Cert.Mixed

open Idealize.ShloMosaic Idealize.ShloMosaic.TcCoe Idealize.SL.Sem Cert.Kernel3Ideal Cert.Kernel3Ideal.Gen Cert.Ffn

variable {F : FTy → Type} [FloatOps F]

/-- A window of 512 rows read after the two stores of a plane is that window of the rows stored. -/
theorem window_read (b p o : ℕ) (e : Vec F S1x1x8x1536 .f32) (r : Vec F S1x1x512x1536 .f32)
    (L : List (View.Piece (Elt F) S2x2x520x1536 .f32)) (h1 h0 hw) :
    (View.whole cc0_scratch1).readCov (⟨Rect.unit (s := S2x2x520x1536) ![b, p, 8, 0] ![1, 1, 512, 1536] h1, r⟩ ::
        ⟨Rect.unit ![b, p, 0, 0] ![1, 1, 8, 1536] h0, e⟩ :: L)
      (Rect.unit ![b, p, o, 0] ![1, 1, 512, 1536] hw).toLoadRect = windowOf e r o := by
  rw [View.readCov_eq_canon']
  exact funext fun y => window_canon b p o e r L h1 h0 hw y

variable (m : (ℓ : Loc nD τ sig) → Buf (Elt F) ℓ) (c : Dev nD)

/-- The weights a grid point loads. -/
def weights (t : Fin cfg0.N) : Weights F where
  g := iblk m c 5 t
  wup := ![View.ld (iblk m c 6 t) (Rect.unit ![0, 0] ![1024, 1536] inb_S1024x6144_S1024x1536_0_0),
    View.ld (iblk m c 6 t) (Rect.unit ![0, 1536] ![1024, 1536] inb_S1024x6144_S1024x1536_0_1536),
    View.ld (iblk m c 6 t) (Rect.unit ![0, 3072] ![1024, 1536] inb_S1024x6144_S1024x1536_0_3072),
    View.ld (iblk m c 6 t) (Rect.unit ![0, 4608] ![1024, 1536] inb_S1024x6144_S1024x1536_0_4608)]
  cb := ![View.ld (iblk m c 8 t) (Rect.unit ![0, 0] ![1, 1536] inb_S1x6144_S1x1536_0_0),
    View.ld (iblk m c 8 t) (Rect.unit ![0, 1536] ![1, 1536] inb_S1x6144_S1x1536_0_1536),
    View.ld (iblk m c 8 t) (Rect.unit ![0, 3072] ![1, 1536] inb_S1x6144_S1x1536_0_3072),
    View.ld (iblk m c 8 t) (Rect.unit ![0, 4608] ![1, 1536] inb_S1x6144_S1x1536_0_4608)]
  cw := ![![View.ld (iblk m c 7 t) (Rect.unit ![0, 0] ![1, 1536] inb_S3x6144_S1x1536_0_0),
      View.ld (iblk m c 7 t) (Rect.unit ![0, 1536] ![1, 1536] inb_S3x6144_S1x1536_0_1536),
      View.ld (iblk m c 7 t) (Rect.unit ![0, 3072] ![1, 1536] inb_S3x6144_S1x1536_0_3072),
      View.ld (iblk m c 7 t) (Rect.unit ![0, 4608] ![1, 1536] inb_S3x6144_S1x1536_0_4608)],
    ![View.ld (iblk m c 7 t) (Rect.unit ![1, 0] ![1, 1536] inb_S3x6144_S1x1536_1_0),
      View.ld (iblk m c 7 t) (Rect.unit ![1, 1536] ![1, 1536] inb_S3x6144_S1x1536_1_1536),
      View.ld (iblk m c 7 t) (Rect.unit ![1, 3072] ![1, 1536] inb_S3x6144_S1x1536_1_3072),
      View.ld (iblk m c 7 t) (Rect.unit ![1, 4608] ![1, 1536] inb_S3x6144_S1x1536_1_4608)],
    ![View.ld (iblk m c 7 t) (Rect.unit ![2, 0] ![1, 1536] inb_S3x6144_S1x1536_2_0),
      View.ld (iblk m c 7 t) (Rect.unit ![2, 1536] ![1, 1536] inb_S3x6144_S1x1536_2_1536),
      View.ld (iblk m c 7 t) (Rect.unit ![2, 3072] ![1, 1536] inb_S3x6144_S1x1536_2_3072),
      View.ld (iblk m c 7 t) (Rect.unit ![2, 4608] ![1, 1536] inb_S3x6144_S1x1536_2_4608)]]
  wdn := ![View.ld (iblk m c 9 t) (Rect.unit ![0, 0] ![1536, 1024] inb_S3072x1024_S1536x1024_0_0),
    View.ld (iblk m c 9 t) (Rect.unit ![1536, 0] ![1536, 1024] inb_S3072x1024_S1536x1024_1536_0)]
  fg := iblk m c 10 t

/-- The rows a grid point starts from: its rows of the input plus the projected rows of the two mixers. -/
def rowsOf (t : Fin cfg0.N) : FVec F S512x1024 .f32 :=
  k0_pay4 (iblk m c 0 t) (k0_pay3 (iblk m c 1 t) (iblk m c 3 t) (iblk m c 2 t) (iblk m c 4 t))

/-- What a grid point finds in the carried buffer: zeros at the first point of a sequence, else what the point before left. -/
def before (t : Fin cfg0.N) : Vec F S8x6144 .f32 :=
  if t.val % 32 = 0 then k0_pay2 else (outsAt0 m c (t.val - 1) (lt_of_le_of_lt (Nat.sub_le _ _) t.isLt)).2

set_option maxHeartbeats 2000000 in
/-- A grid point's two arrays from its blocks and what it finds. -/
theorem point (t : Fin cfg0.N) : ∃ L, outsAt0 m c t.val t.isLt =
    (shapeCast S1x512x1024 (layer (weights m c t) (rowsOf m c t) (haloOf (before m c t))) shapeCasts_S512x1024_S1x512x1024,
      haloVec (weights m c t) (rowsOf m c t) L) := by
  by_cases h : t.val % 32 = 0
  case' pos =>
    refine ⟨[⟨Rect.unit ![0, 0] ![8, 6144] inb_S8x6144_S8x6144_0_0, k0_pay2⟩], ?_⟩
    rw [before, if_pos h, outsAt0_A m c t h]
  case' neg =>
    refine ⟨[], ?_⟩
    rw [before, if_neg h, outsAt0_B m c t h]
  all_goals
    frame_open
    simp (disch := decide) only [↓ View.readCov_skip, ↓ View.readCov_cons_toLoadRect, ↓ View.readCov_fill]
    frame_out
    try simp only [read_unread_whole, window_read _ _ 6, window_read _ _ 7]
    refine Prod.ext ?_ ?_
    all_goals dsimp only
  all_goals
    simp only [layer, summed, gated, half, up, normed, scaled, haloVec, nextHalo, haloOf, weights, rowsOf, Matrix.cons_val]
    try simp only [k0_pay1, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, Cert.Kernel2Ideal.Gen.k0_pay14, Cert.Kernel2Ideal.Gen.k0_pay15, Cert.Kernel2Ideal.Gen.k0_pay16, Cert.Kernel2Ideal.Gen.k0_pay17,
      Cert.Kernel2Ideal.Gen.k0_pay30]
    rfl

end Cert.Mixed
-- ==== Proof.Mixed.Reads.lean ====
/- What a grid point of the feed-forward call with the output projection loads, in terms of the arguments. -/
module

public import proofs.«01_k».proof.Proof.Ffn.Carry
public import proofs.«01_k».proof.Proof.Mixed.Point
public import Idealize.ShloMosaic.Lib.ValueLayout

@[expose] public section

set_option maxRecDepth 16384

noncomputable section

namespace Cert.Mixed

open Idealize.ShloMosaic Idealize.ShloMosaic.TcCoe Idealize.SL.Sem Cert.Kernel3Ideal Cert.Kernel3Ideal.Gen Cert.Ffn

variable (m : (ℓ : Loc nD τ sig) → Buf (Elt Ideal) ℓ) (c : Dev nD)

/-- Where each operand's block lies at a grid point. -/
theorem idx : ∀ t : Fin cfg0.N,
    win0_0.index t (0 : Fin 3) = t.val / 32 ∧ win0_0.index t (1 : Fin 3) = t.val % 32 ∧ win0_0.index t (2 : Fin 3) = 0 ∧
    win0_1.index t (0 : Fin 3) = t.val / 32 ∧ win0_1.index t (1 : Fin 3) = t.val % 32 ∧ win0_1.index t (2 : Fin 3) = 0 ∧
    win0_2.index t (0 : Fin 3) = t.val / 32 ∧ win0_2.index t (1 : Fin 3) = t.val % 32 ∧ win0_2.index t (2 : Fin 3) = 0 ∧
    win0_3.index t (0 : Fin 2) = 0 ∧ win0_3.index t (1 : Fin 2) = 0 ∧ win0_4.index t (0 : Fin 2) = 0 ∧
    win0_4.index t (1 : Fin 2) = 0 ∧ win0_5.index t (0 : Fin 2) = 0 ∧ win0_5.index t (1 : Fin 2) = 0 ∧
    win0_6.index t (0 : Fin 2) = 0 ∧ win0_6.index t (1 : Fin 2) = 0 ∧ win0_7.index t (0 : Fin 2) = 0 ∧
    win0_7.index t (1 : Fin 2) = 0 ∧ win0_8.index t (0 : Fin 2) = 0 ∧ win0_8.index t (1 : Fin 2) = 0 ∧
    win0_9.index t (0 : Fin 2) = 0 ∧ win0_9.index t (1 : Fin 2) = 0 ∧ win0_10.index t (0 : Fin 2) = 0 ∧
    win0_10.index t (1 : Fin 2) = 0 := by
  decide

theorem entry_v1 : V m c main_v1
    = (extractStridedSlice S512x1024 ![0, 0] (truncf .bf16 (m ((c : Thread nD τ).loc main_arg3)) bitsLt_bf16_f32 : FVec Ideal S1024x1024 .bf16) slices_S1024x1024_S512x1024_0_0 : FVec Ideal S512x1024 .bf16) := by
  unfold V
  entry_read
  rfl

theorem entry_v2 : V m c main_v2
    = (extractStridedSlice S512x1024 ![512, 0] (truncf .bf16 (m ((c : Thread nD τ).loc main_arg3)) bitsLt_bf16_f32 : FVec Ideal S1024x1024 .bf16) slices_S1024x1024_S512x1024_512_0 : FVec Ideal S512x1024 .bf16) := by
  unfold V
  entry_read
  rfl

theorem entry_v3 : V m c main_v3
    = shapeCast S1x1024 (m ((c : Thread nD τ).loc main_arg4)) shapeCasts_S1024_S1x1024 := by
  unfold V
  entry_read
  rfl

theorem entry_v4 : V m c main_v4
    = (truncf .bf16 (m ((c : Thread nD τ).loc main_arg6)) bitsLt_bf16_f32 : FVec Ideal S1024x6144 .bf16) := by
  unfold V
  entry_read
  rfl

theorem entry_v5 : V m c main_v5
    = shapeCast S1x6144 (m ((c : Thread nD τ).loc main_arg8)) shapeCasts_S6144_S1x6144 := by
  unfold V
  entry_read
  rfl

theorem entry_v6 : V m c main_v6
    = (truncf .bf16 (m ((c : Thread nD τ).loc main_arg9)) bitsLt_bf16_f32 : FVec Ideal S3072x1024 .bf16) := by
  unfold V
  entry_read
  rfl

theorem entry_v7 : V m c main_v7
    = shapeCast S1x1024 (m ((c : Thread nD τ).loc main_arg5)) shapeCasts_S1024_S1x1024 := by
  unfold V
  entry_read
  rfl

theorem read_g (t : Fin cfg0.N) (i : Fin 1) (j : Fin 1024) : iblk m c 5 t (ix2 i j) = m ((c : Thread nD τ).loc main_arg4) (ix1 j) := by
  blk_simp [iblk, idx t]
  rw [entry_v3]
  pointwise
  blk_ext [iblk, V, idx t]

theorem read_wup (t : Fin cfg0.N) (i : Fin 1024) (j : Fin 6144) : iblk m c 6 t (ix2 i j) = m ((c : Thread nD τ).loc main_arg6) (ix2 i j) := by
  blk_simp [iblk, idx t]
  rw [entry_v4]
  pointwise
  blk_ext [iblk, V, idx t]

theorem read_cw (t : Fin cfg0.N) (i : Fin 3) (j : Fin 6144) : iblk m c 7 t (ix2 i j) = m ((c : Thread nD τ).loc main_arg7) (ix2 i j) := by
  blk_simp [iblk, idx t]
  rw [V_main_arg7]
  pointwise
  blk_ext [iblk, V, idx t]

theorem read_cb (t : Fin cfg0.N) (i : Fin 1) (j : Fin 6144) : iblk m c 8 t (ix2 i j) = m ((c : Thread nD τ).loc main_arg8) (ix1 j) := by
  blk_simp [iblk, idx t]
  rw [entry_v5]
  have e : (win0_8.blk t).view.emb (ix2 i j) = ix2 i j := by blk_ext [iblk, V, idx t]
  rw [e]
  exact ValueIdx.shapeCast_a_1a_apply _ _ _ _

theorem read_wdn (t : Fin cfg0.N) (i : Fin 3072) (j : Fin 1024) : iblk m c 9 t (ix2 i j) = m ((c : Thread nD τ).loc main_arg9) (ix2 i j) := by
  blk_simp [iblk, idx t]
  rw [entry_v6]
  pointwise
  blk_ext [iblk, V, idx t]

theorem read_fg (t : Fin cfg0.N) (i : Fin 1) (j : Fin 1024) : iblk m c 10 t (ix2 i j) = m ((c : Thread nD τ).loc main_arg5) (ix1 j) := by
  blk_simp [iblk, idx t]
  rw [entry_v7]
  pointwise
  blk_ext [iblk, V, idx t]

theorem read_wa (t : Fin cfg0.N) (i : Fin 512) (j : Fin 1024) : iblk m c 3 t (ix2 i j) = m ((c : Thread nD τ).loc main_arg3) (ix2 ⟨i.val, by omega⟩ j) := by
  blk_simp [iblk, idx t]
  rw [entry_v1]
  pointwise
  blk_ext [iblk, V, idx t]

theorem read_wb (t : Fin cfg0.N) (i : Fin 512) (j : Fin 1024) : iblk m c 4 t (ix2 i j) = m ((c : Thread nD τ).loc main_arg3) (ix2 ⟨512 + i.val, by omega⟩ j) := by
  blk_simp [iblk, idx t]
  rw [entry_v2]
  pointwise
  blk_ext [iblk, V, idx t]

theorem read_in (t : Fin cfg0.N) (p : Fin 512) (d : Fin 1024) : iblk m c 0 t (ix3 0 p d)
    = m ((c : Thread nD τ).loc main_arg0) (ix3 ⟨t.val / 32, by have := lt_of_lt_of_eq t.isLt N_0; omega⟩
      ⟨512 * (t.val % 32) + p.val, by omega⟩ d) := by
  blk_simp [iblk, idx t]
  rw [V_main_arg0]
  pointwise
  blk_ext [iblk, V, idx t]

theorem read_oa (t : Fin cfg0.N) (p : Fin 512) (d : Fin 512) : iblk m c 1 t (ix3 0 p d)
    = m ((c : Thread nD τ).loc main_arg1) (ix3 ⟨t.val / 32, by have := lt_of_lt_of_eq t.isLt N_0; omega⟩
      ⟨512 * (t.val % 32) + p.val, by omega⟩ d) := by
  blk_simp [iblk, idx t]
  rw [V_main_arg1]
  pointwise
  blk_ext [iblk, V, idx t]

theorem read_ob (t : Fin cfg0.N) (p : Fin 512) (d : Fin 512) : iblk m c 2 t (ix3 0 p d)
    = m ((c : Thread nD τ).loc main_arg2) (ix3 ⟨t.val / 32, by have := lt_of_lt_of_eq t.isLt N_0; omega⟩
      ⟨512 * (t.val % 32) + p.val, by omega⟩ d) := by
  blk_simp [iblk, idx t]
  rw [V_main_arg2]
  pointwise
  blk_ext [iblk, V, idx t]

/-- The rows a grid point starts from, entry by entry. -/
theorem read_x (t : Fin cfg0.N) (p : Fin 512) (d : Fin 1024) :
    rowsOf m c t (ix2 p d) = mixS (m ((c : Thread nD τ).loc main_arg0)) (m ((c : Thread nD τ).loc main_arg1))
      (m ((c : Thread nD τ).loc main_arg2)) (m ((c : Thread nD τ).loc main_arg3))
      ⟨t.val / 32, by have := lt_of_lt_of_eq t.isLt N_0; omega⟩ (512 * (t.val % 32) + p.val) d := by
  have ht : t.val < 64 := lt_of_lt_of_eq t.isLt N_0
  have hp := p.isLt
  unfold rowsOf mixS
  rw [dif_pos (by omega)]
  pointwise [k0_pay4, k0_pay3]
  simp only [read_in, read_oa, read_ob, read_wa, read_wb]

/-- The layer's weights from the program's arguments. -/
def wts : Wts :=
  argW (m ((c : Thread nD τ).loc main_arg4)) (m ((c : Thread nD τ).loc main_arg6)) (m ((c : Thread nD τ).loc main_arg7))
    (m ((c : Thread nD τ).loc main_arg8)) (m ((c : Thread nD τ).loc main_arg9)) (m ((c : Thread nD τ).loc main_arg5))

set_option maxHeartbeats 2000000 in
/-- The weights a grid point loads are the layer's. -/
theorem loaded (t : Fin cfg0.N) : Loaded (weights m c t) (wts m c) where
  g d := read_g m c t 0 d
  up q k j := by
    obtain rfl | rfl | rfl | rfl := Cert.Lru.four q
    all_goals exact (Cert.Lru.ld2 (iblk m c 6 t) _ k k j _ (by omega) rfl).trans (read_wup m c t _ _)
  cb q j := by
    obtain rfl | rfl | rfl | rfl := Cert.Lru.four q
    all_goals exact (Cert.Lru.ld2 (iblk m c 8 t) _ 0 0 j _ rfl rfl).trans (read_cb m c t _ _)
  cw i q j := by
    obtain rfl | rfl | rfl := Cert.Lru.three i
    all_goals obtain rfl | rfl | rfl | rfl := Cert.Lru.four q
    all_goals exact (Cert.Lru.ld2 (iblk m c 7 t) _ 0 _ j _ rfl rfl).trans (read_cw m c t _ _)
  dn0 k d := (Cert.Lru.ld2 (iblk m c 9 t) _ k ⟨k.val, by omega⟩ d d (by show k.val = 0 + k.val; omega) (by omega)).trans (read_wdn m c t _ _)
  dn1 k d := (Cert.Lru.ld2 (iblk m c 9 t) _ k ⟨1536 + k.val, by omega⟩ d d rfl (by omega)).trans (read_wdn m c t _ _)
  fg d := read_fg m c t 0 d

end Cert.Mixed
-- ==== Proof.Mixed.Sweep.lean ====
/- The result of the feed-forward call with the output projection: every grid point leaves its block of its sequence's result. -/
module

public import proofs.«01_k».proof.Proof.Mixed.Reads

@[expose] public section

set_option maxRecDepth 16384

noncomputable section

namespace Cert.Mixed

open Idealize.ShloMosaic Idealize.ShloMosaic.TcCoe Idealize.SL.Sem Cert.Kernel3Ideal Cert.Kernel3Ideal.Gen Cert.Ffn

variable (m : (ℓ : Loc nD τ sig) → Buf (Elt Ideal) ℓ) (c : Dev nD)

/-- Sequence `b` of the rows the layer starts from. -/
abbrev seqOf (b : Fin 2) : ℕ → Row := mixS (m ((c : Thread nD τ).loc main_arg0)) (m ((c : Thread nD τ).loc main_arg1))
  (m ((c : Thread nD τ).loc main_arg2)) (m ((c : Thread nD τ).loc main_arg3)) b

/-- The sequence a grid point works on. -/
def seqAt (t : ℕ) (h : t < cfg0.N) : Fin 2 := ⟨t / 32, by have := lt_of_lt_of_eq h N_0; omega⟩

theorem rows_holds (t : Fin cfg0.N) : Holds (rowsOf m c t) (seqOf m c (seqAt t.val t.isLt)) (512 * (t.val % 32)) :=
  fun p d => read_x m c t p d

/-- The carried rows a grid point finds are the last hidden rows of its sequence so far. -/
theorem carried (t : Fin cfg0.N) :
    HoldsHalo (haloOf (before m c t)) (hid (wts m c) (seqOf m c (seqAt t.val t.isLt))) (512 * (t.val % 32)) := by
  have hN : t.val < 64 := lt_of_lt_of_eq t.isLt N_0
  unfold before
  by_cases h : t.val % 32 = 0
  · rw [if_pos h, h]
    exact zero_holds _
  · rw [if_neg h]
    have ht : t.val - 1 < cfg0.N := lt_of_le_of_lt (Nat.sub_le _ _) t.isLt
    obtain ⟨L, hp⟩ := point m c ⟨t.val - 1, ht⟩
    have hs : seqAt t.val t.isLt = seqAt (t.val - 1) ht := Fin.ext (by show t.val / 32 = (t.val - 1) / 32; omega)
    have hb : 512 * (t.val % 32) = 512 * ((t.val - 1) % 32) + 512 := by omega
    rw [hs, hb, show outsAt0 m c (t.val - 1) _ = _ from hp]
    dsimp only
    have hr : Holds (rowsOf m c ⟨t.val - 1, ht⟩) (seqOf m c (seqAt (t.val - 1) ht)) (512 * ((t.val - 1) % 32)) :=
      rows_holds m c ⟨t.val - 1, ht⟩
    exact stored_holds (loaded m c ⟨t.val - 1, ht⟩) hr L

/-- A grid point leaves its 512 rows of the result. -/
theorem point_out (t : Fin cfg0.N) (p : Fin 512) (d : Fin 1024) :
    (outsAt0 m c t.val t.isLt).1 (ix3 0 p d)
      = layerS (wts m c) (seqOf m c (seqAt t.val t.isLt)) (512 * (t.val % 32) + p.val) d := by
  obtain ⟨L, hp⟩ := point m c t
  have hl := layer_holds (loaded m c t) (rows_holds m c t) (carried m c t)
  rw [hp]
  dsimp only
  refine (ValueIdx.shapeCast_ab_1ab_apply _ _ _ _ _).trans ?_
  exact hl p d

/-- The kernel's result, entry by entry. -/
theorem result_apply (b : Fin 2) (t : Fin 16384) (d : Fin 1024) :
    Cert.Kernel3Ideal.Value.G11 m c (ix3 b t d) = layerS (wts m c) (seqOf m c b) t.val d := by
  have hb := b.isLt
  have hd := d.isLt
  have hpt : Cert.Kernel3Ideal.Value.pt11Of (ix3 b t d) = 32 * b.val + t.val / 512 := by
    show 32 * (b.val / 1 - 0) + 1 * (t.val / 512 - 0) + 1 * (d.val / 1024 - 0) = _
    omega
  have hlt : 32 * b.val + t.val / 512 < cfg0.N := by rw [show cfg0.N = 64 from N_0]; omega
  unfold Cert.Kernel3Ideal.Value.G11
  rw [dif_pos (by rw [hpt]; exact hlt), Cert.Kernel3Ideal.Value.fold0_congr m c _ _ (32 * b.val + t.val / 512) (by omega) hpt,
    ← Cert.Kernel3Ideal.Value.outsAt0_sweep m c _ hlt]
  have hloc : Cert.Kernel3Ideal.Value.loc11Of (ix3 b t d) = ix3 0 ⟨t.val % 512, by omega⟩ d := by
    funext a
    refine Fin.ext ?_
    fin_cases a
    · show b.val % 1 = 0; omega
    · rfl
    · show d.val % 1024 = d.val; omega
  have hs : seqAt (32 * b.val + t.val / 512) hlt = b := Fin.ext (by show (32 * b.val + t.val / 512) / 32 = b.val; omega)
  rw [hloc, point_out m c ⟨32 * b.val + t.val / 512, hlt⟩]
  dsimp only
  rw [hs]
  congr 1
  show 512 * ((32 * b.val + t.val / 512) % 32) + t.val % 512 = t.val
  omega

end Cert.Mixed
-- ==== Proof.Mixed.Equal.lean ====
/- The feed-forward call with the output projection: the kernel's result array is the reference's. -/
module

public import proofs.«01_k».proof.Proof.Mixed.Sweep
public import proofs.«01_k».proof.Proof.Ffn.RefFns
public import proofs.«01_k».proof.Proof.Gen.Reference3Ideal.Run

@[expose] public section

set_option maxRecDepth 16384

noncomputable section

namespace Cert.Mixed

open Idealize.ShloMosaic Idealize.ShloMosaic.TcCoe Idealize.SL.Sem Cert.Ffn

/-- The rows the layer starts from: the input plus the two mixers' rows, side by side, through the output projection. -/
def mixR (x : FVec Ideal Reference3Ideal.S2x16384x1024 .f32) (oa ob : FVec Ideal Reference3Ideal.S2x16384x512 .f32)
    (wo : FVec Ideal Reference3Ideal.S1024x1024 .f32) : FVec Ideal Reference3Ideal.S2x16384x1024 .f32 :=
  addf x (Host.dotGeneral Reference3Ideal.dot_S2x16384x1024_S1024x1024_S2x16384x1024_2_0_01_1_n_n none
    (concatenate Reference3Ideal.S2x16384x1024 2 [⟨Reference3Ideal.S2x16384x512, oa⟩, ⟨Reference3Ideal.S2x16384x512, ob⟩]
      Reference3Ideal.Gen.concatenates_S2x16384x512_S2x16384x512_S2x16384x1024_d2) wo)

/-- The rows the layer starts from, entry by entry. -/
theorem mix_at (x : FVec Ideal Reference3Ideal.S2x16384x1024 .f32) (oa ob : FVec Ideal Reference3Ideal.S2x16384x512 .f32)
    (wo : FVec Ideal Reference3Ideal.S1024x1024 .f32) (b : Fin 2) (t : Fin 16384) :
    mixS x oa ob wo b t.val = fun d => mixR x oa ob wo (ix3 b t d) := funext fun d => by
  unfold mixS
  rw [dif_pos t.isLt]
  pointwise [mixR]

/-- The reference as a function of its arguments. -/
def outR (x : FVec Ideal Reference3Ideal.S2x16384x1024 .f32) (oa ob : FVec Ideal Reference3Ideal.S2x16384x512 .f32)
    (wo : FVec Ideal Reference3Ideal.S1024x1024 .f32) (g : FVec Ideal Reference3Ideal.S1024 .f32)
    (up : FVec Ideal Reference3Ideal.S1024x6144 .f32) (cw : FVec Ideal Reference3Ideal.S3x6144 .f32)
    (cb : FVec Ideal Reference3Ideal.S6144 .f32) (dn : FVec Ideal Reference3Ideal.S3072x1024 .f32) :
    FVec Ideal Reference3Ideal.S2x16384x1024 .f32 := Ref.layerR (mixR x oa ob wo) g up cw cb dn

/-- The reference's result array is that function of the arguments. -/
theorem ref_result (m : (ℓ : Loc Reference3Ideal.nD Reference3Ideal.τ Reference3Ideal.sig) → Buf (Elt Ideal) ℓ) (c : Dev Reference3Ideal.nD) :
    Reference3Ideal.Value.res_main_v58 m c = outR (m (c.tc.loc Reference3Ideal.main_arg0)) (m (c.tc.loc Reference3Ideal.main_arg1))
      (m (c.tc.loc Reference3Ideal.main_arg2)) (m (c.tc.loc Reference3Ideal.main_arg3)) (m (c.tc.loc Reference3Ideal.main_arg4))
      (m (c.tc.loc Reference3Ideal.main_arg6)) (m (c.tc.loc Reference3Ideal.main_arg7)) (m (c.tc.loc Reference3Ideal.main_arg8))
      (m (c.tc.loc Reference3Ideal.main_arg9)) := by
  unfold Reference3Ideal.Value.res_main_v58
  rfl

/-- The kernel's result array is the same function of the kernel's arguments. -/
theorem kernel_result (m : (ℓ : Loc Kernel3Ideal.nD Kernel3Ideal.τ Kernel3Ideal.sig) → Buf (Elt Ideal) ℓ) (c : Dev Kernel3Ideal.nD) :
    Kernel3Ideal.Value.G11 m c = outR (m (c.tc.loc Kernel3Ideal.main_arg0)) (m (c.tc.loc Kernel3Ideal.main_arg1))
      (m (c.tc.loc Kernel3Ideal.main_arg2)) (m (c.tc.loc Kernel3Ideal.main_arg3)) (m (c.tc.loc Kernel3Ideal.main_arg4))
      (m (c.tc.loc Kernel3Ideal.main_arg6)) (m (c.tc.loc Kernel3Ideal.main_arg7)) (m (c.tc.loc Kernel3Ideal.main_arg8))
      (m (c.tc.loc Kernel3Ideal.main_arg9)) := by
  have key (b : Fin 2) (t : Fin 16384) (d : Fin 1024) : Kernel3Ideal.Value.G11 m c (ix3 b t d)
      = outR (m (c.tc.loc Kernel3Ideal.main_arg0)) (m (c.tc.loc Kernel3Ideal.main_arg1))
        (m (c.tc.loc Kernel3Ideal.main_arg2)) (m (c.tc.loc Kernel3Ideal.main_arg3)) (m (c.tc.loc Kernel3Ideal.main_arg4))
        (m (c.tc.loc Kernel3Ideal.main_arg6)) (m (c.tc.loc Kernel3Ideal.main_arg7)) (m (c.tc.loc Kernel3Ideal.main_arg8))
        (m (c.tc.loc Kernel3Ideal.main_arg9)) (ix3 b t d) := by
    rw [result_apply, outR]
    exact (Ref.layer_at _ _ _ _ _ _ (m (c.tc.loc Kernel3Ideal.main_arg5)) (seqOf m c b) b (fun t => mix_at _ _ _ _ b t) t d).symm
  funext i
  rw [eq_ix3 i]
  exact key _ _ _

end Cert.Mixed
-- ==== Proof.Front.Point.lean ====
/- What each grid point of the input projection leaves in the arrays claimed, from the blocks it loads. -/
module

public import proofs.«01_k».proof.Proof.Gen.Kernel4Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Front

open Idealize.ShloMosaic Idealize.ShloMosaic.TcCoe Idealize.SL.Sem Cert.Kernel4Ideal Cert.Kernel4Ideal.Gen

variable {F : FTy → Type} [FloatOps F] (m : (ℓ : Loc nD τ sig) → Buf (Elt F) ℓ) (c : Dev nD)

/-- The normalised rows a grid point works on. -/
def normed (t : Fin cfg0.N) : FVec F S1024x1024 .bf16 := k0_pay3 (iblk m c 0 t) (iblk m c 1 t)

/-- The weights of a grid point's five products over all rows. -/
def wK (t : Fin cfg0.N) := View.ld (iblk m c 2 t) (Rect.unit ![0, 0] ![1024, 512] inb_S1024x2176_S1024x512_0_0)
def wBq (t : Fin cfg0.N) := View.ld (iblk m c 2 t) (Rect.unit ![0, 512] ![1024, 256] inb_S1024x2176_S1024x256_0_512)
def wBk (t : Fin cfg0.N) := View.ld (iblk m c 2 t) (Rect.unit ![0, 768] ![1024, 256] inb_S1024x2176_S1024x256_0_768)
def wBv (t : Fin cfg0.N) := View.ld (iblk m c 2 t) (Rect.unit ![0, 1024] ![1024, 512] inb_S1024x2176_S1024x512_0_1024)
def wOg (t : Fin cfg0.N) := View.ld (iblk m c 2 t) (Rect.unit ![0, 1536] ![1024, 512] inb_S1024x2176_S1024x512_0_1536)
def wGk (t : Fin cfg0.N) := View.ld (iblk m c 2 t) (Rect.unit ![0, 2048] ![1024, 128] inb_S1024x2176_S1024x128_0_2048)
/-- The weights of the product laid out by feature. -/
def wQ (t : Fin cfg0.N) := View.ld (iblk m c 3 t) (Rect.unit ![0, 0] ![512, 1024] inb_S1024x1024_S512x1024_0_0)

set_option maxHeartbeats 2000000 in
theorem point_q (t : Fin cfg0.N) : (outsAt0 m c t.val t.isLt).1 = k0_pay11 (k0_pay4 (iblk m c 0 t) (iblk m c 1 t) (wQ m c t)) (k0_pay5 (iblk m c 6 t)) (k0_pay6 (iblk m c 7 t)) (k0_pay7 (iblk m c 8 t))
      (k0_pay8 (iblk m c 0 t) (iblk m c 1 t) (wQ m c t)) (k0_pay9 (iblk m c 0 t) (iblk m c 1 t) (wQ m c t) (iblk m c 6 t) (iblk m c 7 t)) := by
  by_cases h : t.val % 16 = 0
  case' pos => refine (congrArg (fun o => o.1) (outsAt0_A m c t h)).trans ?_
  case' neg => refine (congrArg (fun o => o.1) (outsAt0_B m c t h)).trans ?_
  all_goals
    dsimp only
    frame_open
    frame_out
    try simp only [read_unread_whole]
    rfl

set_option maxHeartbeats 2000000 in
theorem point_k (t : Fin cfg0.N) : (outsAt0 m c t.val t.isLt).2.1 = k0_pay15 (k0_pay13 (normed m c t) (wK m c t)) (iblk m c 6 t) (iblk m c 7 t) (iblk m c 8 t) := by
  by_cases h : t.val % 16 = 0
  case' pos => refine (congrArg (fun o => o.2.1) (outsAt0_A m c t h)).trans ?_
  case' neg => refine (congrArg (fun o => o.2.1) (outsAt0_B m c t h)).trans ?_
  all_goals
    dsimp only
    frame_open
    frame_out
    try simp only [read_unread_whole]
    rfl

set_option maxHeartbeats 2000000 in
theorem point_bq (t : Fin cfg0.N) : (outsAt0 m c t.val t.isLt).2.2.2.2.1 = k0_pay112 (normed m c t) (wBq m c t) := by
  by_cases h : t.val % 16 = 0
  case' pos => refine (congrArg (fun o => o.2.2.2.2.1) (outsAt0_A m c t h)).trans ?_
  case' neg => refine (congrArg (fun o => o.2.2.2.2.1) (outsAt0_B m c t h)).trans ?_
  all_goals
    dsimp only
    frame_open
    frame_out
    try simp only [read_unread_whole]
    rfl

set_option maxHeartbeats 2000000 in
theorem point_bk (t : Fin cfg0.N) : (outsAt0 m c t.val t.isLt).2.2.2.2.2.1 = k0_pay114 (normed m c t) (k0_pay113 (wBk m c t)) := by
  by_cases h : t.val % 16 = 0
  case' pos => refine (congrArg (fun o => o.2.2.2.2.2.1) (outsAt0_A m c t h)).trans ?_
  case' neg => refine (congrArg (fun o => o.2.2.2.2.2.1) (outsAt0_B m c t h)).trans ?_
  all_goals
    dsimp only
    frame_open
    frame_out
    try simp only [read_unread_whole]
    rfl

set_option maxHeartbeats 2000000 in
theorem point_bv (t : Fin cfg0.N) : (outsAt0 m c t.val t.isLt).2.2.2.2.2.2.1 = k0_pay127 (normed m c t) (wBv m c t) := by
  by_cases h : t.val % 16 = 0
  case' pos => refine (congrArg (fun o => o.2.2.2.2.2.2.1) (outsAt0_A m c t h)).trans ?_
  case' neg => refine (congrArg (fun o => o.2.2.2.2.2.2.1) (outsAt0_B m c t h)).trans ?_
  all_goals
    dsimp only
    frame_open
    frame_out
    try simp only [read_unread_whole]
    rfl

set_option maxHeartbeats 2000000 in
theorem point_gl (t : Fin cfg0.N) : (outsAt0 m c t.val t.isLt).2.2.2.2.2.2.2.1 = k0_pay1 (k0_pay161 (normed m c t) (wGk m c t) (iblk m c 4 t) (iblk m c 5 t))
      (k0_pay162 (normed m c t) (wGk m c t) (iblk m c 4 t) (iblk m c 5 t)) := by
  by_cases h : t.val % 16 = 0
  case' pos => refine (congrArg (fun o => o.2.2.2.2.2.2.2.1) (outsAt0_A m c t h)).trans ?_
  case' neg => refine (congrArg (fun o => o.2.2.2.2.2.2.2.1) (outsAt0_B m c t h)).trans ?_
  all_goals
    dsimp only
    frame_open
    frame_out
    try simp only [read_unread_whole]
    rfl

set_option maxHeartbeats 2000000 in
theorem point_og (t : Fin cfg0.N) : (outsAt0 m c t.val t.isLt).2.2.2.2.2.2.2.2.1 = k0_pay145 (normed m c t) (wOg m c t) := by
  by_cases h : t.val % 16 = 0
  case' pos => refine (congrArg (fun o => o.2.2.2.2.2.2.2.2.1) (outsAt0_A m c t h)).trans ?_
  case' neg => refine (congrArg (fun o => o.2.2.2.2.2.2.2.2.1) (outsAt0_B m c t h)).trans ?_
  all_goals
    dsimp only
    frame_open
    frame_out
    try simp only [read_unread_whole]
    rfl

end Cert.Front
-- ==== Proof.Front.Rows.lean ====
/- The input projection's block functions, entry by entry. -/
module

public import proofs.«01_k».proof.Proof.Front.Point
public import proofs.«01_k».proof.Proof.Ffn.Spec

@[expose] public section

set_option maxRecDepth 16384

noncomputable section

namespace Cert.Front

open Idealize.ShloMosaic Idealize.ShloMosaic.TcCoe Idealize.SL.Sem Cert.Kernel4Ideal Cert.Kernel4Ideal.Gen

set_option maxHeartbeats 1600000 in
theorem rows_k (v : FVec Ideal S1024x512 .f32) (c a b : Vec Ideal S1024x128 .f32) (p : Fin 1024) (f : Fin 512) :
    k0_pay15 (F := Ideal) v c a b (ix3 0 p f) = v (ix2 p f) * c (ix2 p ⟨f.val % 128, by omega⟩)
      + v (ix2 p ⟨f.val / 128 * 128 + (f.val % 128 + 32) % 128, by omega⟩) * a (ix2 p ⟨f.val % 128, by omega⟩)
      + v (ix2 p ⟨f.val / 128 * 128 + (f.val % 128 + 96) % 128, by omega⟩) * b (ix2 p ⟨f.val % 128, by omega⟩) := by
  have hf := f.isLt
  pointwise [k0_pay15, k0_pay14]
  split_ifs
  all_goals
    congr 5
    all_goals first | omega | exact Fin.ext (by dsimp only; omega)

theorem rows_bq (h : FVec Ideal S1024x1024 .bf16) (w : Vec Ideal S1024x256 .bf16) (p : Fin 1024) (j : Fin 256) :
    k0_pay112 (F := Ideal) h w (ix3 0 p j) = (∑ k, h (ix2 p k) * w (ix2 k j)) * Ideal.ofBits .f32 0x3E3504F3#32 := by
  pointwise [k0_pay112]

theorem rows_bk (h : FVec Ideal S1024x1024 .bf16) (w : Vec Ideal S1024x256 .bf16) (p : Fin 1024) (j : Fin 256) :
    k0_pay114 (F := Ideal) h (k0_pay113 w) (ix3 0 p j) = ∑ k, h (ix2 p k) * w (ix2 k j) := by
  pointwise [k0_pay114, k0_pay113]

theorem rows_bv (h : FVec Ideal S1024x1024 .bf16) (w : Vec Ideal S1024x512 .bf16) (p : Fin 1024) (j : Fin 512) :
    k0_pay127 (F := Ideal) h w (ix3 0 p j) = ∑ k, h (ix2 p k) * w (ix2 k j) := by
  pointwise [k0_pay127]

theorem rows_og (h : FVec Ideal S1024x1024 .bf16) (w : Vec Ideal S1024x512 .bf16) (p : Fin 1024) (j : Fin 512) :
    k0_pay145 (F := Ideal) h w (ix3 0 p j) = ∑ k, h (ix2 p k) * w (ix2 k j) := by
  pointwise [k0_pay145]

theorem rows_pk (h : FVec Ideal S1024x1024 .bf16) (w : Vec Ideal S1024x512 .bf16) (p : Fin 1024) (j : Fin 512) :
    k0_pay13 (F := Ideal) h w (ix2 p j) = ∑ k, h (ix2 p k) * w (ix2 k j) := by
  pointwise [k0_pay13]

theorem rows_n (x : Vec Ideal S1x1024x1024 .f32) (g : Vec Ideal S1x1024 .f32) (p d : Fin 1024) :
    k0_pay3 (F := Ideal) x g (ix2 p d) = Ffn.nrmS (fun d => g (ix2 0 d)) (fun d => x (ix3 0 p d)) d := by
  unfold Ffn.nrmS
  pointwise [k0_pay3]

/-- The log gate of a value. -/
def gateS (z : EReal) : EReal :=
  Ideal.div (min z 0 - Ideal.log1p (Ideal.exp (0 - FloatOps.absf (F := Ideal) (φ := .f32) z))) (Ideal.ofBits .f32 0x41800000#32)

theorem rows_gl (h : FVec Ideal S1024x1024 .bf16) (w : Vec Ideal S1024x128 .bf16) (w2 : Vec Ideal S128x256 .bf16)
    (b : Vec Ideal S1x256 .f32) (p : Fin 1024) (j : Fin 256) :
    k0_pay1 (F := Ideal) (k0_pay161 h w w2 b) (k0_pay162 h w w2 b) (ix3 0 p j)
      = gateS ((∑ l : Fin 128, (∑ k, h (ix2 p k) * w (ix2 k l)) * w2 (ix2 l j)) + b (ix2 0 j)) := by
  unfold gateS
  pointwise [k0_pay1, k0_pay160, k0_pay161, k0_pay162]

theorem rows_pq (x : Vec Ideal S1x1024x1024 .f32) (g : Vec Ideal S1x1024 .f32) (w : Vec Ideal S512x1024 .bf16) (p : Fin 1024) (f : Fin 512) :
    k0_pay4 (F := Ideal) x g w (ix2 f p) = ∑ k, w (ix2 f k) * k0_pay3 (F := Ideal) x g (ix2 p k) := by
  pointwise [k0_pay4]

theorem turn5 (c : Vec Ideal S1024x128 .f32) (p : Fin 1024) (l : Fin 128) : k0_pay5 (F := Ideal) c (ix2 l p) = c (ix2 p l) := by
  pointwise [k0_pay5]
theorem turn6 (c : Vec Ideal S1024x128 .f32) (p : Fin 1024) (l : Fin 128) : k0_pay6 (F := Ideal) c (ix2 l p) = c (ix2 p l) := by
  pointwise [k0_pay6]
theorem turn7 (c : Vec Ideal S1024x128 .f32) (p : Fin 1024) (l : Fin 128) : k0_pay7 (F := Ideal) c (ix2 l p) = c (ix2 p l) := by
  pointwise [k0_pay7]

/-- Turned and scaled rows laid out by feature. -/
theorem rows_rot (v : FVec Ideal S512x1024 .f32) (c a b : FVec Ideal S128x1024 .f32) (p : Fin 1024) (f : Fin 512) :
    k0_pay11 (F := Ideal) v c a b (extractStridedSlice S128x1024 ![0, 0] v slices_S512x1024_o0_0_S128x1024)
        (addf (mulf (extractStridedSlice S128x1024 ![0, 0] v slices_S512x1024_o0_0_S128x1024) c)
          (mulf (dynamicRotate 0 96#32 none (extractStridedSlice S128x1024 ![0, 0] v slices_S512x1024_o0_0_S128x1024) rotates_S128x1024_d0) a))
        (ix3 0 f p)
      = (v (ix2 f p) * c (ix2 ⟨f.val % 128, by omega⟩ p)
      + v (ix2 ⟨f.val / 128 * 128 + (f.val % 128 + 32) % 128, by omega⟩ p) * a (ix2 ⟨f.val % 128, by omega⟩ p)
      + v (ix2 ⟨f.val / 128 * 128 + (f.val % 128 + 96) % 128, by omega⟩ p) * b (ix2 ⟨f.val % 128, by omega⟩ p))
        * Ideal.ofBits .f32 0x3E38AA3B#32 := by
  have hf := f.isLt
  pointwise [k0_pay11, k0_pay10]
  refine congrArg (· * _) ?_
  split_ifs
  all_goals
    congr 5
    all_goals first | omega | exact Fin.ext (by dsimp only; omega)

theorem rows_q (x : Vec Ideal S1x1024x1024 .f32) (g : Vec Ideal S1x1024 .f32) (w : Vec Ideal S512x1024 .bf16)
    (c a b : Vec Ideal S1024x128 .f32) (p : Fin 1024) (f : Fin 512) :
    k0_pay11 (F := Ideal) (k0_pay4 x g w) (k0_pay5 c) (k0_pay6 a) (k0_pay7 b) (k0_pay8 x g w) (k0_pay9 x g w c a) (ix3 0 f p)
      = (k0_pay4 (F := Ideal) x g w (ix2 f p) * c (ix2 p ⟨f.val % 128, by omega⟩)
      + k0_pay4 (F := Ideal) x g w (ix2 ⟨f.val / 128 * 128 + (f.val % 128 + 32) % 128, by omega⟩ p) * a (ix2 p ⟨f.val % 128, by omega⟩)
      + k0_pay4 (F := Ideal) x g w (ix2 ⟨f.val / 128 * 128 + (f.val % 128 + 96) % 128, by omega⟩ p) * b (ix2 p ⟨f.val % 128, by omega⟩))
        * Ideal.ofBits .f32 0x3E38AA3B#32 := by
  have h := rows_rot (k0_pay4 (F := Ideal) x g w) (k0_pay5 c) (k0_pay6 a) (k0_pay7 b) p f
  rw [turn5, turn6, turn7] at h
  exact h

end Cert.Front
-- ==== Proof.Front.Entry.lean ====
/- The arrays the input projection's call is given, in terms of the arguments. -/
module

public import proofs.«01_k».proof.Proof.Front.Point
public import proofs.«01_k».proof.Proof.Lru.Reads
public import Idealize.ShloMosaic.Lib.ValueLayout
public import Idealize.ShloMosaic.Lib.StableHlo.RunRead

@[expose] public section

set_option maxRecDepth 65536

noncomputable section

namespace Cert.Front

open Idealize.ShloMosaic Idealize.ShloMosaic.TcCoe Idealize.SL.Sem Cert.Kernel4Ideal Cert.Kernel4Ideal.Gen

/-- The angle of every position and frequency. -/
def ang {F : FTy → Type} [FloatOps F] : FVec F S16384x32 .f32 :=
  mulf (broadcastInDim S16384x32 ![0, 1] bcast_S16384x1_S16384x32_0_1 (broadcastInDim S16384x1 ![0] bcast_S16384_S16384x1_0
      (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Four copies side by side. -/
def tile {F : FTy → Type} [FloatOps F] (v : FVec F S16384x32 .f32) : FVec F S16384x128 .f32 :=
  shapeCast S16384x128 (broadcastInDim S1x16384x4x32 ![0, 1, 2, 3] bcast_S1x16384x1x32_S1x16384x4x32_0_1_2_3
    (shapeCast S1x16384x1x32 v shapeCasts_S16384x32_S1x16384x1x32)) shapeCasts_S1x16384x4x32_S16384x128

/-- The divisor of the lanes' numbers. -/
def divisor : IVec S_ 32 :=
  select (cmpi .eq (constantI S_ 32 64#32) (constantI S_ 32 0#32)) (constantI S_ 32 1#32) (constantI S_ 32 64#32)

/-- The lanes' numbers modulo the divisor, before the sign is set right. -/
def laneRem : IVec S128 32 := Host.remsi (iotaInDim S128 32 0) (broadcastInDim S128 ![] bcast_S_S128 divisor)

/-- The lanes' numbers modulo the divisor. -/
def laneMod : IVec S128 32 :=
  select (andi (cmpi .ne (cmpi .slt laneRem (broadcastInDim S128 ![] bcast_S_S128 (constantI S_ 32 0#32)))
        (broadcastInDim S128 ![] bcast_S_S128 (cmpi .slt divisor (constantI S_ 32 0#32))))
      (cmpi .ne laneRem (broadcastInDim S128 ![] bcast_S_S128 (constantI S_ 32 0#32))))
    (addi laneRem (broadcastInDim S128 ![] bcast_S_S128 divisor)) laneRem

/-- Whether a lane lies in the first half of its head, at every position. -/
def lanesFirst : IVec S16384x128 1 :=
  broadcastInDim S16384x128 ![0, 1] bcast_S1x128_S16384x128_0_1 (broadcastInDim S1x128 ![1] bcast_S128_S1x128_1
    (cmpi .slt laneMod (broadcastInDim S128 ![] bcast_S_S128 (constantI S_ 32 32#32))))

/-- Zeros. -/
def zeros {F : FTy → Type} [FloatOps F] : FVec F S16384x128 .f32 :=
  broadcastInDim S16384x128 ![] bcast_S_S16384x128 (constant S_ .f32 0x00000000#32)

/-- The weights the products over all rows use, side by side. -/
def wide {F : FTy → Type} [FloatOps F] (w : FVec F S1024x3088 .f32) : FVec F S1024x2176 .bf16 :=
  truncf .bf16 (concatenate S1024x2176 1 [⟨S1024x512, extractStridedSlice S1024x512 ![0, 512] w slices_S1024x3088_S1024x512_0_512⟩,
    ⟨S1024x256, extractStridedSlice S1024x256 ![0, 1536] w slices_S1024x3088_S1024x256_0_1536⟩,
    ⟨S1024x256, extractStridedSlice S1024x256 ![0, 1792] w slices_S1024x3088_S1024x256_0_1792⟩,
    ⟨S1024x512, extractStridedSlice S1024x512 ![0, 2048] w slices_S1024x3088_S1024x512_0_2048⟩,
    ⟨S1024x512, extractStridedSlice S1024x512 ![0, 2576] w slices_S1024x3088_S1024x512_0_2576⟩,
    ⟨S1024x128, pad S1024x128 ![0, 0] ![0, 112] ![0, 0] (extractStridedSlice S1024x16 ![0, 2560] w slices_S1024x3088_S1024x16_0_2560)
      (sitofp .f32 (constantI S_ 32 0#32)) pads_S1024x16_S1024x128_000_01120 h_S_⟩]
    concatenates_S1024x512_S1024x256_S1024x256_S1024x512_S1024x512_S1024x128_S1024x2176_d1) bitsLt_bf16_f32

/-- The weights the products laid out by feature use. -/
def tall {F : FTy → Type} [FloatOps F] (w : FVec F S1024x3088 .f32) : FVec F S1024x1024 .bf16 :=
  truncf .bf16 (transpose S1024x1024 [1, 0] (concatenate S1024x1024 1
    [⟨S1024x512, extractStridedSlice S1024x512 ![0, 0] w slices_S1024x3088_S1024x512_0_0⟩,
      ⟨S1024x512, extractStridedSlice S1024x512 ![0, 1024] w slices_S1024x3088_S1024x512_0_1024⟩]
    concatenates_S1024x512_S1024x512_S1024x1024_d1) transposes_S1024x1024_S1024x1024_1_0) bitsLt_bf16_f32

variable (m : (ℓ : Loc nD τ sig) → Buf (Elt Ideal) ℓ) (c : Dev nD)

set_option maxHeartbeats 1600000 in
theorem entry_g : V m c main_v28
    = shapeCast S1x1024 (m ((c : Thread nD τ).loc main_arg1)) shapeCasts_S1024_S1x1024 := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_wide : V m c main_v10
    = wide (F := Ideal) (m ((c : Thread nD τ).loc main_arg2)) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_reads_simp
  rfl

set_option maxHeartbeats 1600000 in
theorem entry_tall : V m c main_v13
    = tall (F := Ideal) (m ((c : Thread nD τ).loc main_arg2)) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_wgk : V m c main_v15
    = (truncf .bf16 (pad S128x256 ![0, 0] ![112, 0] ![0, 0] (m ((c : Thread nD τ).loc main_arg3)) (sitofp .f32 (constantI S_ 32 0#32)) pads_S16x256_S128x256_01120_000 h_S_) bitsLt_bf16_f32 : FVec Ideal S128x256 .bf16) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_bgk : V m c main_v29
    = shapeCast S1x256 (m ((c : Thread nD τ).loc main_arg4)) shapeCasts_S256_S1x256 := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_cos : V m c main_v39
    = tile (F := Ideal) (Host.cos ang) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_sa : V m c main_v45
    = (select lanesFirst (Host.negf (tile (Host.sin ang))) zeros : FVec Ideal S16384x128 .f32) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

set_option maxHeartbeats 1600000 in
theorem entry_sb : V m c main_v46
    = (select lanesFirst zeros (tile (Host.sin ang)) : FVec Ideal S16384x128 .f32) := by
  unfold V
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  entry_read
  rfl

end Cert.Front
-- ==== Proof.Front.Reads.lean ====
/- What a grid point of the input projection loads, entry by entry. -/
module

public import proofs.«01_k».proof.Proof.Front.Entry
public import proofs.«01_k».proof.Proof.Ffn.Spec

@[expose] public section

set_option maxRecDepth 16384

noncomputable section

namespace Cert.Front

open Idealize.ShloMosaic Idealize.ShloMosaic.TcCoe Idealize.SL.Sem Cert.Kernel4Ideal Cert.Kernel4Ideal.Gen

/-- Where each operand's block lies at a grid point. -/
theorem idx : ∀ t : Fin cfg0.N,
    win0_0.index t (0 : Fin 3) = t.val / 16 ∧ win0_0.index t (1 : Fin 3) = t.val % 16 ∧ win0_0.index t (2 : Fin 3) = 0 ∧
    win0_1.index t (0 : Fin 2) = 0 ∧ win0_1.index t (1 : Fin 2) = 0 ∧ win0_2.index t (0 : Fin 2) = 0 ∧
    win0_2.index t (1 : Fin 2) = 0 ∧ win0_3.index t (0 : Fin 2) = 0 ∧ win0_3.index t (1 : Fin 2) = 0 ∧
    win0_4.index t (0 : Fin 2) = 0 ∧ win0_4.index t (1 : Fin 2) = 0 ∧ win0_5.index t (0 : Fin 2) = 0 ∧
    win0_5.index t (1 : Fin 2) = 0 ∧ win0_6.index t (0 : Fin 2) = t.val % 16 ∧ win0_6.index t (1 : Fin 2) = 0 ∧
    win0_7.index t (0 : Fin 2) = t.val % 16 ∧ win0_7.index t (1 : Fin 2) = 0 ∧
    win0_8.index t (0 : Fin 2) = t.val % 16 ∧ win0_8.index t (1 : Fin 2) = 0 := by
  decide

variable (w : FVec Ideal S1024x3088 .f32)

theorem wide_k (k : Fin 1024) (j : Fin 512) : wide w (ix2 k ⟨j.val, by omega⟩) = w (ix2 k ⟨512 + j.val, by omega⟩) := by
  have hj := j.isLt
  pointwise [wide]
  try (split_ifs <;> first | (exfalso; omega) | exact congrArg (fun r => w (ix2 k r)) (Fin.ext (by dsimp only; omega)))

theorem wide_bq (k : Fin 1024) (j : Fin 256) : wide w (ix2 k ⟨512 + j.val, by omega⟩) = w (ix2 k ⟨1536 + j.val, by omega⟩) := by
  have hj := j.isLt
  pointwise [wide]
  try (split_ifs <;> first | (exfalso; omega) | exact congrArg (fun r => w (ix2 k r)) (Fin.ext (by dsimp only; omega)))

theorem wide_bk (k : Fin 1024) (j : Fin 256) : wide w (ix2 k ⟨768 + j.val, by omega⟩) = w (ix2 k ⟨1792 + j.val, by omega⟩) := by
  have hj := j.isLt
  pointwise [wide]
  try (split_ifs <;> first | (exfalso; omega) | exact congrArg (fun r => w (ix2 k r)) (Fin.ext (by dsimp only; omega)))

theorem wide_bv (k : Fin 1024) (j : Fin 512) : wide w (ix2 k ⟨1024 + j.val, by omega⟩) = w (ix2 k ⟨2048 + j.val, by omega⟩) := by
  have hj := j.isLt
  pointwise [wide]
  try (split_ifs <;> first | (exfalso; omega) | exact congrArg (fun r => w (ix2 k r)) (Fin.ext (by dsimp only; omega)))

theorem wide_og (k : Fin 1024) (j : Fin 512) : wide w (ix2 k ⟨1536 + j.val, by omega⟩) = w (ix2 k ⟨2576 + j.val, by omega⟩) := by
  have hj := j.isLt
  pointwise [wide]
  try (split_ifs <;> first | (exfalso; omega) | exact congrArg (fun r => w (ix2 k r)) (Fin.ext (by dsimp only; omega)))

theorem wide_gk (k : Fin 1024) (j : Fin 128) : wide w (ix2 k ⟨2048 + j.val, by omega⟩)
    = if h : j.val < 16 then w (ix2 k ⟨2560 + j.val, by omega⟩) else 0 := by
  have hj := j.isLt
  by_cases h : j.val < 16
  · rw [dif_pos h]
    pointwise [wide]
    split_ifs <;> first | (exfalso; omega) | exact congrArg (fun r => w (ix2 k r)) (Fin.ext (by dsimp only; omega))
  · rw [dif_neg h]
    pointwise [wide]
    split_ifs
    all_goals first | (exfalso; omega) | (show (((0#32 : BitVec 32).toInt : ℝ) : EReal) = 0; simp)

/-- The gates' second matrix with rows of zeros below. -/
theorem deep_at (v : FVec Ideal S16x256 .f32) (i : Fin 128) (j : Fin 256) :
    (truncf .bf16 (pad S128x256 ![0, 0] ![112, 0] ![0, 0] v (sitofp .f32 (constantI S_ 32 0#32)) pads_S16x256_S128x256_01120_000 h_S_)
      bitsLt_bf16_f32 : FVec Ideal S128x256 .bf16) (ix2 i j) = if h : i.val < 16 then v (ix2 ⟨i.val, h⟩ j) else 0 := by
  by_cases h : i.val < 16
  · rw [dif_pos h]
    pointwise
    rw [dif_pos (by omega)]
  · rw [dif_neg h]
    pointwise
    rw [dif_neg (by omega)]
    show (((0#32 : BitVec 32).toInt : ℝ) : EReal) = 0
    simp

theorem tall_q (k : Fin 1024) (j : Fin 512) : tall w (ix2 ⟨j.val, by omega⟩ k) = w (ix2 k ⟨j.val, by omega⟩) := by
  pointwise [tall]

theorem tile_at (v : FVec Ideal S16384x32 .f32) (t : Fin 16384) (l : Fin 128) : tile v (ix2 t l) = v (ix2 t ⟨l.val % 32, by omega⟩) := by
  pointwise [tile]

theorem lane_val : ∀ l : Fin 128, cmpi .slt laneMod (broadcastInDim S128 ![] bcast_S_S128 (constantI S_ 32 32#32)) (ix1 l)
    = if l.val % 64 < 32 then 1#1 else 0#1 := by
  decide +kernel

theorem first_at (t : Fin 16384) (l : Fin 128) : lanesFirst (ix2 t l) = if l.val % 64 < 32 then 1#1 else 0#1 := by
  rw [← lane_val l]
  pointwise [lanesFirst]

/-- The sines of the lanes in the first half of their head, negated; zero elsewhere. -/
theorem sa_at (v : FVec Ideal S16384x32 .f32) (t : Fin 16384) (l : Fin 128) :
    (select lanesFirst (Host.negf (tile v)) zeros : FVec Ideal S16384x128 .f32) (ix2 t l)
      = if l.val % 64 < 32 then -(v (ix2 t ⟨l.val % 32, by omega⟩)) else 0 := by
  rw [← tile_at v t l]
  pointwise [zeros]
  rw [first_at]
  by_cases h : l.val % 64 < 32 <;> simp [h, Scalar.select]

/-- The sines of the lanes in the second half of their head; zero elsewhere. -/
theorem sb_at (v : FVec Ideal S16384x32 .f32) (t : Fin 16384) (l : Fin 128) :
    (select lanesFirst zeros (tile v) : FVec Ideal S16384x128 .f32) (ix2 t l)
      = if l.val % 64 < 32 then 0 else v (ix2 t ⟨l.val % 32, by omega⟩) := by
  rw [← tile_at v t l]
  pointwise [zeros]
  rw [first_at]
  by_cases h : l.val % 64 < 32 <;> simp [h, Scalar.select]

variable (m : (ℓ : Loc nD τ sig) → Buf (Elt Ideal) ℓ) (c : Dev nD)

/-- The position of a row of a grid point's tile. -/
def posAt (t : Fin cfg0.N) (p : Fin 1024) : Fin 16384 := ⟨1024 * (t.val % 16) + p.val, by omega⟩
/-- The sequence a grid point works on. -/
def seqAt (t : Fin cfg0.N) : Fin 2 := ⟨t.val / 16, by have := lt_of_lt_of_eq t.isLt N_0; omega⟩

theorem read_x (t : Fin cfg0.N) (p : Fin 1024) (d : Fin 1024) :
    iblk m c 0 t (ix3 0 p d) = m ((c : Thread nD τ).loc main_arg0) (ix3 (seqAt t) (posAt t p) d) := by
  blk_simp [iblk, idx t]
  rw [V_main_arg0]
  pointwise
  blk_ext [iblk, V, idx t, seqAt, posAt]

theorem read_g (t : Fin cfg0.N) (i : Fin 1) (j : Fin 1024) : iblk m c 1 t (ix2 i j) = m ((c : Thread nD τ).loc main_arg1) (ix1 j) := by
  blk_simp [iblk, idx t]
  rw [entry_g]
  pointwise
  blk_ext [iblk, V, idx t]

theorem read_w (t : Fin cfg0.N) (i : Fin 1024) (j : Fin 2176) :
    iblk m c 2 t (ix2 i j) = wide (F := Ideal) (m ((c : Thread nD τ).loc main_arg2)) (ix2 i j) := by
  blk_simp [iblk, idx t]
  rw [entry_wide]
  blk_ext [iblk, V, idx t]

theorem read_wt (t : Fin cfg0.N) (i : Fin 1024) (j : Fin 1024) :
    iblk m c 3 t (ix2 i j) = tall (F := Ideal) (m ((c : Thread nD τ).loc main_arg2)) (ix2 i j) := by
  blk_simp [iblk, idx t]
  rw [entry_tall]
  blk_ext [iblk, V, idx t]

theorem read_wgk (t : Fin cfg0.N) (i : Fin 128) (j : Fin 256) : iblk m c 4 t (ix2 i j)
    = (if h : i.val < 16 then m ((c : Thread nD τ).loc main_arg3) (ix2 ⟨i.val, h⟩ j) else (0 : EReal) : EReal) := by
  refine Eq.trans ?_ (deep_at (m ((c : Thread nD τ).loc main_arg3)) i j)
  blk_simp [iblk, idx t]
  rw [entry_wgk]
  have e : (win0_4.blk t).view.emb (ix2 i j) = ix2 i j := by blk_ext [iblk, V, idx t]
  rw [e]

theorem read_bgk (t : Fin cfg0.N) (i : Fin 1) (j : Fin 256) : iblk m c 5 t (ix2 i j) = m ((c : Thread nD τ).loc main_arg4) (ix1 j) := by
  blk_simp [iblk, idx t]
  rw [entry_bgk]
  pointwise
  blk_ext [iblk, V, idx t]

theorem read_cos (t : Fin cfg0.N) (p : Fin 1024) (l : Fin 128) :
    iblk m c 6 t (ix2 p l) = Host.cos (F := Ideal) ang (ix2 (posAt t p) ⟨l.val % 32, by omega⟩) := by
  rw [← tile_at (Host.cos ang) (posAt t p) l]
  blk_simp [iblk, idx t]
  rw [entry_cos]
  blk_ext [iblk, V, idx t, posAt]

theorem read_sa (t : Fin cfg0.N) (p : Fin 1024) (l : Fin 128) : iblk m c 7 t (ix2 p l)
    = if l.val % 64 < 32 then -(Host.sin (F := Ideal) ang (ix2 (posAt t p) ⟨l.val % 32, by omega⟩)) else 0 := by
  rw [← sa_at (Host.sin ang) (posAt t p) l]
  blk_simp [iblk, idx t]
  rw [entry_sa]
  blk_ext [iblk, V, idx t, posAt]

theorem read_sb (t : Fin cfg0.N) (p : Fin 1024) (l : Fin 128) : iblk m c 8 t (ix2 p l)
    = if l.val % 64 < 32 then 0 else Host.sin (F := Ideal) ang (ix2 (posAt t p) ⟨l.val % 32, by omega⟩) := by
  rw [← sb_at (Host.sin ang) (posAt t p) l]
  blk_simp [iblk, idx t]
  rw [entry_sb]
  blk_ext [iblk, V, idx t, posAt]

end Cert.Front
-- ==== Proof.Front.Sweep.lean ====
/- The results of the input projection's call: every grid point leaves its tile of its sequence's results. -/
module

public import proofs.«01_k».proof.Proof.Front.Rows
public import proofs.«01_k».proof.Proof.Front.Reads

@[expose] public section

set_option maxRecDepth 16384

noncomputable section

namespace Cert.Front

open Idealize.ShloMosaic Idealize.ShloMosaic.TcCoe Idealize.SL.Sem Cert.Kernel4Ideal Cert.Kernel4Ideal.Gen

/-- A normalised row. -/
def rowS (x : FVec Ideal S2x16384x1024 .f32) (g : FVec Ideal S1024 .f32) (b : Fin 2) (t : Fin 16384) : Ffn.Row :=
  Ffn.nrmS (fun d => g (ix1 d)) (fun d => x (ix3 b t d))

/-- A row of projected columns. -/
def projS (x : FVec Ideal S2x16384x1024 .f32) (g : FVec Ideal S1024 .f32) (w : FVec Ideal S1024x3088 .f32) (b : Fin 2) (t : Fin 16384)
    (j : Fin 3088) : EReal := ∑ k, rowS x g b t k * w (ix2 k j)

/-- A feature of a row turned by its position's angles. -/
def rotS (v : Fin 512 → EReal) (t : Fin 16384) (f : Fin 512) : EReal :=
  if h : f.val % 64 < 32 then
    v f * Host.cos (F := Ideal) ang (ix2 t ⟨f.val % 32, by omega⟩)
      - v ⟨f.val + 32, by omega⟩ * Host.sin (F := Ideal) ang (ix2 t ⟨f.val % 32, by omega⟩)
  else
    v f * Host.cos (F := Ideal) ang (ix2 t ⟨f.val % 32, by omega⟩)
      + v ⟨f.val - 32, by omega⟩ * Host.sin (F := Ideal) ang (ix2 t ⟨f.val % 32, by omega⟩)

/-- Three products against the lanes' tables turn a feature. -/
theorem rot_lanes (v : Fin 512 → EReal) (t : Fin 16384) (f : Fin 512) (c a b : EReal)
    (hc : c = Host.cos (F := Ideal) ang (ix2 t ⟨f.val % 128 % 32, by omega⟩))
    (ha : a = if f.val % 128 % 64 < 32 then -(Host.sin (F := Ideal) ang (ix2 t ⟨f.val % 128 % 32, by omega⟩)) else 0)
    (hb : b = if f.val % 128 % 64 < 32 then 0 else Host.sin (F := Ideal) ang (ix2 t ⟨f.val % 128 % 32, by omega⟩)) :
    v f * c + v ⟨f.val / 128 * 128 + (f.val % 128 + 32) % 128, by omega⟩ * a
      + v ⟨f.val / 128 * 128 + (f.val % 128 + 96) % 128, by omega⟩ * b = rotS v t f := by
  have hf := f.isLt
  have e : (⟨f.val % 128 % 32, by omega⟩ : Fin 32) = ⟨f.val % 32, by omega⟩ := Fin.ext (by show f.val % 128 % 32 = f.val % 32; omega)
  rw [e] at hc ha hb
  unfold rotS
  by_cases h : f.val % 64 < 32
  · have e1 : (⟨f.val / 128 * 128 + (f.val % 128 + 32) % 128, by omega⟩ : Fin 512) = ⟨f.val + 32, by omega⟩ :=
      Fin.ext (by show f.val / 128 * 128 + (f.val % 128 + 32) % 128 = f.val + 32; omega)
    rw [dif_pos h, hc, ha, hb, if_pos (by omega), if_pos (by omega), mul_zero, add_zero, e1, mul_neg, sub_eq_add_neg]
  · have e1 : (⟨f.val / 128 * 128 + (f.val % 128 + 96) % 128, by omega⟩ : Fin 512) = ⟨f.val - 32, by omega⟩ :=
      Fin.ext (by show f.val / 128 * 128 + (f.val % 128 + 96) % 128 = f.val - 32; omega)
    rw [dif_neg h, hc, ha, hb, if_neg (by omega), if_neg (by omega), mul_zero, add_zero, e1]

variable (m : (ℓ : Loc nD τ sig) → Buf (Elt Ideal) ℓ) (c : Dev nD)

/-- A row of the program's projected columns. -/
abbrev colsOf (b : Fin 2) (t : Fin 16384) : Fin 3088 → EReal :=
  projS (m ((c : Thread nD τ).loc main_arg0)) (m ((c : Thread nD τ).loc main_arg1)) (m ((c : Thread nD τ).loc main_arg2)) b t

theorem normed_at (t : Fin cfg0.N) (p d : Fin 1024) : normed (F := Ideal) m c t (ix2 p d)
    = rowS (m ((c : Thread nD τ).loc main_arg0)) (m ((c : Thread nD τ).loc main_arg1)) (seqAt t) (posAt t p) d := by
  unfold normed rowS
  refine (rows_n _ _ p d).trans ?_
  have h1 : (fun d => iblk m c 1 t (ix2 0 d)) = fun d => m ((c : Thread nD τ).loc main_arg1) (ix1 d) := funext fun d => read_g m c t 0 d
  have h2 : (fun d => iblk m c 0 t (ix3 0 p d)) = fun d => m ((c : Thread nD τ).loc main_arg0) (ix3 (seqAt t) (posAt t p) d) :=
    funext fun d => read_x m c t p d
  exact congrArg₂ (fun a b => Ffn.nrmS a b d) h1 h2

/-- A product over all rows against columns of the weights. -/
theorem prod_at (t : Fin cfg0.N) (p : Fin 1024) {n : ℕ} (w : (⟨2, ![1024, n]⟩ : Shape).Idx → EReal) (j : Fin n) (q : Fin 3088)
    (hw : ∀ k : Fin 1024, w (ix2 k j) = m ((c : Thread nD τ).loc main_arg2) (ix2 k q)) :
    ∑ k, normed (F := Ideal) m c t (ix2 p k) * w (ix2 k j) = colsOf m c (seqAt t) (posAt t p) q :=
  Finset.sum_congr rfl fun k _ => by rw [normed_at, hw]

theorem wK_at (t : Fin cfg0.N) (k : Fin 1024) (j : Fin 512) :
    wK (F := Ideal) m c t (ix2 k j) = m ((c : Thread nD τ).loc main_arg2) (ix2 k ⟨512 + j.val, by omega⟩) :=
  ((Cert.Lru.ld2 (iblk m c 2 t) _ k k j ⟨j.val, by omega⟩ (by omega) (by show j.val = 0 + j.val; omega)).trans (read_w m c t _ _)).trans (wide_k _ k j)

theorem wBq_at (t : Fin cfg0.N) (k : Fin 1024) (j : Fin 256) :
    wBq (F := Ideal) m c t (ix2 k j) = m ((c : Thread nD τ).loc main_arg2) (ix2 k ⟨1536 + j.val, by omega⟩) :=
  ((Cert.Lru.ld2 (iblk m c 2 t) _ k k j ⟨512 + j.val, by omega⟩ (by omega) (rfl)).trans (read_w m c t _ _)).trans (wide_bq _ k j)

theorem wBk_at (t : Fin cfg0.N) (k : Fin 1024) (j : Fin 256) :
    wBk (F := Ideal) m c t (ix2 k j) = m ((c : Thread nD τ).loc main_arg2) (ix2 k ⟨1792 + j.val, by omega⟩) :=
  ((Cert.Lru.ld2 (iblk m c 2 t) _ k k j ⟨768 + j.val, by omega⟩ (by omega) (rfl)).trans (read_w m c t _ _)).trans (wide_bk _ k j)

theorem wBv_at (t : Fin cfg0.N) (k : Fin 1024) (j : Fin 512) :
    wBv (F := Ideal) m c t (ix2 k j) = m ((c : Thread nD τ).loc main_arg2) (ix2 k ⟨2048 + j.val, by omega⟩) :=
  ((Cert.Lru.ld2 (iblk m c 2 t) _ k k j ⟨1024 + j.val, by omega⟩ (by omega) (rfl)).trans (read_w m c t _ _)).trans (wide_bv _ k j)

theorem wOg_at (t : Fin cfg0.N) (k : Fin 1024) (j : Fin 512) :
    wOg (F := Ideal) m c t (ix2 k j) = m ((c : Thread nD τ).loc main_arg2) (ix2 k ⟨2576 + j.val, by omega⟩) :=
  ((Cert.Lru.ld2 (iblk m c 2 t) _ k k j ⟨1536 + j.val, by omega⟩ (by omega) (rfl)).trans (read_w m c t _ _)).trans (wide_og _ k j)

theorem wGk_at (t : Fin cfg0.N) (k : Fin 1024) (j : Fin 128) : wGk (F := Ideal) m c t (ix2 k j)
    = (if h : j.val < 16 then m ((c : Thread nD τ).loc main_arg2) (ix2 k ⟨2560 + j.val, by omega⟩) else (0 : EReal) : EReal) :=
  ((Cert.Lru.ld2 (iblk m c 2 t) _ k k j ⟨2048 + j.val, by omega⟩ (by omega) rfl).trans (read_w m c t _ _)).trans (wide_gk _ k j)

theorem wQ_at (t : Fin cfg0.N) (f : Fin 512) (k : Fin 1024) :
    wQ (F := Ideal) m c t (ix2 f k) = m ((c : Thread nD τ).loc main_arg2) (ix2 k ⟨f.val, by omega⟩) :=
  ((Cert.Lru.ld2 (iblk m c 3 t) _ f ⟨f.val, by omega⟩ k k (by show f.val = 0 + f.val; omega) (by omega)).trans (read_wt m c t _ _)).trans
    (tall_q _ k f)

/-! ## What a grid point leaves -/

/-- The two scales. -/
abbrev scaleQ : EReal := Ideal.ofBits .f32 0x3E38AA3B#32
abbrev scaleB : EReal := Ideal.ofBits .f32 0x3E3504F3#32

theorem out_bq (t : Fin cfg0.N) (p : Fin 1024) (j : Fin 256) : (outsAt0 m c t.val t.isLt).2.2.2.2.1 (ix3 0 p j)
    = colsOf m c (seqAt t) (posAt t p) ⟨1536 + j.val, by omega⟩ * scaleB := by
  rw [point_bq m c t]
  exact (rows_bq _ _ p j).trans (congrArg (· * scaleB) (prod_at m c t p _ j _ fun k => wBq_at m c t k j))

theorem out_bk (t : Fin cfg0.N) (p : Fin 1024) (j : Fin 256) : (outsAt0 m c t.val t.isLt).2.2.2.2.2.1 (ix3 0 p j)
    = colsOf m c (seqAt t) (posAt t p) ⟨1792 + j.val, by omega⟩ := by
  rw [point_bk m c t]
  exact (rows_bk _ _ p j).trans (prod_at m c t p _ j _ fun k => wBk_at m c t k j)

theorem out_bv (t : Fin cfg0.N) (p : Fin 1024) (j : Fin 512) : (outsAt0 m c t.val t.isLt).2.2.2.2.2.2.1 (ix3 0 p j)
    = colsOf m c (seqAt t) (posAt t p) ⟨2048 + j.val, by omega⟩ := by
  rw [point_bv m c t]
  exact (rows_bv _ _ p j).trans (prod_at m c t p _ j _ fun k => wBv_at m c t k j)

theorem out_og (t : Fin cfg0.N) (p : Fin 1024) (j : Fin 512) : (outsAt0 m c t.val t.isLt).2.2.2.2.2.2.2.2.1 (ix3 0 p j)
    = colsOf m c (seqAt t) (posAt t p) ⟨2576 + j.val, by omega⟩ := by
  rw [point_og m c t]
  exact (rows_og _ _ p j).trans (prod_at m c t p _ j _ fun k => wOg_at m c t k j)

/-- The gates' row from sixteen projected columns. -/
def gatesS (v : Fin 3088 → EReal) (w2 : FVec Ideal S16x256 .f32) (b2 : FVec Ideal S256 .f32) (j : Fin 256) : EReal :=
  (∑ l : Fin 16, v ⟨2560 + l.val, by omega⟩ * w2 (ix2 l j)) + b2 (ix1 j)

theorem out_gl (t : Fin cfg0.N) (p : Fin 1024) (j : Fin 256) : (outsAt0 m c t.val t.isLt).2.2.2.2.2.2.2.1 (ix3 0 p j)
    = gateS (gatesS (colsOf m c (seqAt t) (posAt t p)) (m ((c : Thread nD τ).loc main_arg3)) (m ((c : Thread nD τ).loc main_arg4)) j) := by
  rw [point_gl m c t]
  refine (rows_gl _ _ _ _ p j).trans (congrArg gateS ?_)
  unfold gatesS
  refine congrArg₂ (· + ·) ?_ (read_bgk m c t 0 j)
  have h0 : ∀ l : Fin 128, (∑ k, normed (F := Ideal) m c t (ix2 p k) * wGk (F := Ideal) m c t (ix2 k l)) * iblk m c 4 t (ix2 l j)
      = if h : l.val < 16 then colsOf m c (seqAt t) (posAt t p) ⟨2560 + l.val, by omega⟩
          * m ((c : Thread nD τ).loc main_arg3) (ix2 ⟨l.val, h⟩ j) else (0 : EReal) := fun l => by
    by_cases h : l.val < 16
    · rw [dif_pos h, read_wgk m c t l j, dif_pos h]
      refine congrArg (· * _) (prod_at m c t p _ l _ fun k => ?_)
      rw [wGk_at, dif_pos h]
    · rw [dif_neg h, read_wgk m c t l j, dif_neg h]
      exact mul_zero _
  refine (Finset.sum_congr rfl fun l _ => h0 l).trans ?_
  refine (Fin.sum_univ_add (a := 16) (b := 112) _).trans ?_
  refine (congrArg₂ (· + ·) (Finset.sum_congr rfl fun l _ => dif_pos (show (Fin.castAdd 112 l).val < 16 from l.isLt))
    (Finset.sum_eq_zero fun l _ => dif_neg (show ¬ (Fin.natAdd 16 l).val < 16 from by simp))).trans ?_
  exact add_zero _

theorem out_k (t : Fin cfg0.N) (p : Fin 1024) (f : Fin 512) : (outsAt0 m c t.val t.isLt).2.1 (ix3 0 p f)
    = rotS (fun f => colsOf m c (seqAt t) (posAt t p) ⟨512 + f.val, by omega⟩) (posAt t p) f := by
  rw [point_k m c t]
  refine (rows_k _ _ _ _ p f).trans ?_
  have h (f : Fin 512) : k0_pay13 (F := Ideal) (normed m c t) (wK m c t) (ix2 p f)
      = colsOf m c (seqAt t) (posAt t p) ⟨512 + f.val, by omega⟩ :=
    (rows_pk _ _ p f).trans (prod_at m c t p _ f _ fun k => wK_at m c t k f)
  simp only [h]
  exact rot_lanes (fun f => colsOf m c (seqAt t) (posAt t p) ⟨512 + f.val, by omega⟩) (posAt t p) f _ _ _
    (read_cos m c t p _) (read_sa m c t p _) (read_sb m c t p _)

theorem out_q (t : Fin cfg0.N) (p : Fin 1024) (f : Fin 512) : (outsAt0 m c t.val t.isLt).1 (ix3 0 f p)
    = rotS (fun f => colsOf m c (seqAt t) (posAt t p) ⟨f.val, by omega⟩) (posAt t p) f * scaleQ := by
  rw [point_q m c t]
  refine (rows_q _ _ _ _ _ _ p f).trans (congrArg (· * scaleQ) ?_)
  have h (f : Fin 512) : k0_pay4 (F := Ideal) (iblk m c 0 t) (iblk m c 1 t) (wQ m c t) (ix2 f p)
      = colsOf m c (seqAt t) (posAt t p) ⟨f.val, by omega⟩ :=
    (rows_pq _ _ _ p f).trans (Finset.sum_congr rfl fun k _ => by
      rw [wQ_at, mul_comm]
      exact congrArg (· * _) (normed_at m c t p k))
  simp only [h]
  exact rot_lanes (fun f => colsOf m c (seqAt t) (posAt t p) ⟨f.val, by omega⟩) (posAt t p) f _ _ _
    (read_cos m c t p _) (read_sa m c t p _) (read_sb m c t p _)

/-! ## The result arrays -/

theorem seqAt_at (b : Fin 2) (t : Fin 16384) (h : 16 * b.val + t.val / 1024 < cfg0.N) : seqAt ⟨16 * b.val + t.val / 1024, h⟩ = b :=
  Fin.ext (by show (16 * b.val + t.val / 1024) / 16 = b.val; omega)

theorem posAt_at (b : Fin 2) (t : Fin 16384) (h : 16 * b.val + t.val / 1024 < cfg0.N) :
    posAt ⟨16 * b.val + t.val / 1024, h⟩ ⟨t.val % 1024, by omega⟩ = t :=
  Fin.ext (by show 1024 * ((16 * b.val + t.val / 1024) % 16) + t.val % 1024 = t.val; omega)

theorem result_k (b : Fin 2) (t : Fin 16384) (d : Fin 512) : Value.G10 m c (ix3 b t d) = rotS (fun f => colsOf m c b t ⟨512 + f.val, by omega⟩) t d := by
  have hb := b.isLt
  have hd := d.isLt
  have hpt : Value.pt10Of (ix3 b t d) = 16 * b.val + t.val / 1024 := by
    show 16 * (b.val / 1 - 0) + 1 * (t.val / 1024 - 0) + 1 * (d.val / 512 - 0) = _
    omega
  have hlt : 16 * b.val + t.val / 1024 < cfg0.N := by rw [show cfg0.N = 32 from N_0]; omega
  unfold Value.G10
  rw [dif_pos (by rw [hpt]; exact hlt), Value.fold0_congr m c _ _ (16 * b.val + t.val / 1024) (by omega) hpt, ← Value.outsAt0_sweep m c _ hlt]
  have hloc : Value.loc10Of (ix3 b t d) = ix3 0 ⟨t.val % 1024, by omega⟩ d := by
    funext a
    refine Fin.ext ?_
    fin_cases a
    · show b.val % 1 = 0; omega
    · rfl
    · show d.val % 512 = d.val; omega
  rw [hloc, out_k m c ⟨16 * b.val + t.val / 1024, hlt⟩, seqAt_at, posAt_at]

theorem result_bq (b : Fin 2) (t : Fin 16384) (d : Fin 256) : Value.G13 m c (ix3 b t d) = colsOf m c b t ⟨1536 + d.val, by omega⟩ * scaleB := by
  have hb := b.isLt
  have hd := d.isLt
  have hpt : Value.pt13Of (ix3 b t d) = 16 * b.val + t.val / 1024 := by
    show 16 * (b.val / 1 - 0) + 1 * (t.val / 1024 - 0) + 1 * (d.val / 256 - 0) = _
    omega
  have hlt : 16 * b.val + t.val / 1024 < cfg0.N := by rw [show cfg0.N = 32 from N_0]; omega
  unfold Value.G13
  rw [dif_pos (by rw [hpt]; exact hlt), Value.fold0_congr m c _ _ (16 * b.val + t.val / 1024) (by omega) hpt, ← Value.outsAt0_sweep m c _ hlt]
  have hloc : Value.loc13Of (ix3 b t d) = ix3 0 ⟨t.val % 1024, by omega⟩ d := by
    funext a
    refine Fin.ext ?_
    fin_cases a
    · show b.val % 1 = 0; omega
    · rfl
    · show d.val % 256 = d.val; omega
  rw [hloc, out_bq m c ⟨16 * b.val + t.val / 1024, hlt⟩, seqAt_at, posAt_at]

theorem result_bk (b : Fin 2) (t : Fin 16384) (d : Fin 256) : Value.G14 m c (ix3 b t d) = colsOf m c b t ⟨1792 + d.val, by omega⟩ := by
  have hb := b.isLt
  have hd := d.isLt
  have hpt : Value.pt14Of (ix3 b t d) = 16 * b.val + t.val / 1024 := by
    show 16 * (b.val / 1 - 0) + 1 * (t.val / 1024 - 0) + 1 * (d.val / 256 - 0) = _
    omega
  have hlt : 16 * b.val + t.val / 1024 < cfg0.N := by rw [show cfg0.N = 32 from N_0]; omega
  unfold Value.G14
  rw [dif_pos (by rw [hpt]; exact hlt), Value.fold0_congr m c _ _ (16 * b.val + t.val / 1024) (by omega) hpt, ← Value.outsAt0_sweep m c _ hlt]
  have hloc : Value.loc14Of (ix3 b t d) = ix3 0 ⟨t.val % 1024, by omega⟩ d := by
    funext a
    refine Fin.ext ?_
    fin_cases a
    · show b.val % 1 = 0; omega
    · rfl
    · show d.val % 256 = d.val; omega
  rw [hloc, out_bk m c ⟨16 * b.val + t.val / 1024, hlt⟩, seqAt_at, posAt_at]

theorem result_bv (b : Fin 2) (t : Fin 16384) (d : Fin 512) : Value.G15 m c (ix3 b t d) = colsOf m c b t ⟨2048 + d.val, by omega⟩ := by
  have hb := b.isLt
  have hd := d.isLt
  have hpt : Value.pt15Of (ix3 b t d) = 16 * b.val + t.val / 1024 := by
    show 16 * (b.val / 1 - 0) + 1 * (t.val / 1024 - 0) + 1 * (d.val / 512 - 0) = _
    omega
  have hlt : 16 * b.val + t.val / 1024 < cfg0.N := by rw [show cfg0.N = 32 from N_0]; omega
  unfold Value.G15
  rw [dif_pos (by rw [hpt]; exact hlt), Value.fold0_congr m c _ _ (16 * b.val + t.val / 1024) (by omega) hpt, ← Value.outsAt0_sweep m c _ hlt]
  have hloc : Value.loc15Of (ix3 b t d) = ix3 0 ⟨t.val % 1024, by omega⟩ d := by
    funext a
    refine Fin.ext ?_
    fin_cases a
    · show b.val % 1 = 0; omega
    · rfl
    · show d.val % 512 = d.val; omega
  rw [hloc, out_bv m c ⟨16 * b.val + t.val / 1024, hlt⟩, seqAt_at, posAt_at]

theorem result_gl (b : Fin 2) (t : Fin 16384) (d : Fin 256) : Value.G16 m c (ix3 b t d) = gateS (gatesS (colsOf m c b t) (m ((c : Thread nD τ).loc main_arg3)) (m ((c : Thread nD τ).loc main_arg4)) d) := by
  have hb := b.isLt
  have hd := d.isLt
  have hpt : Value.pt16Of (ix3 b t d) = 16 * b.val + t.val / 1024 := by
    show 16 * (b.val / 1 - 0) + 1 * (t.val / 1024 - 0) + 1 * (d.val / 256 - 0) = _
    omega
  have hlt : 16 * b.val + t.val / 1024 < cfg0.N := by rw [show cfg0.N = 32 from N_0]; omega
  unfold Value.G16
  rw [dif_pos (by rw [hpt]; exact hlt), Value.fold0_congr m c _ _ (16 * b.val + t.val / 1024) (by omega) hpt, ← Value.outsAt0_sweep m c _ hlt]
  have hloc : Value.loc16Of (ix3 b t d) = ix3 0 ⟨t.val % 1024, by omega⟩ d := by
    funext a
    refine Fin.ext ?_
    fin_cases a
    · show b.val % 1 = 0; omega
    · rfl
    · show d.val % 256 = d.val; omega
  rw [hloc, out_gl m c ⟨16 * b.val + t.val / 1024, hlt⟩, seqAt_at, posAt_at]

theorem result_og (b : Fin 2) (t : Fin 16384) (d : Fin 512) : Value.G17 m c (ix3 b t d) = colsOf m c b t ⟨2576 + d.val, by omega⟩ := by
  have hb := b.isLt
  have hd := d.isLt
  have hpt : Value.pt17Of (ix3 b t d) = 16 * b.val + t.val / 1024 := by
    show 16 * (b.val / 1 - 0) + 1 * (t.val / 1024 - 0) + 1 * (d.val / 512 - 0) = _
    omega
  have hlt : 16 * b.val + t.val / 1024 < cfg0.N := by rw [show cfg0.N = 32 from N_0]; omega
  unfold Value.G17
  rw [dif_pos (by rw [hpt]; exact hlt), Value.fold0_congr m c _ _ (16 * b.val + t.val / 1024) (by omega) hpt, ← Value.outsAt0_sweep m c _ hlt]
  have hloc : Value.loc17Of (ix3 b t d) = ix3 0 ⟨t.val % 1024, by omega⟩ d := by
    funext a
    refine Fin.ext ?_
    fin_cases a
    · show b.val % 1 = 0; omega
    · rfl
    · show d.val % 512 = d.val; omega
  rw [hloc, out_og m c ⟨16 * b.val + t.val / 1024, hlt⟩, seqAt_at, posAt_at]

theorem result_q (b : Fin 2) (d : Fin 512) (t : Fin 16384) : Value.G9 m c (ix3 b d t)
    = rotS (fun f => colsOf m c b t ⟨f.val, by omega⟩) t d * scaleQ := by
  have hb := b.isLt
  have hd := d.isLt
  have hpt : Value.pt9Of (ix3 b d t) = 16 * b.val + t.val / 1024 := by
    show 16 * (b.val / 1 - 0) + 16 * (d.val / 512 - 0) + 1 * (t.val / 1024 - 0) = _
    omega
  have hlt : 16 * b.val + t.val / 1024 < cfg0.N := by rw [show cfg0.N = 32 from N_0]; omega
  unfold Value.G9
  rw [dif_pos (by rw [hpt]; exact hlt), Value.fold0_congr m c _ _ (16 * b.val + t.val / 1024) (by omega) hpt, ← Value.outsAt0_sweep m c _ hlt]
  have hloc : Value.loc9Of (ix3 b d t) = ix3 0 d ⟨t.val % 1024, by omega⟩ := by
    funext a
    refine Fin.ext ?_
    fin_cases a
    · show b.val % 1 = 0; omega
    · show d.val % 512 = d.val; omega
    · rfl
  rw [hloc, out_q m c ⟨16 * b.val + t.val / 1024, hlt⟩, seqAt_at, posAt_at]

end Cert.Front
-- ==== Proof.Front.Ref.lean ====
/- The reference of the input projection's call as functions of whole arrays, and their entries. -/
module

public import proofs.«01_k».proof.Proof.Gen.Reference4Ideal.Run
public import proofs.«01_k».proof.Proof.Ffn.RefFns
public import proofs.«01_k».proof.Proof.Front.Sweep

@[expose] public section

set_option maxRecDepth 16384

noncomputable section

namespace Cert.Front.Ref

open Idealize.ShloMosaic Idealize.ShloMosaic.TcCoe Idealize.SL.Sem Cert.Reference4Ideal Cert.Reference4Ideal.Gen

variable {F : FTy → Type} [FloatOps F]

/-- Every row divided by its root mean square and scaled. -/
def scaledR (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf (Host.divf
      (broadcastInDim S2x16384x1 ![0, 1] bcast_S2x16384_S2x16384x1_0_1
        (Host.reduceAdd (mulf x x) (constant S_ .f32 0x00000000#32) reducesTo_S2x16384x1024_S2x16384_d2 h_S_))
      (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The angle of every position and frequency. -/
def angR : FVec F S16384x32 .f32 :=
  mulf (broadcastInDim S16384x32 ![0, 1] bcast_S16384x1_S16384x32_0_1 (broadcastInDim S16384x1 ![0] bcast_S16384_S16384x1_0
      (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The projected columns of all rows. -/
def projR (x : FVec F S2x16384x1024 .f32) (g : FVec F S1024 .f32) (w : FVec F S1024x3088 .f32) : FVec F S2x16384x3088 .f32 :=
  Host.dotGeneral dot_S2x16384x1024_S1024x3088_S2x16384x3088_2_0_01_1_n_n none (scaledR x g) w

/-- The angles' table over sequences and heads. -/
def heads (v : FVec F S16384x32 .f32) : FVec F S2x16384x8x32 .f32 :=
  broadcastInDim S2x16384x8x32 ![0, 1, 2, 3] bcast_S1x16384x1x32_S2x16384x8x32_0_1_2_3
    (broadcastInDim S1x16384x1x32 ![1, 2, 3] bcast_S16384x1x32_S1x16384x1x32_1_2_3
      (broadcastInDim S16384x1x32 ![0, 2] bcast_S16384x32_S16384x1x32_0_2 v))

/-- The heads' first halves. -/
def fore (v : FVec F S2x16384x512 .f32) : FVec F S2x16384x8x32 .f32 :=
  extractStridedSlice S2x16384x8x32 ![0, 0, 0, 0] (shapeCast S2x16384x8x64 v shapeCasts_S2x16384x512_S2x16384x8x64)
    slices_S2x16384x8x64_S2x16384x8x32_0_0_0_0

/-- The heads' second halves. -/
def aft (v : FVec F S2x16384x512 .f32) : FVec F S2x16384x8x32 .f32 :=
  extractStridedSlice S2x16384x8x32 ![0, 0, 0, 32] (shapeCast S2x16384x8x64 v shapeCasts_S2x16384x512_S2x16384x8x64)
    slices_S2x16384x8x64_S2x16384x8x32_0_0_0_32

/-- Two halves of the heads as rows. -/
def join (a b : FVec F S2x16384x8x32 .f32) : FVec F S2x16384x512 .f32 :=
  shapeCast S2x16384x512 (concatenate S2x16384x8x64 3 [⟨S2x16384x8x32, a⟩, ⟨S2x16384x8x32, b⟩]
    concatenates_S2x16384x8x32_S2x16384x8x32_S2x16384x8x64_d3) shapeCasts_S2x16384x8x64_S2x16384x512

/-- Every head of every row turned by its position's angles. -/
def turnR (v : FVec F S2x16384x512 .f32) : FVec F S2x16384x512 .f32 :=
  join (subf (mulf (fore v) (heads (Host.cos angR))) (mulf (aft v) (heads (Host.sin angR))))
    (addf (mulf (aft v) (heads (Host.cos angR))) (mulf (fore v) (heads (Host.sin angR))))

/-- Zeros. -/
def nil : FVec F S2x16384x256 .f32 := broadcastInDim S2x16384x256 ![] bcast_S_S2x16384x256 (constant S_ .f32 0x00000000#32)

/-- Softplus, as the host computes it. -/
def softR (x : FVec F S2x16384x256 .f32) : FVec F S2x16384x256 .f32 :=
  select (cmpf .une (subf x nil) (subf x nil)) (addf x nil)
    (addf (maximumf x nil) (Host.log1p (Host.exp (Host.negf (Host.absf (subf x nil))))))

/-- The log gates of the gates' rows. -/
def logR (z : FVec F S2x16384x256 .f32) : FVec F S2x16384x256 .f32 :=
  Host.divf (Host.negf (softR (Host.negf z))) (broadcastInDim S2x16384x256 ![] bcast_S_S2x16384x256 (constant S_ .f32 0x41800000#32))

/-- The gates' rows. -/
def gatesR (v : FVec F S2x16384x3088 .f32) (w2 : FVec F S16x256 .f32) (b2 : FVec F S256 .f32) : FVec F S2x16384x256 .f32 :=
  addf (Host.dotGeneral dot_S2x16384x16_S16x256_S2x16384x256_2_0_01_1_n_n none
      (extractStridedSlice S2x16384x16 ![0, 0, 2560] v slices_S2x16384x3088_S2x16384x16_0_0_2560) w2)
    (broadcastInDim S2x16384x256 ![0, 1, 2] bcast_S1x1x256_S2x16384x256_0_1_2 (broadcastInDim S1x1x256 ![2] bcast_S256_S1x1x256_2 b2))

/-! ## Entries -/

theorem angR_eq : angR (F := Ideal) = ang := rfl

theorem scaledR_eq (x : FVec Ideal S2x16384x1024 .f32) (g : FVec Ideal S1024 .f32) : scaledR x g = Ffn.Ref.scaledR x g := rfl

theorem proj_at (x : FVec Ideal S2x16384x1024 .f32) (g : FVec Ideal S1024 .f32) (w : FVec Ideal S1024x3088 .f32) (b : Fin 2) (t : Fin 16384)
    (j : Fin 3088) : projR x g w (ix3 b t j) = projS x g w b t j := by
  have h : projR x g w (ix3 b t j) = ∑ k, Ffn.Ref.scaledR x g (ix3 b t k) * w (ix2 k j) := by
    unfold projR
    rw [scaledR_eq]
    generalize Ffn.Ref.scaledR x g = u
    pointwise
  rw [h]
  exact Finset.sum_congr rfl fun k _ => congrArg (· * _) (Ffn.Ref.scaled_at x g b t k)

theorem heads_at (v : FVec Ideal S16384x32 .f32) (b : Fin 2) (t : Fin 16384) (a : Fin 8) (e : Fin 32) :
    heads v (ix4 b t a e) = v (ix2 t e) := by
  pointwise [heads]

theorem fore_at (v : FVec Ideal S2x16384x512 .f32) (b : Fin 2) (t : Fin 16384) (a : Fin 8) (e : Fin 32) :
    fore v (ix4 b t a e) = v (ix3 b t ⟨a.val * 64 + e.val, by omega⟩) := by
  pointwise [fore]

theorem aft_at (v : FVec Ideal S2x16384x512 .f32) (b : Fin 2) (t : Fin 16384) (a : Fin 8) (e : Fin 32) :
    aft v (ix4 b t a e) = v (ix3 b t ⟨a.val * 64 + 32 + e.val, by omega⟩) := by
  pointwise [aft]
  exact congrArg (fun r => v (ix3 b t r)) (Fin.ext (by dsimp only; omega))

theorem join_at (u v : FVec Ideal S2x16384x8x32 .f32) (b : Fin 2) (t : Fin 16384) (f : Fin 512) :
    join u v (ix3 b t f) = if f.val % 64 < 32 then u (ix4 b t ⟨f.val / 64, by omega⟩ ⟨f.val % 32, by omega⟩)
      else v (ix4 b t ⟨f.val / 64, by omega⟩ ⟨f.val % 32, by omega⟩) := by
  pointwise [join]
  by_cases h : f.val % 64 < 32
  · rw [dif_pos h, if_pos h]
    exact congrArg (fun r => u (ix4 b t _ r)) (Fin.ext (by dsimp only; omega))
  · rw [dif_neg h, if_neg h]
    exact congrArg (fun r => v (ix4 b t _ r)) (Fin.ext (by dsimp only; omega))

theorem turn_at (v : FVec Ideal S2x16384x512 .f32) (b : Fin 2) (t : Fin 16384) (f : Fin 512) :
    turnR v (ix3 b t f) = rotS (fun f => v (ix3 b t f)) t f := by
  have hf := f.isLt
  unfold turnR rotS
  rw [angR_eq]
  rw [join_at]
  by_cases h : f.val % 64 < 32
  · rw [if_pos h, dif_pos h]
    show fore v _ * heads _ _ - aft v _ * heads _ _ = _
    rw [fore_at, aft_at, heads_at, heads_at]
    have e1 : (⟨f.val / 64 * 64 + f.val % 32, by omega⟩ : Fin 512) = f := Fin.ext (by show f.val / 64 * 64 + f.val % 32 = f.val; omega)
    have e2 : (⟨f.val / 64 * 64 + 32 + f.val % 32, by omega⟩ : Fin 512) = ⟨f.val + 32, by omega⟩ :=
      Fin.ext (by show f.val / 64 * 64 + 32 + f.val % 32 = f.val + 32; omega)
    rw [e1, e2]
  · rw [if_neg h, dif_neg h]
    show aft v _ * heads _ _ + fore v _ * heads _ _ = _
    rw [fore_at, aft_at, heads_at, heads_at]
    have e1 : (⟨f.val / 64 * 64 + f.val % 32, by omega⟩ : Fin 512) = ⟨f.val - 32, by omega⟩ :=
      Fin.ext (by show f.val / 64 * 64 + f.val % 32 = f.val - 32; omega)
    have e2 : (⟨f.val / 64 * 64 + 32 + f.val % 32, by omega⟩ : Fin 512) = f :=
      Fin.ext (by show f.val / 64 * 64 + 32 + f.val % 32 = f.val; omega)
    rw [e1, e2]

theorem gates_at (v : FVec Ideal S2x16384x3088 .f32) (w2 : FVec Ideal S16x256 .f32) (b2 : FVec Ideal S256 .f32) (b : Fin 2) (t : Fin 16384)
    (j : Fin 256) : gatesR v w2 b2 (ix3 b t j) = gatesS (fun j => v (ix3 b t j)) w2 b2 j := by
  unfold gatesS
  pointwise [gatesR]

theorem soft_at (x : FVec Ideal S2x16384x256 .f32) (i : S2x16384x256.Idx) : softR x i = Lru.spS (x i) := by
  unfold Lru.spS
  pointwise [softR, nil]
  exact if_neg (fun h => h rfl)

/-- The correction of softplus is a real number. -/
theorem soft_real (z : EReal) : ∃ r : ℝ, Ideal.log1p (Ideal.exp (-FloatOps.absf (F := Ideal) (φ := .f32) z)) = (r : EReal) := by
  have hr : ∀ x : ℝ, 0 ≤ x → ∃ r : ℝ, Ideal.log1p (x : EReal) = (r : EReal) := fun x hx => by
    refine ⟨Real.log (1 + x), ?_⟩
    unfold Ideal.log1p
    rw [← EReal.coe_one, ← EReal.coe_add]
    show (if 1 + x ≤ 0 then ⊥ else (Real.log (1 + x) : EReal)) = _
    rw [if_neg (by linarith)]
  have hz : ∃ x : ℝ, 0 ≤ x ∧ Ideal.exp (-FloatOps.absf (F := Ideal) (φ := .f32) z) = (x : EReal) := by
    show ∃ x : ℝ, 0 ≤ x ∧ Ideal.exp (-(max z (-z))) = (x : EReal)
    induction z with
    | bot => exact ⟨0, le_refl _, by rw [EReal.neg_bot, max_eq_right bot_le, EReal.neg_top]; rfl⟩
    | top => exact ⟨0, le_refl _, by rw [EReal.neg_top, max_eq_left bot_le, EReal.neg_top]; rfl⟩
    | coe y =>
      refine ⟨Real.exp (-(max y (-y))), (Real.exp_pos _).le, ?_⟩
      rw [← EReal.coe_neg, ← EReal.coe_strictMono.monotone.map_max, ← EReal.coe_neg]
      rfl
  obtain ⟨x, hx, e⟩ := hz
  rw [e]
  exact hr x hx

/-- The log of the logistic function is less the softplus of the negated argument. -/
theorem log_gate (z : EReal) :
    min z 0 - Ideal.log1p (Ideal.exp (0 - FloatOps.absf (F := Ideal) (φ := .f32) z)) = -(Lru.spS (-z)) := by
  have habs : FloatOps.absf (F := Ideal) (φ := .f32) (-z) = FloatOps.absf (F := Ideal) (φ := .f32) z := by
    show max (-z) (- -z) = max z (-z)
    rw [neg_neg, max_comm]
  unfold Lru.spS
  rw [habs, zero_sub]
  obtain ⟨r, hr⟩ := soft_real z
  rw [hr, EReal.neg_add (Or.inr (EReal.coe_ne_top r)) (Or.inr (EReal.coe_ne_bot r))]
  have hm : min z 0 = -(max (-z) 0) := by
    rcases le_total z 0 with h | h
    · rw [min_eq_left h, max_eq_left (EReal.neg_nonneg.mpr h), neg_neg]
    · rw [min_eq_right h, max_eq_right ((EReal.neg_le_neg_iff.mpr h).trans_eq neg_zero), neg_zero]
  rw [hm]

theorem log_at (z : FVec Ideal S2x16384x256 .f32) (i : S2x16384x256.Idx) : logR z i = gateS (z i) := by
  unfold gateS
  rw [log_gate]
  show Ideal.div (-(softR (Host.negf z) i)) _ = _
  rw [soft_at]
  rfl

end Cert.Front.Ref

namespace Cert.Front

open Idealize.ShloMosaic Idealize.ShloMosaic.TcCoe Idealize.SL.Sem Cert.Reference4Ideal Cert.Reference4Ideal.Gen

/-! ## The reference's results as functions of its arguments -/

variable (x : FVec Ideal S2x16384x1024 .f32) (g : FVec Ideal S1024 .f32) (w : FVec Ideal S1024x3088 .f32) (w2 : FVec Ideal S16x256 .f32)
  (b2 : FVec Ideal S256 .f32)

/-- The turned, scaled queries, laid out by feature. -/
def qR : FVec Ideal S2x512x16384 .bf16 :=
  truncf .bf16 (transpose S2x512x16384 [0, 2, 1] (mulf (Ref.turnR (extractStridedSlice S2x16384x512 ![0, 0, 0] (Ref.projR x g w)
      slices_S2x16384x3088_S2x16384x512_0_0_0)) (broadcastInDim S2x16384x512 ![] bcast_S_S2x16384x512 (constant S_ .f32 0x3E38AA3B#32)))
    transposes_S2x16384x512_S2x512x16384_0_2_1) bitsLt_bf16_f32

/-- The turned keys. -/
def kR : FVec Ideal S2x16384x512 .bf16 :=
  truncf .bf16 (Ref.turnR (extractStridedSlice S2x16384x512 ![0, 0, 512] (Ref.projR x g w) slices_S2x16384x3088_S2x16384x512_0_0_512))
    bitsLt_bf16_f32

/-- The second mixer's scaled queries. -/
def bqR : FVec Ideal S2x16384x256 .f32 :=
  mulf (extractStridedSlice S2x16384x256 ![0, 0, 1536] (Ref.projR x g w) slices_S2x16384x3088_S2x16384x256_0_0_1536)
    (broadcastInDim S2x16384x256 ![] bcast_S_S2x16384x256 (constant S_ .f32 0x3E3504F3#32))

/-- The second mixer's keys. -/
def bkR : FVec Ideal S2x16384x256 .f32 :=
  extractStridedSlice S2x16384x256 ![0, 0, 1792] (Ref.projR x g w) slices_S2x16384x3088_S2x16384x256_0_0_1792

/-- The second mixer's values. -/
def bvR : FVec Ideal S2x16384x512 .f32 :=
  extractStridedSlice S2x16384x512 ![0, 0, 2048] (Ref.projR x g w) slices_S2x16384x3088_S2x16384x512_0_0_2048

/-- The log gates. -/
def glR : FVec Ideal S2x16384x256 .f32 := Ref.logR (Ref.gatesR (Ref.projR x g w) w2 b2)

/-- The output gates. -/
def ogR : FVec Ideal S2x16384x512 .f32 :=
  extractStridedSlice S2x16384x512 ![0, 0, 2576] (Ref.projR x g w) slices_S2x16384x3088_S2x16384x512_0_0_2576

end Cert.Front
-- ==== Proof.Front.Whole.lean ====
/- The input projection's call: the reference's long results as functions of its arguments. -/
module

public import proofs.«01_k».proof.Proof.Front.Ref

@[expose] public section

set_option maxRecDepth 16384

noncomputable section

namespace Cert.Front

open Idealize.ShloMosaic Idealize.ShloMosaic.TcCoe Idealize.SL.Sem Cert.Reference4Ideal Cert.Reference4Ideal.Gen

/-! ## The reference's long results are those functions -/

theorem ref_q (m : (ℓ : Loc Reference4Ideal.nD Reference4Ideal.τ Reference4Ideal.sig) → Buf (Elt Ideal) ℓ) (c : Dev Reference4Ideal.nD) :
    Reference4Ideal.Value.res_main_v104 m c = qR (m (c.tc.loc Reference4Ideal.main_arg0)) (m (c.tc.loc Reference4Ideal.main_arg1)) (m (c.tc.loc Reference4Ideal.main_arg2)) := by
  unfold Reference4Ideal.Value.res_main_v104 qR Ref.turnR Ref.join Ref.fore Ref.aft Ref.heads Ref.projR Ref.scaledR Ref.angR
  rfl

theorem ref_k (m : (ℓ : Loc Reference4Ideal.nD Reference4Ideal.τ Reference4Ideal.sig) → Buf (Elt Ideal) ℓ) (c : Dev Reference4Ideal.nD) :
    Reference4Ideal.Value.res_main_v105 m c = kR (m (c.tc.loc Reference4Ideal.main_arg0)) (m (c.tc.loc Reference4Ideal.main_arg1)) (m (c.tc.loc Reference4Ideal.main_arg2)) := by
  unfold Reference4Ideal.Value.res_main_v105 kR Ref.turnR Ref.join Ref.fore Ref.aft Ref.heads Ref.projR Ref.scaledR Ref.angR
  rfl

theorem ref_gl (m : (ℓ : Loc Reference4Ideal.nD Reference4Ideal.τ Reference4Ideal.sig) → Buf (Elt Ideal) ℓ) (c : Dev Reference4Ideal.nD) :
    Reference4Ideal.Value.res_main_v100 m c = glR (m (c.tc.loc Reference4Ideal.main_arg0)) (m (c.tc.loc Reference4Ideal.main_arg1)) (m (c.tc.loc Reference4Ideal.main_arg2)) (m (c.tc.loc Reference4Ideal.main_arg3)) (m (c.tc.loc Reference4Ideal.main_arg4)) := by
  unfold Reference4Ideal.Value.res_main_v100 glR Ref.logR Ref.softR Ref.gatesR Ref.nil Ref.projR Ref.scaledR
  rfl

end Cert.Front
-- ==== Proof.Front.Turned.lean ====
/- The input projection's call: the entries of the reference's turned columns. -/
module

public import proofs.«01_k».proof.Proof.Front.Ref

@[expose] public section

set_option maxRecDepth 16384

noncomputable section

namespace Cert.Front

open Idealize.ShloMosaic Idealize.ShloMosaic.TcCoe Idealize.SL.Sem Cert.Reference4Ideal Cert.Reference4Ideal.Gen

variable (x : FVec Ideal S2x16384x1024 .f32) (g : FVec Ideal S1024 .f32) (w : FVec Ideal S1024x3088 .f32) (w2 : FVec Ideal S16x256 .f32)
  (b2 : FVec Ideal S256 .f32)

/-! ## Their entries -/

/-- A span of the columns. -/
theorem span_at {n : ℕ} (o : ℕ) (v : FVec Ideal S2x16384x3088 .f32) (h : S2x16384x3088.Slices ![0, 0, o] ⟨3, ![2, 16384, n]⟩)
    (b : Fin 2) (t : Fin 16384) (d : Fin n) (q : Fin 3088) (hq : q.val = o + d.val) :
    extractStridedSlice ⟨3, ![2, 16384, n]⟩ ![0, 0, o] v h (ix3 b t d) = v (ix3 b t q) := by
  refine congrArg v (funext fun a => Fin.ext ?_)
  fin_cases a
  · show 0 + b.val = b.val; omega
  · show 0 + t.val = t.val; omega
  · show o + d.val = q.val; omega

theorem cast_at (u : FVec Ideal S2x16384x512 .f32) (i : S2x16384x512.Idx) :
    (truncf .bf16 u bitsLt_bf16_f32 : FVec Ideal S2x16384x512 .bf16) i = u i := rfl

theorem turned (v : FVec Ideal S2x16384x512 .f32) (u : Fin 512 → EReal) (b : Fin 2) (t : Fin 16384) (d : Fin 512)
    (hu : ∀ f : Fin 512, v (ix3 b t f) = u f) : Ref.turnR v (ix3 b t d) = rotS u t d := by
  have h : (fun f => v (ix3 b t f)) = u := funext hu
  rw [Ref.turn_at, h]

theorem laid (u : FVec Ideal S2x16384x512 .f32) (b : Fin 2) (d : Fin 512) (t : Fin 16384) :
    (truncf .bf16 (transpose S2x512x16384 [0, 2, 1] (mulf u (broadcastInDim S2x16384x512 ![] bcast_S_S2x16384x512
      (constant S_ .f32 0x3E38AA3B#32))) transposes_S2x16384x512_S2x512x16384_0_2_1) bitsLt_bf16_f32 : FVec Ideal S2x512x16384 .bf16) (ix3 b d t)
      = u (ix3 b t d) * scaleQ := by
  pointwise

theorem cols_q (b : Fin 2) (t : Fin 16384) (f : Fin 512) :
    extractStridedSlice S2x16384x512 ![0, 0, 0] (Ref.projR x g w) slices_S2x16384x3088_S2x16384x512_0_0_0 (ix3 b t f)
      = projS x g w b t ⟨f.val, by omega⟩ :=
  (span_at 0 _ _ b t f ⟨f.val, by omega⟩ (by show f.val = 0 + f.val; omega)).trans (Ref.proj_at x g w b t _)

theorem cols_k (b : Fin 2) (t : Fin 16384) (f : Fin 512) :
    extractStridedSlice S2x16384x512 ![0, 0, 512] (Ref.projR x g w) slices_S2x16384x3088_S2x16384x512_0_0_512 (ix3 b t f)
      = projS x g w b t ⟨512 + f.val, by omega⟩ :=
  (span_at 512 _ _ b t f ⟨512 + f.val, by omega⟩ rfl).trans (Ref.proj_at x g w b t _)

theorem qR_at (b : Fin 2) (d : Fin 512) (t : Fin 16384) :
    qR x g w (ix3 b d t) = rotS (fun f => projS x g w b t ⟨f.val, by omega⟩) t d * scaleQ := by
  unfold qR
  rw [laid, turned _ _ b t d (cols_q x g w b t)]

theorem kR_at (b : Fin 2) (t : Fin 16384) (d : Fin 512) :
    kR x g w (ix3 b t d) = rotS (fun f => projS x g w b t ⟨512 + f.val, by omega⟩) t d := by
  unfold kR
  rw [cast_at, turned _ _ b t d (cols_k x g w b t)]

end Cert.Front
-- ==== Proof.Front.Equal.lean ====
/- The input projection's call: the kernel's result arrays are the reference's. -/
module

public import proofs.«01_k».proof.Proof.Front.Turned

@[expose] public section

set_option maxRecDepth 16384

noncomputable section

namespace Cert.Front

open Idealize.ShloMosaic Idealize.ShloMosaic.TcCoe Idealize.SL.Sem Cert.Reference4Ideal Cert.Reference4Ideal.Gen

variable (x : FVec Ideal S2x16384x1024 .f32) (g : FVec Ideal S1024 .f32) (w : FVec Ideal S1024x3088 .f32) (w2 : FVec Ideal S16x256 .f32)
  (b2 : FVec Ideal S256 .f32)

/-! ## Their entries -/

theorem bqR_at (b : Fin 2) (t : Fin 16384) (d : Fin 256) :
    bqR x g w (ix3 b t d) = projS x g w b t ⟨1536 + d.val, by omega⟩ * scaleB :=
  congrArg (· * scaleB) ((span_at 1536 _ _ b t d ⟨1536 + d.val, by omega⟩ rfl).trans (Ref.proj_at x g w b t _))

theorem bkR_at (b : Fin 2) (t : Fin 16384) (d : Fin 256) : bkR x g w (ix3 b t d) = projS x g w b t ⟨1792 + d.val, by omega⟩ :=
  (span_at 1792 _ _ b t d ⟨1792 + d.val, by omega⟩ rfl).trans (Ref.proj_at x g w b t _)

theorem bvR_at (b : Fin 2) (t : Fin 16384) (d : Fin 512) : bvR x g w (ix3 b t d) = projS x g w b t ⟨2048 + d.val, by omega⟩ :=
  (span_at 2048 _ _ b t d ⟨2048 + d.val, by omega⟩ rfl).trans (Ref.proj_at x g w b t _)

theorem ogR_at (b : Fin 2) (t : Fin 16384) (d : Fin 512) : ogR x g w (ix3 b t d) = projS x g w b t ⟨2576 + d.val, by omega⟩ :=
  (span_at 2576 _ _ b t d ⟨2576 + d.val, by omega⟩ rfl).trans (Ref.proj_at x g w b t _)

theorem glR_at (b : Fin 2) (t : Fin 16384) (d : Fin 256) :
    glR x g w w2 b2 (ix3 b t d) = gateS (gatesS (projS x g w b t) w2 b2 d) := by
  unfold glR
  rw [Ref.log_at, Ref.gates_at]
  exact congrArg (fun v => gateS (gatesS v w2 b2 d)) (funext fun j => Ref.proj_at x g w b t j)

/-! ## The kernel's results are the same functions of its arguments -/

theorem kernel_q (m : (ℓ : Loc Kernel4Ideal.nD Kernel4Ideal.τ Kernel4Ideal.sig) → Buf (Elt Ideal) ℓ) (c : Dev Kernel4Ideal.nD) :
    Kernel4Ideal.Value.G9 m c = qR (m (c.tc.loc Kernel4Ideal.main_arg0)) (m (c.tc.loc Kernel4Ideal.main_arg1)) (m (c.tc.loc Kernel4Ideal.main_arg2)) := by
  funext i
  rw [eq_ix3 i]
  exact (result_q m c _ _ _).trans (qR_at _ _ _ _ _ _).symm

theorem kernel_k (m : (ℓ : Loc Kernel4Ideal.nD Kernel4Ideal.τ Kernel4Ideal.sig) → Buf (Elt Ideal) ℓ) (c : Dev Kernel4Ideal.nD) :
    Kernel4Ideal.Value.G10 m c = kR (m (c.tc.loc Kernel4Ideal.main_arg0)) (m (c.tc.loc Kernel4Ideal.main_arg1)) (m (c.tc.loc Kernel4Ideal.main_arg2)) := by
  funext i
  rw [eq_ix3 i]
  exact (result_k m c _ _ _).trans (kR_at _ _ _ _ _ _).symm

theorem kernel_bq (m : (ℓ : Loc Kernel4Ideal.nD Kernel4Ideal.τ Kernel4Ideal.sig) → Buf (Elt Ideal) ℓ) (c : Dev Kernel4Ideal.nD) :
    Kernel4Ideal.Value.G13 m c = bqR (m (c.tc.loc Kernel4Ideal.main_arg0)) (m (c.tc.loc Kernel4Ideal.main_arg1)) (m (c.tc.loc Kernel4Ideal.main_arg2)) := by
  funext i
  rw [eq_ix3 i]
  exact (result_bq m c _ _ _).trans (bqR_at _ _ _ _ _ _).symm

theorem kernel_bk (m : (ℓ : Loc Kernel4Ideal.nD Kernel4Ideal.τ Kernel4Ideal.sig) → Buf (Elt Ideal) ℓ) (c : Dev Kernel4Ideal.nD) :
    Kernel4Ideal.Value.G14 m c = bkR (m (c.tc.loc Kernel4Ideal.main_arg0)) (m (c.tc.loc Kernel4Ideal.main_arg1)) (m (c.tc.loc Kernel4Ideal.main_arg2)) := by
  funext i
  rw [eq_ix3 i]
  exact (result_bk m c _ _ _).trans (bkR_at _ _ _ _ _ _).symm

theorem kernel_bv (m : (ℓ : Loc Kernel4Ideal.nD Kernel4Ideal.τ Kernel4Ideal.sig) → Buf (Elt Ideal) ℓ) (c : Dev Kernel4Ideal.nD) :
    Kernel4Ideal.Value.G15 m c = bvR (m (c.tc.loc Kernel4Ideal.main_arg0)) (m (c.tc.loc Kernel4Ideal.main_arg1)) (m (c.tc.loc Kernel4Ideal.main_arg2)) := by
  funext i
  rw [eq_ix3 i]
  exact (result_bv m c _ _ _).trans (bvR_at _ _ _ _ _ _).symm

theorem kernel_gl (m : (ℓ : Loc Kernel4Ideal.nD Kernel4Ideal.τ Kernel4Ideal.sig) → Buf (Elt Ideal) ℓ) (c : Dev Kernel4Ideal.nD) :
    Kernel4Ideal.Value.G16 m c = glR (m (c.tc.loc Kernel4Ideal.main_arg0)) (m (c.tc.loc Kernel4Ideal.main_arg1)) (m (c.tc.loc Kernel4Ideal.main_arg2)) (m (c.tc.loc Kernel4Ideal.main_arg3)) (m (c.tc.loc Kernel4Ideal.main_arg4)) := by
  funext i
  rw [eq_ix3 i]
  exact (result_gl m c _ _ _).trans (glR_at _ _ _ _ _ _ _ _).symm

theorem kernel_og (m : (ℓ : Loc Kernel4Ideal.nD Kernel4Ideal.τ Kernel4Ideal.sig) → Buf (Elt Ideal) ℓ) (c : Dev Kernel4Ideal.nD) :
    Kernel4Ideal.Value.G17 m c = ogR (m (c.tc.loc Kernel4Ideal.main_arg0)) (m (c.tc.loc Kernel4Ideal.main_arg1)) (m (c.tc.loc Kernel4Ideal.main_arg2)) := by
  funext i
  rw [eq_ix3 i]
  exact (result_og m c _ _ _).trans (ogR_at _ _ _ _ _ _).symm

end Cert.Front
-- ==== Proof.lean ====
/- The certificate: the frames of the programs, and the kernel's results against the references'. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Lru.Equal
public import proofs.«01_k».proof.Proof.Final.Equal
public import proofs.«01_k».proof.Proof.Mixed.Equal
public import proofs.«01_k».proof.Proof.Front.Whole
public import proofs.«01_k».proof.Proof.Front.Equal
public import Idealize.ShloMosaic.Lib.Quiescent

@[expose] public section

noncomputable section

namespace Cert.Proof

open Idealize.ShloMosaic Idealize.SL.Sem Cert.Kernel

/-- The recurrent block's reference leaves its arguments and its semaphores as they were. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- The recurrent block's kernel ends with the reference's result. -/
theorem lru : Cert.algebraic_KernelIdeal_ReferenceIdeal := fun m g m' g' _ h =>
  ⟨fun c => Cert.KernelIdeal.Value.G11 m c, Cert.KernelIdeal.Value.run m g,
    (θ_run _ _ _).mono (fun r e c => by
      obtain ⟨h0, h1, h2, h3, h4, h5, h6, h7, h8, h9, h10⟩ := h c
      refine ⟨((e c).1.trans (Cert.Lru.Ref.out_eq m' c)).trans (Cert.Lru.equal m m' c ?_ fun b => ?_), (e c).2⟩
      · unfold Cert.Lru.Ref.wts Cert.Lru.wts
        rw [h1, h2, h3, h4, h5, h6, h7, h8, h9, h10]
      · unfold Cert.Lru.Ref.seqOf Cert.Lru.seqOf
        rw [h0]) (Cert.ReferenceIdeal.Value.run m' g')⟩

/-- The final feed-forward call's reference leaves its arguments and its semaphores as they were. -/
theorem frame_reference2 : Cert.quiescent_Reference2Ideal := fun m g _ =>
  (θ_run _ _ _).mono (fun r h => ⟨fun c => (h c).2, sem_eq_zero_of_no_sems rfl r.2⟩) (Cert.Reference2Ideal.Value.run m g)

/-- The first feed-forward call's reference leaves its arguments and its semaphores as they were. -/
theorem frame_reference3 : Cert.quiescent_Reference3Ideal := fun m g _ =>
  (θ_run _ _ _).mono (fun r h => ⟨fun c => (h c).2, sem_eq_zero_of_no_sems rfl r.2⟩) (Cert.Reference3Ideal.Value.run m g)

/-- The feed-forward call with the final norm ends with the reference's result. -/
theorem final : Cert.algebraic_Kernel2Ideal_Reference2Ideal := fun m g m' g' _ h =>
  ⟨fun c => Cert.Kernel2Ideal.Value.G7 m c, Cert.Kernel2Ideal.Value.run m g,
    (θ_run _ _ _).mono (fun r e c => by
      obtain ⟨h0, h1, h2, h3, h4, h5, h6⟩ := h c
      refine ⟨((e c).1.trans (Cert.Final.ref_result m' c)).trans ?_, (e c).2⟩
      rw [h0, h1, h2, h3, h4, h5, h6]
      exact (Cert.Final.kernel_result m c).symm) (Cert.Reference2Ideal.Value.run m' g')⟩

/-- The feed-forward call with the output projection ends with the reference's result. -/
theorem mixed : Cert.algebraic_Kernel3Ideal_Reference3Ideal := fun m g m' g' _ h =>
  ⟨fun c => Cert.Kernel3Ideal.Value.G11 m c, Cert.Kernel3Ideal.Value.run m g,
    (θ_run _ _ _).mono (fun r e c => by
      obtain ⟨h0, h1, h2, h3, h4, _, h6, h7, h8, h9⟩ := h c
      refine ⟨((e c).1.trans (Cert.Mixed.ref_result m' c)).trans ?_, (e c).2⟩
      rw [h0, h1, h2, h3, h4, h6, h7, h8, h9]
      exact (Cert.Mixed.kernel_result m c).symm) (Cert.Reference3Ideal.Value.run m' g')⟩

/-- The input projection's reference leaves its arguments and its semaphores as they were. -/
theorem frame_reference4 : Cert.quiescent_Reference4Ideal := fun m g _ =>
  (θ_run _ _ _).mono (fun r h => ⟨fun c => (h c).2.2.2.2.2.2.2, sem_eq_zero_of_no_sems rfl r.2⟩) (Cert.Reference4Ideal.Value.run m g)

/-- The input projection's call ends with the reference's results. -/
theorem front : Cert.algebraic_Kernel4Ideal_Reference4Ideal := fun m g m' g' _ h =>
  ⟨fun c => Cert.Kernel4Ideal.Value.G9 m c,
    fun c => Cert.Kernel4Ideal.Value.G10 m c,
    fun c => Cert.Kernel4Ideal.Value.G13 m c,
    fun c => Cert.Kernel4Ideal.Value.G14 m c,
    fun c => Cert.Kernel4Ideal.Value.G15 m c,
    fun c => Cert.Kernel4Ideal.Value.G16 m c,
    fun c => Cert.Kernel4Ideal.Value.G17 m c,
    (θ_run _ _ _).mono (fun r e c => by
      obtain ⟨a9, a10, _, _, a13, a14, a15, a16, a17, kept⟩ := e c
      exact ⟨a9, a10, a13, a14, a15, a16, a17, kept⟩) (Cert.Kernel4Ideal.Value.run m g),
    (θ_run _ _ _).mono (fun r e c => by
      obtain ⟨h0, h1, h2, h3, h4⟩ := h c
      obtain ⟨q, k, bq, bk, bv, gl, og, kept⟩ := e c
      refine ⟨(q.trans (Cert.Front.ref_q m' c)).trans ?_, (k.trans (Cert.Front.ref_k m' c)).trans ?_, bq.trans ?_, bk.trans ?_, bv.trans ?_,
        (gl.trans (Cert.Front.ref_gl m' c)).trans ?_, og.trans ?_, kept⟩
      · refine Eq.trans ?_ (Cert.Front.kernel_q m c).symm
        rw [h0, h1, h2]
      · refine Eq.trans ?_ (Cert.Front.kernel_k m c).symm
        rw [h0, h1, h2]
      · refine Eq.trans ?_ (Cert.Front.kernel_bq m c).symm
        rw [h0, h1, h2]
        rfl
      · refine Eq.trans ?_ (Cert.Front.kernel_bk m c).symm
        rw [h0, h1, h2]
        rfl
      · refine Eq.trans ?_ (Cert.Front.kernel_bv m c).symm
        rw [h0, h1, h2]
        rfl
      · refine Eq.trans ?_ (Cert.Front.kernel_gl m c).symm
        rw [h0, h1, h2, h3, h4]
      · refine Eq.trans ?_ (Cert.Front.kernel_og m c).symm
        rw [h0, h1, h2]
        rfl) (Cert.Reference4Ideal.Value.run m' g')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, lru, trivial, final, trivial, mixed, trivial, front⟩

end Cert.Proof

end
